-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_

variable [Facts]

def fn {F : FTy → Type} [FloatOps F] (main_arg0 : FVec F S2x512x768 .f32) (main_arg1 : FVec F S768x512 .f32) (main_arg2 : FVec F S2x4096x8x64 .f32) (main_arg3 : FVec F S2x4096x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x4096x8x64 .f32 := Host.absf main_arg2
  let main_cst_2 : FVec F S_ .f32 := constant S_ .f32 0x7F800000#32
  let main_v10 : FVec F S2x4096x8x64 .f32 := broadcastInDim S2x4096x8x64 ![] bcast_S_S2x4096x8x64 main_cst_2
  let main_v11 : IVec S2x4096x8x64 1 := cmpf .olt main_v9 main_v10
  let main_c_3 : IVec S_ 1 := constantI S_ 1 1#1
  let main_v12 : IVec S_ 1 := (fun x v => Host.reduce IntOp.andi x v reducesTo_S2x4096x8x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S8x512x128 : Shape := ⟨3, ![8, 512, 128]⟩
abbrev S8x128x256 : Shape := ⟨3, ![8, 128, 256]⟩
abbrev S8x2 : Shape := ⟨2, ![8, 2]⟩
abbrev S3x8x2 : Shape := ⟨3, ![3, 8, 2]⟩
abbrev S8 : Shape := ⟨1, ![8]⟩
abbrev S_ : Shape := ⟨0, ![]⟩
abbrev S128x128 : Shape := ⟨2, ![128, 128]⟩
abbrev S1x128x768 : Shape := ⟨3, ![1, 128, 768]⟩
abbrev S128x768 : Shape := ⟨2, ![128, 768]⟩
abbrev S128x512 : Shape := ⟨2, ![128, 512]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S1x128x64 : Shape := ⟨3, ![1, 128, 64]⟩
abbrev S1x128x1 : Shape := ⟨3, ![1, 128, 1]⟩
abbrev S1 : Shape := ⟨1, ![1]⟩
abbrev S1x128x256 : Shape := ⟨3, ![1, 128, 256]⟩
abbrev S128x256 : Shape := ⟨2, ![128, 256]⟩
abbrev S256x384 : Shape := ⟨2, ![256, 384]⟩
abbrev S1x512x768 : Shape := ⟨3, ![1, 512, 768]⟩
abbrev S512x512 : Shape := ⟨2, ![512, 512]⟩
abbrev S1x512x8x64 : Shape := ⟨4, ![1, 512, 8, 64]⟩
abbrev S512x8x64 : Shape := ⟨3, ![512, 8, 64]⟩
abbrev S512x64 : Shape := ⟨2, ![512, 64]⟩
abbrev S256x64 : Shape := ⟨2, ![256, 64]⟩
abbrev S384x64 : Shape := ⟨2, ![384, 64]⟩
abbrev S256 : Shape := ⟨1, ![256]⟩
abbrev S256x1 : Shape := ⟨2, ![256, 1]⟩
abbrev S1x256x64 : Shape := ⟨3, ![1, 256, 64]⟩
abbrev S1x1x1 : Shape := ⟨3, ![1, 1, 1]⟩
abbrev S1x1 : Shape := ⟨2, ![1, 1]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩

abbrev nBuf : Space → Nat
  | .hbm => 6
  | .vmem => 8
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S8x512x128, .bf16⟩
  | .local _ .vmem, ⟨7, _⟩ => ⟨S8x128x256, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => true
  | ⟨1, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 2 86 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .eq v2 c0_i32
  let v5 : BitVec 32 := Scalar.extui v4
  let c0_i32_0 : BitVec 32 := 0#32
  let v6 : BitVec 1 := Scalar.cmpi .ne v5 c0_i32_0
  v6

def k0_dev1 : Nat :=
  let c0_i32_46 : BitVec 32 := 0#32
  let c1_i32_44 : BitVec 32 := 1#32
  let c1_i32_45 : BitVec 32 := 1#32
  let v79 : BitVec 32 := Scalar.muli c1_i32_44 c1_i32_45
  let v80 : BitVec 32 := Scalar.addi c0_i32_46 v79
  v80.toNat
def k0_dev2 : Nat :=
  let c0_i32_50 : BitVec 32 := 0#32
  let c3_i32_48 : BitVec 32 := 3#32
  let c1_i32_49 : BitVec 32 := 1#32
  let v81 : BitVec 32 := Scalar.muli c3_i32_48 c1_i32_49
  let v82 : BitVec 32 := Scalar.addi c0_i32_50 v81
  v82.toNat
def k0_dev3 : Nat :=
  let c0_i32_54 : BitVec 32 := 0#32
  let c4_i32_52 : BitVec 32 := 4#32
  let c1_i32_53 : BitVec 32 := 1#32
  let v83 : BitVec 32 := Scalar.muli c4_i32_52 c1_i32_53
  let v84 : BitVec 32 := Scalar.addi c0_i32_54 v83
  v84.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .eq v2 c1_i32_1
  let v8 : BitVec 32 := Scalar.extui v7
  let c0_i32_2 : BitVec 32 := 0#32
  let v9 : BitVec 1 := Scalar.cmpi .ne v8 c0_i32_2
  v9

def k0_dev4 : Nat :=
  let c0_i32_46 : BitVec 32 := 0#32
  let c0_i32_44 : BitVec 32 := 0#32
  let c1_i32_45 : BitVec 32 := 1#32
  let v79 : BitVec 32 := Scalar.muli c0_i32_44 c1_i32_45
  let v80 : BitVec 32 := Scalar.addi c0_i32_46 v79
  v80.toNat
def k0_dev5 : Nat :=
  let c0_i32_50 : BitVec 32 := 0#32
  let c2_i32_48 : BitVec 32 := 2#32
  let c1_i32_49 : BitVec 32 := 1#32
  let v81 : BitVec 32 := Scalar.muli c2_i32_48 c1_i32_49
  let v82 : BitVec 32 := Scalar.addi c0_i32_50 v81
  v82.toNat
def k0_dev6 : Nat :=
  let c0_i32_54 : BitVec 32 := 0#32
  let c5_i32_52 : BitVec 32 := 5#32
  let c1_i32_53 : BitVec 32 := 1#32
  let v83 : BitVec 32 := Scalar.muli c5_i32_52 c1_i32_53
  let v84 : BitVec 32 := Scalar.addi c0_i32_54 v83
  v84.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .eq v2 c2_i32
  let v11 : BitVec 32 := Scalar.extui v10
  let c0_i32_3 : BitVec 32 := 0#32
  let v12 : BitVec 1 := Scalar.cmpi .ne v11 c0_i32_3
  v12

def k0_dev7 : Nat :=
  let c0_i32_46 : BitVec 32 := 0#32
  let c1_i32_44 : BitVec 32 := 1#32
  let c1_i32_45 : BitVec 32 := 1#32
  let v79 : BitVec 32 := Scalar.muli c1_i32_44 c1_i32_45
  let v80 : BitVec 32 := Scalar.addi c0_i32_46 v79
  v80.toNat
def k0_dev8 : Nat :=
  let c0_i32_50 : BitVec 32 := 0#32
  let c6_i32_48 : BitVec 32 := 6#32
  let c1_i32_49 : BitVec 32 := 1#32
  let v81 : BitVec 32 := Scalar.muli c6_i32_48 c1_i32_49
  let v82 : BitVec 32 := Scalar.addi c0_i32_50 v81
  v82.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .eq v2 c3_i32
  let v14 : BitVec 32 := Scalar.extui v13
  let c0_i32_4 : BitVec 32 := 0#32
  let v15 : BitVec 1 := Scalar.cmpi .ne v14 c0_i32_4
  v15

def k0_dev9 : Nat :=
  let c0_i32_46 : BitVec 32 := 0#32
  let c0_i32_44 : BitVec 32 := 0#32
  let c1_i32_45 : BitVec 32 := 1#32
  let v79 : BitVec 32 := Scalar.muli c0_i32_44 c1_i32_45
  let v80 : BitVec 32 := Scalar.addi c0_i32_46 v79
  v80.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .eq v2 c4_i32
  let v17 : BitVec 32 := Scalar.extui v16
  let c0_i32_5 : BitVec 32 := 0#32
  let v18 : BitVec 1 := Scalar.cmpi .ne v17 c0_i32_5
  v18

def k0_dev10 : Nat :=
  let c0_i32_46 : BitVec 32 := 0#32
  let c0_i32_44 : BitVec 32 := 0#32
  let c1_i32_45 : BitVec 32 := 1#32
  let v79 : BitVec 32 := Scalar.muli c0_i32_44 c1_i32_45
  let v80 : BitVec 32 := Scalar.addi c0_i32_46 v79
  v80.toNat
def k0_dev11 : Nat :=
  let c0_i32_50 : BitVec 32 := 0#32
  let c7_i32_48 : BitVec 32 := 7#32
  let c1_i32_49 : BitVec 32 := 1#32
  let v81 : BitVec 32 := Scalar.muli c7_i32_48 c1_i32_49
  let v82 : BitVec 32 := Scalar.addi c0_i32_50 v81
  v82.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .eq v2 c5_i32
  let v20 : BitVec 32 := Scalar.extui v19
  let c0_i32_6 : BitVec 32 := 0#32
  let v21 : BitVec 1 := Scalar.cmpi .ne v20 c0_i32_6
  v21

def k0_dev12 : Nat :=
  let c0_i32_46 : BitVec 32 := 0#32
  let c1_i32_44 : BitVec 32 := 1#32
  let c1_i32_45 : BitVec 32 := 1#32
  let v79 : BitVec 32 := Scalar.muli c1_i32_44 c1_i32_45
  let v80 : BitVec 32 := Scalar.addi c0_i32_46 v79
  v80.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .eq v2 c6_i32
  let v23 : BitVec 32 := Scalar.extui v22
  let c0_i32_7 : BitVec 32 := 0#32
  let v24 : BitVec 1 := Scalar.cmpi .ne v23 c0_i32_7
  v24

def k0_dev13 : Nat :=
  let c0_i32_46 : BitVec 32 := 0#32
  let c2_i32_44 : BitVec 32 := 2#32
  let c1_i32_45 : BitVec 32 := 1#32
  let v79 : BitVec 32 := Scalar.muli c2_i32_44 c1_i32_45
  let v80 : BitVec 32 := Scalar.addi c0_i32_46 v79
  v80.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .eq v2 c7_i32
  let v26 : BitVec 32 := Scalar.extui v25
  let c0_i32_8 : BitVec 32 := 0#32
  let v27 : BitVec 1 := Scalar.cmpi .ne v26 c0_i32_8
  v27

def k0_dev14 : Nat :=
  let c0_i32_46 : BitVec 32 := 0#32
  let c4_i32_44 : BitVec 32 := 4#32
  let c1_i32_45 : BitVec 32 := 1#32
  let v79 : BitVec 32 := Scalar.muli c4_i32_44 c1_i32_45
  let v80 : BitVec 32 := Scalar.addi c0_i32_46 v79
  v80.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v28 : BitVec 1 := Scalar.cmpi .eq v2 c1_i32_9
  let v29 : BitVec 32 := Scalar.extui v28
  let c0_i32_10 : BitVec 32 := 0#32
  let v30 : BitVec 1 := Scalar.cmpi .ne v29 c0_i32_10
  v30

def k0_dev15 : Nat :=
  let c0_i32_86 : BitVec 32 := 0#32
  let c0_i32_84 : BitVec 32 := 0#32
  let c1_i32_85 : BitVec 32 := 1#32
  let v149 : BitVec 32 := Scalar.muli c0_i32_84 c1_i32_85
  let v150 : BitVec 32 := Scalar.addi c0_i32_86 v149
  v150.toNat
def k0_dev16 : Nat :=
  let c0_i32_131 : BitVec 32 := 0#32
  let c0_i32_129 : BitVec 32 := 0#32
  let c1_i32_130 : BitVec 32 := 1#32
  let v209 : BitVec 32 := Scalar.muli c0_i32_129 c1_i32_130
  let v210 : BitVec 32 := Scalar.addi c0_i32_131 v209
  v210.toNat
def k0_dev17 : Nat :=
  let c0_i32_176 : BitVec 32 := 0#32
  let c0_i32_174 : BitVec 32 := 0#32
  let c1_i32_175 : BitVec 32 := 1#32
  let v269 : BitVec 32 := Scalar.muli c0_i32_174 c1_i32_175
  let v270 : BitVec 32 := Scalar.addi c0_i32_176 v269
  v270.toNat
def k0_dev18 : Nat :=
  let c0_i32_221 : BitVec 32 := 0#32
  let c0_i32_219 : BitVec 32 := 0#32
  let c1_i32_220 : BitVec 32 := 1#32
  let v329 : BitVec 32 := Scalar.muli c0_i32_219 c1_i32_220
  let v330 : BitVec 32 := Scalar.addi c0_i32_221 v329
  v330.toNat
def k0_dev19 : Nat :=
  let c0_i32_272 : BitVec 32 := 0#32
  let c0_i32_270 : BitVec 32 := 0#32
  let c1_i32_271 : BitVec 32 := 1#32
  let v393 : BitVec 32 := Scalar.muli c0_i32_270 c1_i32_271
  let v394 : BitVec 32 := Scalar.addi c0_i32_272 v393
  v394.toNat
def k0_dev20 : Nat :=
  let c0_i32_319 : BitVec 32 := 0#32
  let c0_i32_317 : BitVec 32 := 0#32
  let c1_i32_318 : BitVec 32 := 1#32
  let v453 : BitVec 32 := Scalar.muli c0_i32_317 c1_i32_318
  let v454 : BitVec 32 := Scalar.addi c0_i32_319 v453
  v454.toNat
def k0_dev21 : Nat :=
  let c0_i32_366 : BitVec 32 := 0#32
  let c0_i32_364 : BitVec 32 := 0#32
  let c1_i32_365 : BitVec 32 := 1#32
  let v513 : BitVec 32 := Scalar.muli c0_i32_364 c1_i32_365
  let v514 : BitVec 32 := Scalar.addi c0_i32_366 v513
  v514.toNat
def k0_dev22 : Nat :=
  let c0_i32_413 : BitVec 32 := 0#32
  let c0_i32_411 : BitVec 32 := 0#32
  let c1_i32_412 : BitVec 32 := 1#32
  let v573 : BitVec 32 := Scalar.muli c0_i32_411 c1_i32_412
  let v574 : BitVec 32 := Scalar.addi c0_i32_413 v573
  v574.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_11 : BitVec 32 := 0#32
  let v31 : BitVec 1 := Scalar.cmpi .eq v2 c0_i32_11
  let v32 : BitVec 32 := Scalar.extui v31
  let c0_i32_12 : BitVec 32 := 0#32
  let v33 : BitVec 1 := Scalar.cmpi .ne v32 c0_i32_12
  v33

def k0_dev23 : Nat :=
  let c0_i32_130 : BitVec 32 := 0#32
  let c1_i32_128 : BitVec 32 := 1#32
  let c1_i32_129 : BitVec 32 := 1#32
  let v256 : BitVec 32 := Scalar.muli c1_i32_128 c1_i32_129
  let v257 : BitVec 32 := Scalar.addi c0_i32_130 v256
  v257.toNat
def k0_dev24 : Nat :=
  let c0_i32_144 : BitVec 32 := 0#32
  let c3_i32_142 : BitVec 32 := 3#32
  let c1_i32_143 : BitVec 32 := 1#32
  let v266 : BitVec 32 := Scalar.muli c3_i32_142 c1_i32_143
  let v267 : BitVec 32 := Scalar.addi c0_i32_144 v266
  v267.toNat
def k0_dev25 : Nat :=
  let c0_i32_158 : BitVec 32 := 0#32
  let c4_i32_156 : BitVec 32 := 4#32
  let c1_i32_157 : BitVec 32 := 1#32
  let v276 : BitVec 32 := Scalar.muli c4_i32_156 c1_i32_157
  let v277 : BitVec 32 := Scalar.addi c0_i32_158 v276
  v277.toNat
def k0_dev26 : Nat :=
  let c0_i32_172 : BitVec 32 := 0#32
  let c1_i32_170 : BitVec 32 := 1#32
  let c1_i32_171 : BitVec 32 := 1#32
  let v286 : BitVec 32 := Scalar.muli c1_i32_170 c1_i32_171
  let v287 : BitVec 32 := Scalar.addi c0_i32_172 v286
  v287.toNat
def k0_dev27 : Nat :=
  let c0_i32_186 : BitVec 32 := 0#32
  let c3_i32_184 : BitVec 32 := 3#32
  let c1_i32_185 : BitVec 32 := 1#32
  let v296 : BitVec 32 := Scalar.muli c3_i32_184 c1_i32_185
  let v297 : BitVec 32 := Scalar.addi c0_i32_186 v296
  v297.toNat
def k0_dev28 : Nat :=
  let c0_i32_200 : BitVec 32 := 0#32
  let c4_i32_198 : BitVec 32 := 4#32
  let c1_i32_199 : BitVec 32 := 1#32
  let v306 : BitVec 32 := Scalar.muli c4_i32_198 c1_i32_199
  let v307 : BitVec 32 := Scalar.addi c0_i32_200 v306
  v307.toNat
def k0_dev29 : Nat :=
  let c0_i32_276 : BitVec 32 := 0#32
  let c1_i32_274 : BitVec 32 := 1#32
  let c1_i32_275 : BitVec 32 := 1#32
  let v452 : BitVec 32 := Scalar.muli c1_i32_274 c1_i32_275
  let v453 : BitVec 32 := Scalar.addi c0_i32_276 v452
  v453.toNat
def k0_dev30 : Nat :=
  let c0_i32_290 : BitVec 32 := 0#32
  let c3_i32_288 : BitVec 32 := 3#32
  let c1_i32_289 : BitVec 32 := 1#32
  let v462 : BitVec 32 := Scalar.muli c3_i32_288 c1_i32_289
  let v463 : BitVec 32 := Scalar.addi c0_i32_290 v462
  v463.toNat
def k0_dev31 : Nat :=
  let c0_i32_304 : BitVec 32 := 0#32
  let c4_i32_302 : BitVec 32 := 4#32
  let c1_i32_303 : BitVec 32 := 1#32
  let v472 : BitVec 32 := Scalar.muli c4_i32_302 c1_i32_303
  let v473 : BitVec 32 := Scalar.addi c0_i32_304 v472
  v473.toNat
def k0_dev32 : Nat :=
  let c0_i32_318 : BitVec 32 := 0#32
  let c1_i32_316 : BitVec 32 := 1#32
  let c1_i32_317 : BitVec 32 := 1#32
  let v482 : BitVec 32 := Scalar.muli c1_i32_316 c1_i32_317
  let v483 : BitVec 32 := Scalar.addi c0_i32_318 v482
  v483.toNat
def k0_dev33 : Nat :=
  let c0_i32_332 : BitVec 32 := 0#32
  let c3_i32_330 : BitVec 32 := 3#32
  let c1_i32_331 : BitVec 32 := 1#32
  let v492 : BitVec 32 := Scalar.muli c3_i32_330 c1_i32_331
  let v493 : BitVec 32 := Scalar.addi c0_i32_332 v492
  v493.toNat
def k0_dev34 : Nat :=
  let c0_i32_346 : BitVec 32 := 0#32
  let c4_i32_344 : BitVec 32 := 4#32
  let c1_i32_345 : BitVec 32 := 1#32
  let v502 : BitVec 32 := Scalar.muli c4_i32_344 c1_i32_345
  let v503 : BitVec 32 := Scalar.addi c0_i32_346 v502
  v503.toNat
def k0_dev35 : Nat :=
  let c0_i32_422 : BitVec 32 := 0#32
  let c1_i32_420 : BitVec 32 := 1#32
  let c1_i32_421 : BitVec 32 := 1#32
  let v648 : BitVec 32 := Scalar.muli c1_i32_420 c1_i32_421
  let v649 : BitVec 32 := Scalar.addi c0_i32_422 v648
  v649.toNat
def k0_dev36 : Nat :=
  let c0_i32_436 : BitVec 32 := 0#32
  let c3_i32_434 : BitVec 32 := 3#32
  let c1_i32_435 : BitVec 32 := 1#32
  let v658 : BitVec 32 := Scalar.muli c3_i32_434 c1_i32_435
  let v659 : BitVec 32 := Scalar.addi c0_i32_436 v658
  v659.toNat
def k0_dev37 : Nat :=
  let c0_i32_450 : BitVec 32 := 0#32
  let c4_i32_448 : BitVec 32 := 4#32
  let c1_i32_449 : BitVec 32 := 1#32
  let v668 : BitVec 32 := Scalar.muli c4_i32_448 c1_i32_449
  let v669 : BitVec 32 := Scalar.addi c0_i32_450 v668
  v669.toNat
def k0_dev38 : Nat :=
  let c0_i32_464 : BitVec 32 := 0#32
  let c1_i32_462 : BitVec 32 := 1#32
  let c1_i32_463 : BitVec 32 := 1#32
  let v678 : BitVec 32 := Scalar.muli c1_i32_462 c1_i32_463
  let v679 : BitVec 32 := Scalar.addi c0_i32_464 v678
  v679.toNat
def k0_dev39 : Nat :=
  let c0_i32_478 : BitVec 32 := 0#32
  let c3_i32_476 : BitVec 32 := 3#32
  let c1_i32_477 : BitVec 32 := 1#32
  let v688 : BitVec 32 := Scalar.muli c3_i32_476 c1_i32_477
  let v689 : BitVec 32 := Scalar.addi c0_i32_478 v688
  v689.toNat
def k0_dev40 : Nat :=
  let c0_i32_492 : BitVec 32 := 0#32
  let c4_i32_490 : BitVec 32 := 4#32
  let c1_i32_491 : BitVec 32 := 1#32
  let v698 : BitVec 32 := Scalar.muli c4_i32_490 c1_i32_491
  let v699 : BitVec 32 := Scalar.addi c0_i32_492 v698
  v699.toNat
def k0_dev41 : Nat :=
  let c0_i32_568 : BitVec 32 := 0#32
  let c1_i32_566 : BitVec 32 := 1#32
  let c1_i32_567 : BitVec 32 := 1#32
  let v844 : BitVec 32 := Scalar.muli c1_i32_566 c1_i32_567
  let v845 : BitVec 32 := Scalar.addi c0_i32_568 v844
  v845.toNat
def k0_dev42 : Nat :=
  let c0_i32_582 : BitVec 32 := 0#32
  let c3_i32_580 : BitVec 32 := 3#32
  let c1_i32_581 : BitVec 32 := 1#32
  let v854 : BitVec 32 := Scalar.muli c3_i32_580 c1_i32_581
  let v855 : BitVec 32 := Scalar.addi c0_i32_582 v854
  v855.toNat
def k0_dev43 : Nat :=
  let c0_i32_596 : BitVec 32 := 0#32
  let c4_i32_594 : BitVec 32 := 4#32
  let c1_i32_595 : BitVec 32 := 1#32
  let v864 : BitVec 32 := Scalar.muli c4_i32_594 c1_i32_595
  let v865 : BitVec 32 := Scalar.addi c0_i32_596 v864
  v865.toNat
def k0_dev44 : Nat :=
  let c0_i32_610 : BitVec 32 := 0#32
  let c1_i32_608 : BitVec 32 := 1#32
  let c1_i32_609 : BitVec 32 := 1#32
  let v874 : BitVec 32 := Scalar.muli c1_i32_608 c1_i32_609
  let v875 : BitVec 32 := Scalar.addi c0_i32_610 v874
  v875.toNat
def k0_dev45 : Nat :=
  let c0_i32_624 : BitVec 32 := 0#32
  let c3_i32_622 : BitVec 32 := 3#32
  let c1_i32_623 : BitVec 32 := 1#32
  let v884 : BitVec 32 := Scalar.muli c3_i32_622 c1_i32_623
  let v885 : BitVec 32 := Scalar.addi c0_i32_624 v884
  v885.toNat
def k0_dev46 : Nat :=
  let c0_i32_638 : BitVec 32 := 0#32
  let c4_i32_636 : BitVec 32 := 4#32
  let c1_i32_637 : BitVec 32 := 1#32
  let v894 : BitVec 32 := Scalar.muli c4_i32_636 c1_i32_637
  let v895 : BitVec 32 := Scalar.addi c0_i32_638 v894
  v895.toNat
def k0_dev47 : Nat :=
  let c0_i32_726 : BitVec 32 := 0#32
  let c1_i32_724 : BitVec 32 := 1#32
  let c1_i32_725 : BitVec 32 := 1#32
  let v1052 : BitVec 32 := Scalar.muli c1_i32_724 c1_i32_725
  let v1053 : BitVec 32 := Scalar.addi c0_i32_726 v1052
  v1053.toNat
def k0_dev48 : Nat :=
  let c0_i32_740 : BitVec 32 := 0#32
  let c3_i32_738 : BitVec 32 := 3#32
  let c1_i32_739 : BitVec 32 := 1#32
  let v1062 : BitVec 32 := Scalar.muli c3_i32_738 c1_i32_739
  let v1063 : BitVec 32 := Scalar.addi c0_i32_740 v1062
  v1063.toNat
def k0_dev49 : Nat :=
  let c0_i32_754 : BitVec 32 := 0#32
  let c4_i32_752 : BitVec 32 := 4#32
  let c1_i32_753 : BitVec 32 := 1#32
  let v1072 : BitVec 32 := Scalar.muli c4_i32_752 c1_i32_753
  let v1073 : BitVec 32 := Scalar.addi c0_i32_754 v1072
  v1073.toNat
def k0_dev50 : Nat :=
  let c0_i32_768 : BitVec 32 := 0#32
  let c1_i32_766 : BitVec 32 := 1#32
  let c1_i32_767 : BitVec 32 := 1#32
  let v1082 : BitVec 32 := Scalar.muli c1_i32_766 c1_i32_767
  let v1083 : BitVec 32 := Scalar.addi c0_i32_768 v1082
  v1083.toNat
def k0_dev51 : Nat :=
  let c0_i32_782 : BitVec 32 := 0#32
  let c3_i32_780 : BitVec 32 := 3#32
  let c1_i32_781 : BitVec 32 := 1#32
  let v1092 : BitVec 32 := Scalar.muli c3_i32_780 c1_i32_781
  let v1093 : BitVec 32 := Scalar.addi c0_i32_782 v1092
  v1093.toNat
def k0_dev52 : Nat :=
  let c0_i32_796 : BitVec 32 := 0#32
  let c4_i32_794 : BitVec 32 := 4#32
  let c1_i32_795 : BitVec 32 := 1#32
  let v1102 : BitVec 32 := Scalar.muli c4_i32_794 c1_i32_795
  let v1103 : BitVec 32 := Scalar.addi c0_i32_796 v1102
  v1103.toNat
def k0_dev53 : Nat :=
  let c0_i32_872 : BitVec 32 := 0#32
  let c1_i32_870 : BitVec 32 := 1#32
  let c1_i32_871 : BitVec 32 := 1#32
  let v1248 : BitVec 32 := Scalar.muli c1_i32_870 c1_i32_871
  let v1249 : BitVec 32 := Scalar.addi c0_i32_872 v1248
  v1249.toNat
def k0_dev54 : Nat :=
  let c0_i32_886 : BitVec 32 := 0#32
  let c3_i32_884 : BitVec 32 := 3#32
  let c1_i32_885 : BitVec 32 := 1#32
  let v1258 : BitVec 32 := Scalar.muli c3_i32_884 c1_i32_885
  let v1259 : BitVec 32 := Scalar.addi c0_i32_886 v1258
  v1259.toNat
def k0_dev55 : Nat :=
  let c0_i32_900 : BitVec 32 := 0#32
  let c4_i32_898 : BitVec 32 := 4#32
  let c1_i32_899 : BitVec 32 := 1#32
  let v1268 : BitVec 32 := Scalar.muli c4_i32_898 c1_i32_899
  let v1269 : BitVec 32 := Scalar.addi c0_i32_900 v1268
  v1269.toNat
def k0_dev56 : Nat :=
  let c0_i32_914 : BitVec 32 := 0#32
  let c1_i32_912 : BitVec 32 := 1#32
  let c1_i32_913 : BitVec 32 := 1#32
  let v1278 : BitVec 32 := Scalar.muli c1_i32_912 c1_i32_913
  let v1279 : BitVec 32 := Scalar.addi c0_i32_914 v1278
  v1279.toNat
def k0_dev57 : Nat :=
  let c0_i32_928 : BitVec 32 := 0#32
  let c3_i32_926 : BitVec 32 := 3#32
  let c1_i32_927 : BitVec 32 := 1#32
  let v1288 : BitVec 32 := Scalar.muli c3_i32_926 c1_i32_927
  let v1289 : BitVec 32 := Scalar.addi c0_i32_928 v1288
  v1289.toNat
def k0_dev58 : Nat :=
  let c0_i32_942 : BitVec 32 := 0#32
  let c4_i32_940 : BitVec 32 := 4#32
  let c1_i32_941 : BitVec 32 := 1#32
  let v1298 : BitVec 32 := Scalar.muli c4_i32_940 c1_i32_941
  let v1299 : BitVec 32 := Scalar.addi c0_i32_942 v1298
  v1299.toNat
def k0_dev59 : Nat :=
  let c0_i32_1018 : BitVec 32 := 0#32
  let c1_i32_1016 : BitVec 32 := 1#32
  let c1_i32_1017 : BitVec 32 := 1#32
  let v1444 : BitVec 32 := Scalar.muli c1_i32_1016 c1_i32_1017
  let v1445 : BitVec 32 := Scalar.addi c0_i32_1018 v1444
  v1445.toNat
def k0_dev60 : Nat :=
  let c0_i32_1032 : BitVec 32 := 0#32
  let c3_i32_1030 : BitVec 32 := 3#32
  let c1_i32_1031 : BitVec 32 := 1#32
  let v1454 : BitVec 32 := Scalar.muli c3_i32_1030 c1_i32_1031
  let v1455 : BitVec 32 := Scalar.addi c0_i32_1032 v1454
  v1455.toNat
def k0_dev61 : Nat :=
  let c0_i32_1046 : BitVec 32 := 0#32
  let c4_i32_1044 : BitVec 32 := 4#32
  let c1_i32_1045 : BitVec 32 := 1#32
  let v1464 : BitVec 32 := Scalar.muli c4_i32_1044 c1_i32_1045
  let v1465 : BitVec 32 := Scalar.addi c0_i32_1046 v1464
  v1465.toNat
def k0_dev62 : Nat :=
  let c0_i32_1060 : BitVec 32 := 0#32
  let c1_i32_1058 : BitVec 32 := 1#32
  let c1_i32_1059 : BitVec 32 := 1#32
  let v1474 : BitVec 32 := Scalar.muli c1_i32_1058 c1_i32_1059
  let v1475 : BitVec 32 := Scalar.addi c0_i32_1060 v1474
  v1475.toNat
def k0_dev63 : Nat :=
  let c0_i32_1074 : BitVec 32 := 0#32
  let c3_i32_1072 : BitVec 32 := 3#32
  let c1_i32_1073 : BitVec 32 := 1#32
  let v1484 : BitVec 32 := Scalar.muli c3_i32_1072 c1_i32_1073
  let v1485 : BitVec 32 := Scalar.addi c0_i32_1074 v1484
  v1485.toNat
def k0_dev64 : Nat :=
  let c0_i32_1088 : BitVec 32 := 0#32
  let c4_i32_1086 : BitVec 32 := 4#32
  let c1_i32_1087 : BitVec 32 := 1#32
  let v1494 : BitVec 32 := Scalar.muli c4_i32_1086 c1_i32_1087
  let v1495 : BitVec 32 := Scalar.addi c0_i32_1088 v1494
  v1495.toNat
def k0_dev65 : Nat :=
  let c0_i32_1164 : BitVec 32 := 0#32
  let c1_i32_1162 : BitVec 32 := 1#32
  let c1_i32_1163 : BitVec 32 := 1#32
  let v1640 : BitVec 32 := Scalar.muli c1_i32_1162 c1_i32_1163
  let v1641 : BitVec 32 := Scalar.addi c0_i32_1164 v1640
  v1641.toNat
def k0_dev66 : Nat :=
  let c0_i32_1178 : BitVec 32 := 0#32
  let c3_i32_1176 : BitVec 32 := 3#32
  let c1_i32_1177 : BitVec 32 := 1#32
  let v1650 : BitVec 32 := Scalar.muli c3_i32_1176 c1_i32_1177
  let v1651 : BitVec 32 := Scalar.addi c0_i32_1178 v1650
  v1651.toNat
def k0_dev67 : Nat :=
  let c0_i32_1192 : BitVec 32 := 0#32
  let c4_i32_1190 : BitVec 32 := 4#32
  let c1_i32_1191 : BitVec 32 := 1#32
  let v1660 : BitVec 32 := Scalar.muli c4_i32_1190 c1_i32_1191
  let v1661 : BitVec 32 := Scalar.addi c0_i32_1192 v1660
  v1661.toNat
def k0_dev68 : Nat :=
  let c0_i32_1206 : BitVec 32 := 0#32
  let c1_i32_1204 : BitVec 32 := 1#32
  let c1_i32_1205 : BitVec 32 := 1#32
  let v1670 : BitVec 32 := Scalar.muli c1_i32_1204 c1_i32_1205
  let v1671 : BitVec 32 := Scalar.addi c0_i32_1206 v1670
  v1671.toNat
def k0_dev69 : Nat :=
  let c0_i32_1220 : BitVec 32 := 0#32
  let c3_i32_1218 : BitVec 32 := 3#32
  let c1_i32_1219 : BitVec 32 := 1#32
  let v1680 : BitVec 32 := Scalar.muli c3_i32_1218 c1_i32_1219
  let v1681 : BitVec 32 := Scalar.addi c0_i32_1220 v1680
  v1681.toNat
def k0_dev70 : Nat :=
  let c0_i32_1234 : BitVec 32 := 0#32
  let c4_i32_1232 : BitVec 32 := 4#32
  let c1_i32_1233 : BitVec 32 := 1#32
  let v1690 : BitVec 32 := Scalar.muli c4_i32_1232 c1_i32_1233
  let v1691 : BitVec 32 := Scalar.addi c0_i32_1234 v1690
  v1691.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v34 : BitVec 1 := Scalar.cmpi .eq v2 c1_i32_13
  let v35 : BitVec 32 := Scalar.extui v34
  let c0_i32_14 : BitVec 32 := 0#32
  let v36 : BitVec 1 := Scalar.cmpi .ne v35 c0_i32_14
  v36

def k0_dev71 : Nat :=
  let c0_i32_67 : BitVec 32 := 0#32
  let c2_i32_65 : BitVec 32 := 2#32
  let c1_i32_66 : BitVec 32 := 1#32
  let v90 : BitVec 32 := Scalar.muli c2_i32_65 c1_i32_66
  let v91 : BitVec 32 := Scalar.addi c0_i32_67 v90
  v91.toNat
def k0_dev72 : Nat :=
  let c0_i32_81 : BitVec 32 := 0#32
  let c5_i32_79 : BitVec 32 := 5#32
  let c1_i32_80 : BitVec 32 := 1#32
  let v100 : BitVec 32 := Scalar.muli c5_i32_79 c1_i32_80
  let v101 : BitVec 32 := Scalar.addi c0_i32_81 v100
  v101.toNat
def k0_dev73 : Nat :=
  let c0_i32_108 : BitVec 32 := 0#32
  let c2_i32_106 : BitVec 32 := 2#32
  let c1_i32_107 : BitVec 32 := 1#32
  let v118 : BitVec 32 := Scalar.muli c2_i32_106 c1_i32_107
  let v119 : BitVec 32 := Scalar.addi c0_i32_108 v118
  v119.toNat
def k0_dev74 : Nat :=
  let c0_i32_122 : BitVec 32 := 0#32
  let c5_i32_120 : BitVec 32 := 5#32
  let c1_i32_121 : BitVec 32 := 1#32
  let v128 : BitVec 32 := Scalar.muli c5_i32_120 c1_i32_121
  let v129 : BitVec 32 := Scalar.addi c0_i32_122 v128
  v129.toNat
def k0_dev75 : Nat :=
  let c0_i32_153 : BitVec 32 := 0#32
  let c2_i32_151 : BitVec 32 := 2#32
  let c1_i32_152 : BitVec 32 := 1#32
  let v150 : BitVec 32 := Scalar.muli c2_i32_151 c1_i32_152
  let v151 : BitVec 32 := Scalar.addi c0_i32_153 v150
  v151.toNat
def k0_dev76 : Nat :=
  let c0_i32_167 : BitVec 32 := 0#32
  let c5_i32_165 : BitVec 32 := 5#32
  let c1_i32_166 : BitVec 32 := 1#32
  let v160 : BitVec 32 := Scalar.muli c5_i32_165 c1_i32_166
  let v161 : BitVec 32 := Scalar.addi c0_i32_167 v160
  v161.toNat
def k0_dev77 : Nat :=
  let c0_i32_195 : BitVec 32 := 0#32
  let c2_i32_193 : BitVec 32 := 2#32
  let c1_i32_194 : BitVec 32 := 1#32
  let v178 : BitVec 32 := Scalar.muli c2_i32_193 c1_i32_194
  let v179 : BitVec 32 := Scalar.addi c0_i32_195 v178
  v179.toNat
def k0_dev78 : Nat :=
  let c0_i32_209 : BitVec 32 := 0#32
  let c5_i32_207 : BitVec 32 := 5#32
  let c1_i32_208 : BitVec 32 := 1#32
  let v188 : BitVec 32 := Scalar.muli c5_i32_207 c1_i32_208
  let v189 : BitVec 32 := Scalar.addi c0_i32_209 v188
  v189.toNat
def k0_dev79 : Nat :=
  let c0_i32_240 : BitVec 32 := 0#32
  let c2_i32_238 : BitVec 32 := 2#32
  let c1_i32_239 : BitVec 32 := 1#32
  let v211 : BitVec 32 := Scalar.muli c2_i32_238 c1_i32_239
  let v212 : BitVec 32 := Scalar.addi c0_i32_240 v211
  v212.toNat
def k0_dev80 : Nat :=
  let c0_i32_254 : BitVec 32 := 0#32
  let c5_i32_252 : BitVec 32 := 5#32
  let c1_i32_253 : BitVec 32 := 1#32
  let v221 : BitVec 32 := Scalar.muli c5_i32_252 c1_i32_253
  let v222 : BitVec 32 := Scalar.addi c0_i32_254 v221
  v222.toNat
def k0_dev81 : Nat :=
  let c0_i32_282 : BitVec 32 := 0#32
  let c2_i32_280 : BitVec 32 := 2#32
  let c1_i32_281 : BitVec 32 := 1#32
  let v239 : BitVec 32 := Scalar.muli c2_i32_280 c1_i32_281
  let v240 : BitVec 32 := Scalar.addi c0_i32_282 v239
  v240.toNat
def k0_dev82 : Nat :=
  let c0_i32_296 : BitVec 32 := 0#32
  let c5_i32_294 : BitVec 32 := 5#32
  let c1_i32_295 : BitVec 32 := 1#32
  let v249 : BitVec 32 := Scalar.muli c5_i32_294 c1_i32_295
  let v250 : BitVec 32 := Scalar.addi c0_i32_296 v249
  v250.toNat
def k0_dev83 : Nat :=
  let c0_i32_327 : BitVec 32 := 0#32
  let c2_i32_325 : BitVec 32 := 2#32
  let c1_i32_326 : BitVec 32 := 1#32
  let v272 : BitVec 32 := Scalar.muli c2_i32_325 c1_i32_326
  let v273 : BitVec 32 := Scalar.addi c0_i32_327 v272
  v273.toNat
def k0_dev84 : Nat :=
  let c0_i32_341 : BitVec 32 := 0#32
  let c5_i32_339 : BitVec 32 := 5#32
  let c1_i32_340 : BitVec 32 := 1#32
  let v282 : BitVec 32 := Scalar.muli c5_i32_339 c1_i32_340
  let v283 : BitVec 32 := Scalar.addi c0_i32_341 v282
  v283.toNat
def k0_dev85 : Nat :=
  let c0_i32_369 : BitVec 32 := 0#32
  let c2_i32_367 : BitVec 32 := 2#32
  let c1_i32_368 : BitVec 32 := 1#32
  let v300 : BitVec 32 := Scalar.muli c2_i32_367 c1_i32_368
  let v301 : BitVec 32 := Scalar.addi c0_i32_369 v300
  v301.toNat
def k0_dev86 : Nat :=
  let c0_i32_383 : BitVec 32 := 0#32
  let c5_i32_381 : BitVec 32 := 5#32
  let c1_i32_382 : BitVec 32 := 1#32
  let v310 : BitVec 32 := Scalar.muli c5_i32_381 c1_i32_382
  let v311 : BitVec 32 := Scalar.addi c0_i32_383 v310
  v311.toNat
def k0_dev87 : Nat :=
  let c0_i32_414 : BitVec 32 := 0#32
  let c2_i32_412 : BitVec 32 := 2#32
  let c1_i32_413 : BitVec 32 := 1#32
  let v333 : BitVec 32 := Scalar.muli c2_i32_412 c1_i32_413
  let v334 : BitVec 32 := Scalar.addi c0_i32_414 v333
  v334.toNat
def k0_dev88 : Nat :=
  let c0_i32_428 : BitVec 32 := 0#32
  let c5_i32_426 : BitVec 32 := 5#32
  let c1_i32_427 : BitVec 32 := 1#32
  let v343 : BitVec 32 := Scalar.muli c5_i32_426 c1_i32_427
  let v344 : BitVec 32 := Scalar.addi c0_i32_428 v343
  v344.toNat
def k0_dev89 : Nat :=
  let c0_i32_456 : BitVec 32 := 0#32
  let c2_i32_454 : BitVec 32 := 2#32
  let c1_i32_455 : BitVec 32 := 1#32
  let v361 : BitVec 32 := Scalar.muli c2_i32_454 c1_i32_455
  let v362 : BitVec 32 := Scalar.addi c0_i32_456 v361
  v362.toNat
def k0_dev90 : Nat :=
  let c0_i32_470 : BitVec 32 := 0#32
  let c5_i32_468 : BitVec 32 := 5#32
  let c1_i32_469 : BitVec 32 := 1#32
  let v371 : BitVec 32 := Scalar.muli c5_i32_468 c1_i32_469
  let v372 : BitVec 32 := Scalar.addi c0_i32_470 v371
  v372.toNat
def k0_dev91 : Nat :=
  let c0_i32_501 : BitVec 32 := 0#32
  let c2_i32_499 : BitVec 32 := 2#32
  let c1_i32_500 : BitVec 32 := 1#32
  let v393 : BitVec 32 := Scalar.muli c2_i32_499 c1_i32_500
  let v394 : BitVec 32 := Scalar.addi c0_i32_501 v393
  v394.toNat
def k0_dev92 : Nat :=
  let c0_i32_515 : BitVec 32 := 0#32
  let c5_i32_513 : BitVec 32 := 5#32
  let c1_i32_514 : BitVec 32 := 1#32
  let v403 : BitVec 32 := Scalar.muli c5_i32_513 c1_i32_514
  let v404 : BitVec 32 := Scalar.addi c0_i32_515 v403
  v404.toNat
def k0_dev93 : Nat :=
  let c0_i32_543 : BitVec 32 := 0#32
  let c2_i32_541 : BitVec 32 := 2#32
  let c1_i32_542 : BitVec 32 := 1#32
  let v421 : BitVec 32 := Scalar.muli c2_i32_541 c1_i32_542
  let v422 : BitVec 32 := Scalar.addi c0_i32_543 v421
  v422.toNat
def k0_dev94 : Nat :=
  let c0_i32_557 : BitVec 32 := 0#32
  let c5_i32_555 : BitVec 32 := 5#32
  let c1_i32_556 : BitVec 32 := 1#32
  let v431 : BitVec 32 := Scalar.muli c5_i32_555 c1_i32_556
  let v432 : BitVec 32 := Scalar.addi c0_i32_557 v431
  v432.toNat
def k0_dev95 : Nat :=
  let c0_i32_588 : BitVec 32 := 0#32
  let c2_i32_586 : BitVec 32 := 2#32
  let c1_i32_587 : BitVec 32 := 1#32
  let v454 : BitVec 32 := Scalar.muli c2_i32_586 c1_i32_587
  let v455 : BitVec 32 := Scalar.addi c0_i32_588 v454
  v455.toNat
def k0_dev96 : Nat :=
  let c0_i32_602 : BitVec 32 := 0#32
  let c5_i32_600 : BitVec 32 := 5#32
  let c1_i32_601 : BitVec 32 := 1#32
  let v464 : BitVec 32 := Scalar.muli c5_i32_600 c1_i32_601
  let v465 : BitVec 32 := Scalar.addi c0_i32_602 v464
  v465.toNat
def k0_dev97 : Nat :=
  let c0_i32_630 : BitVec 32 := 0#32
  let c2_i32_628 : BitVec 32 := 2#32
  let c1_i32_629 : BitVec 32 := 1#32
  let v482 : BitVec 32 := Scalar.muli c2_i32_628 c1_i32_629
  let v483 : BitVec 32 := Scalar.addi c0_i32_630 v482
  v483.toNat
def k0_dev98 : Nat :=
  let c0_i32_644 : BitVec 32 := 0#32
  let c5_i32_642 : BitVec 32 := 5#32
  let c1_i32_643 : BitVec 32 := 1#32
  let v492 : BitVec 32 := Scalar.muli c5_i32_642 c1_i32_643
  let v493 : BitVec 32 := Scalar.addi c0_i32_644 v492
  v493.toNat
def k0_dev99 : Nat :=
  let c0_i32_675 : BitVec 32 := 0#32
  let c2_i32_673 : BitVec 32 := 2#32
  let c1_i32_674 : BitVec 32 := 1#32
  let v515 : BitVec 32 := Scalar.muli c2_i32_673 c1_i32_674
  let v516 : BitVec 32 := Scalar.addi c0_i32_675 v515
  v516.toNat
def k0_dev100 : Nat :=
  let c0_i32_689 : BitVec 32 := 0#32
  let c5_i32_687 : BitVec 32 := 5#32
  let c1_i32_688 : BitVec 32 := 1#32
  let v525 : BitVec 32 := Scalar.muli c5_i32_687 c1_i32_688
  let v526 : BitVec 32 := Scalar.addi c0_i32_689 v525
  v526.toNat
def k0_dev101 : Nat :=
  let c0_i32_717 : BitVec 32 := 0#32
  let c2_i32_715 : BitVec 32 := 2#32
  let c1_i32_716 : BitVec 32 := 1#32
  let v543 : BitVec 32 := Scalar.muli c2_i32_715 c1_i32_716
  let v544 : BitVec 32 := Scalar.addi c0_i32_717 v543
  v544.toNat
def k0_dev102 : Nat :=
  let c0_i32_731 : BitVec 32 := 0#32
  let c5_i32_729 : BitVec 32 := 5#32
  let c1_i32_730 : BitVec 32 := 1#32
  let v553 : BitVec 32 := Scalar.muli c5_i32_729 c1_i32_730
  let v554 : BitVec 32 := Scalar.addi c0_i32_731 v553
  v554.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_15 : BitVec 32 := 2#32
  let v37 : BitVec 1 := Scalar.cmpi .eq v2 c2_i32_15
  let v38 : BitVec 32 := Scalar.extui v37
  let c0_i32_16 : BitVec 32 := 0#32
  let v39 : BitVec 1 := Scalar.cmpi .ne v38 c0_i32_16
  v39

def k0_dev103 : Nat :=
  let c0_i32_67 : BitVec 32 := 0#32
  let c6_i32_65 : BitVec 32 := 6#32
  let c1_i32_66 : BitVec 32 := 1#32
  let v90 : BitVec 32 := Scalar.muli c6_i32_65 c1_i32_66
  let v91 : BitVec 32 := Scalar.addi c0_i32_67 v90
  v91.toNat
def k0_dev104 : Nat :=
  let c0_i32_94 : BitVec 32 := 0#32
  let c6_i32_92 : BitVec 32 := 6#32
  let c1_i32_93 : BitVec 32 := 1#32
  let v108 : BitVec 32 := Scalar.muli c6_i32_92 c1_i32_93
  let v109 : BitVec 32 := Scalar.addi c0_i32_94 v108
  v109.toNat
def k0_dev105 : Nat :=
  let c0_i32_125 : BitVec 32 := 0#32
  let c6_i32_123 : BitVec 32 := 6#32
  let c1_i32_124 : BitVec 32 := 1#32
  let v130 : BitVec 32 := Scalar.muli c6_i32_123 c1_i32_124
  let v131 : BitVec 32 := Scalar.addi c0_i32_125 v130
  v131.toNat
def k0_dev106 : Nat :=
  let c0_i32_153 : BitVec 32 := 0#32
  let c6_i32_151 : BitVec 32 := 6#32
  let c1_i32_152 : BitVec 32 := 1#32
  let v148 : BitVec 32 := Scalar.muli c6_i32_151 c1_i32_152
  let v149 : BitVec 32 := Scalar.addi c0_i32_153 v148
  v149.toNat
def k0_dev107 : Nat :=
  let c0_i32_184 : BitVec 32 := 0#32
  let c6_i32_182 : BitVec 32 := 6#32
  let c1_i32_183 : BitVec 32 := 1#32
  let v171 : BitVec 32 := Scalar.muli c6_i32_182 c1_i32_183
  let v172 : BitVec 32 := Scalar.addi c0_i32_184 v171
  v172.toNat
def k0_dev108 : Nat :=
  let c0_i32_212 : BitVec 32 := 0#32
  let c6_i32_210 : BitVec 32 := 6#32
  let c1_i32_211 : BitVec 32 := 1#32
  let v189 : BitVec 32 := Scalar.muli c6_i32_210 c1_i32_211
  let v190 : BitVec 32 := Scalar.addi c0_i32_212 v189
  v190.toNat
def k0_dev109 : Nat :=
  let c0_i32_243 : BitVec 32 := 0#32
  let c6_i32_241 : BitVec 32 := 6#32
  let c1_i32_242 : BitVec 32 := 1#32
  let v212 : BitVec 32 := Scalar.muli c6_i32_241 c1_i32_242
  let v213 : BitVec 32 := Scalar.addi c0_i32_243 v212
  v213.toNat
def k0_dev110 : Nat :=
  let c0_i32_271 : BitVec 32 := 0#32
  let c6_i32_269 : BitVec 32 := 6#32
  let c1_i32_270 : BitVec 32 := 1#32
  let v230 : BitVec 32 := Scalar.muli c6_i32_269 c1_i32_270
  let v231 : BitVec 32 := Scalar.addi c0_i32_271 v230
  v231.toNat
def k0_dev111 : Nat :=
  let c0_i32_302 : BitVec 32 := 0#32
  let c6_i32_300 : BitVec 32 := 6#32
  let c1_i32_301 : BitVec 32 := 1#32
  let v253 : BitVec 32 := Scalar.muli c6_i32_300 c1_i32_301
  let v254 : BitVec 32 := Scalar.addi c0_i32_302 v253
  v254.toNat
def k0_dev112 : Nat :=
  let c0_i32_330 : BitVec 32 := 0#32
  let c6_i32_328 : BitVec 32 := 6#32
  let c1_i32_329 : BitVec 32 := 1#32
  let v271 : BitVec 32 := Scalar.muli c6_i32_328 c1_i32_329
  let v272 : BitVec 32 := Scalar.addi c0_i32_330 v271
  v272.toNat
def k0_dev113 : Nat :=
  let c0_i32_361 : BitVec 32 := 0#32
  let c6_i32_359 : BitVec 32 := 6#32
  let c1_i32_360 : BitVec 32 := 1#32
  let v293 : BitVec 32 := Scalar.muli c6_i32_359 c1_i32_360
  let v294 : BitVec 32 := Scalar.addi c0_i32_361 v293
  v294.toNat
def k0_dev114 : Nat :=
  let c0_i32_389 : BitVec 32 := 0#32
  let c6_i32_387 : BitVec 32 := 6#32
  let c1_i32_388 : BitVec 32 := 1#32
  let v311 : BitVec 32 := Scalar.muli c6_i32_387 c1_i32_388
  let v312 : BitVec 32 := Scalar.addi c0_i32_389 v311
  v312.toNat
def k0_dev115 : Nat :=
  let c0_i32_420 : BitVec 32 := 0#32
  let c6_i32_418 : BitVec 32 := 6#32
  let c1_i32_419 : BitVec 32 := 1#32
  let v334 : BitVec 32 := Scalar.muli c6_i32_418 c1_i32_419
  let v335 : BitVec 32 := Scalar.addi c0_i32_420 v334
  v335.toNat
def k0_dev116 : Nat :=
  let c0_i32_448 : BitVec 32 := 0#32
  let c6_i32_446 : BitVec 32 := 6#32
  let c1_i32_447 : BitVec 32 := 1#32
  let v352 : BitVec 32 := Scalar.muli c6_i32_446 c1_i32_447
  let v353 : BitVec 32 := Scalar.addi c0_i32_448 v352
  v353.toNat
def k0_dev117 : Nat :=
  let c0_i32_479 : BitVec 32 := 0#32
  let c6_i32_477 : BitVec 32 := 6#32
  let c1_i32_478 : BitVec 32 := 1#32
  let v375 : BitVec 32 := Scalar.muli c6_i32_477 c1_i32_478
  let v376 : BitVec 32 := Scalar.addi c0_i32_479 v375
  v376.toNat
def k0_dev118 : Nat :=
  let c0_i32_507 : BitVec 32 := 0#32
  let c6_i32_505 : BitVec 32 := 6#32
  let c1_i32_506 : BitVec 32 := 1#32
  let v393 : BitVec 32 := Scalar.muli c6_i32_505 c1_i32_506
  let v394 : BitVec 32 := Scalar.addi c0_i32_507 v393
  v394.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v43 : BitVec 1 := Scalar.cmpi .eq v2 c4_i32_19
  let v44 : BitVec 32 := Scalar.extui v43
  let c0_i32_20 : BitVec 32 := 0#32
  let v45 : BitVec 1 := Scalar.cmpi .ne v44 c0_i32_20
  v45

def k0_dev119 : Nat :=
  let c0_i32_67 : BitVec 32 := 0#32
  let c7_i32_65 : BitVec 32 := 7#32
  let c1_i32_66 : BitVec 32 := 1#32
  let v90 : BitVec 32 := Scalar.muli c7_i32_65 c1_i32_66
  let v91 : BitVec 32 := Scalar.addi c0_i32_67 v90
  v91.toNat
def k0_dev120 : Nat :=
  let c0_i32_94 : BitVec 32 := 0#32
  let c7_i32_92 : BitVec 32 := 7#32
  let c1_i32_93 : BitVec 32 := 1#32
  let v108 : BitVec 32 := Scalar.muli c7_i32_92 c1_i32_93
  let v109 : BitVec 32 := Scalar.addi c0_i32_94 v108
  v109.toNat
def k0_dev121 : Nat :=
  let c0_i32_125 : BitVec 32 := 0#32
  let c7_i32_123 : BitVec 32 := 7#32
  let c1_i32_124 : BitVec 32 := 1#32
  let v130 : BitVec 32 := Scalar.muli c7_i32_123 c1_i32_124
  let v131 : BitVec 32 := Scalar.addi c0_i32_125 v130
  v131.toNat
def k0_dev122 : Nat :=
  let c0_i32_153 : BitVec 32 := 0#32
  let c7_i32_151 : BitVec 32 := 7#32
  let c1_i32_152 : BitVec 32 := 1#32
  let v148 : BitVec 32 := Scalar.muli c7_i32_151 c1_i32_152
  let v149 : BitVec 32 := Scalar.addi c0_i32_153 v148
  v149.toNat
def k0_dev123 : Nat :=
  let c0_i32_184 : BitVec 32 := 0#32
  let c7_i32_182 : BitVec 32 := 7#32
  let c1_i32_183 : BitVec 32 := 1#32
  let v171 : BitVec 32 := Scalar.muli c7_i32_182 c1_i32_183
  let v172 : BitVec 32 := Scalar.addi c0_i32_184 v171
  v172.toNat
def k0_dev124 : Nat :=
  let c0_i32_212 : BitVec 32 := 0#32
  let c7_i32_210 : BitVec 32 := 7#32
  let c1_i32_211 : BitVec 32 := 1#32
  let v189 : BitVec 32 := Scalar.muli c7_i32_210 c1_i32_211
  let v190 : BitVec 32 := Scalar.addi c0_i32_212 v189
  v190.toNat
def k0_dev125 : Nat :=
  let c0_i32_243 : BitVec 32 := 0#32
  let c7_i32_241 : BitVec 32 := 7#32
  let c1_i32_242 : BitVec 32 := 1#32
  let v212 : BitVec 32 := Scalar.muli c7_i32_241 c1_i32_242
  let v213 : BitVec 32 := Scalar.addi c0_i32_243 v212
  v213.toNat
def k0_dev126 : Nat :=
  let c0_i32_271 : BitVec 32 := 0#32
  let c7_i32_269 : BitVec 32 := 7#32
  let c1_i32_270 : BitVec 32 := 1#32
  let v230 : BitVec 32 := Scalar.muli c7_i32_269 c1_i32_270
  let v231 : BitVec 32 := Scalar.addi c0_i32_271 v230
  v231.toNat
def k0_dev127 : Nat :=
  let c0_i32_302 : BitVec 32 := 0#32
  let c7_i32_300 : BitVec 32 := 7#32
  let c1_i32_301 : BitVec 32 := 1#32
  let v253 : BitVec 32 := Scalar.muli c7_i32_300 c1_i32_301
  let v254 : BitVec 32 := Scalar.addi c0_i32_302 v253
  v254.toNat
def k0_dev128 : Nat :=
  let c0_i32_330 : BitVec 32 := 0#32
  let c7_i32_328 : BitVec 32 := 7#32
  let c1_i32_329 : BitVec 32 := 1#32
  let v271 : BitVec 32 := Scalar.muli c7_i32_328 c1_i32_329
  let v272 : BitVec 32 := Scalar.addi c0_i32_330 v271
  v272.toNat
def k0_dev129 : Nat :=
  let c0_i32_361 : BitVec 32 := 0#32
  let c7_i32_359 : BitVec 32 := 7#32
  let c1_i32_360 : BitVec 32 := 1#32
  let v293 : BitVec 32 := Scalar.muli c7_i32_359 c1_i32_360
  let v294 : BitVec 32 := Scalar.addi c0_i32_361 v293
  v294.toNat
def k0_dev130 : Nat :=
  let c0_i32_389 : BitVec 32 := 0#32
  let c7_i32_387 : BitVec 32 := 7#32
  let c1_i32_388 : BitVec 32 := 1#32
  let v311 : BitVec 32 := Scalar.muli c7_i32_387 c1_i32_388
  let v312 : BitVec 32 := Scalar.addi c0_i32_389 v311
  v312.toNat
def k0_dev131 : Nat :=
  let c0_i32_420 : BitVec 32 := 0#32
  let c7_i32_418 : BitVec 32 := 7#32
  let c1_i32_419 : BitVec 32 := 1#32
  let v334 : BitVec 32 := Scalar.muli c7_i32_418 c1_i32_419
  let v335 : BitVec 32 := Scalar.addi c0_i32_420 v334
  v335.toNat
def k0_dev132 : Nat :=
  let c0_i32_448 : BitVec 32 := 0#32
  let c7_i32_446 : BitVec 32 := 7#32
  let c1_i32_447 : BitVec 32 := 1#32
  let v352 : BitVec 32 := Scalar.muli c7_i32_446 c1_i32_447
  let v353 : BitVec 32 := Scalar.addi c0_i32_448 v352
  v353.toNat
def k0_dev133 : Nat :=
  let c0_i32_479 : BitVec 32 := 0#32
  let c7_i32_477 : BitVec 32 := 7#32
  let c1_i32_478 : BitVec 32 := 1#32
  let v375 : BitVec 32 := Scalar.muli c7_i32_477 c1_i32_478
  let v376 : BitVec 32 := Scalar.addi c0_i32_479 v375
  v376.toNat
def k0_dev134 : Nat :=
  let c0_i32_507 : BitVec 32 := 0#32
  let c7_i32_505 : BitVec 32 := 7#32
  let c1_i32_506 : BitVec 32 := 1#32
  let v393 : BitVec 32 := Scalar.muli c7_i32_505 c1_i32_506
  let v394 : BitVec 32 := Scalar.addi c0_i32_507 v393
  v394.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_27 : BitVec 32 := 0#32
  let v55 : BitVec 1 := Scalar.cmpi .eq v2 c0_i32_27
  let v56 : BitVec 32 := Scalar.extui v55
  let c0_i32_28 : BitVec 32 := 0#32
  let v57 : BitVec 1 := Scalar.cmpi .ne v56 c0_i32_28
  v57

def k0_dev135 : Nat :=
  let c0_i32_46 : BitVec 32 := 0#32
  let c1_i32_44 : BitVec 32 := 1#32
  let c1_i32_45 : BitVec 32 := 1#32
  let v79 : BitVec 32 := Scalar.muli c1_i32_44 c1_i32_45
  let v80 : BitVec 32 := Scalar.addi c0_i32_46 v79
  v80.toNat
def k0_dev136 : Nat :=
  let c0_i32_50 : BitVec 32 := 0#32
  let c3_i32_48 : BitVec 32 := 3#32
  let c1_i32_49 : BitVec 32 := 1#32
  let v81 : BitVec 32 := Scalar.muli c3_i32_48 c1_i32_49
  let v82 : BitVec 32 := Scalar.addi c0_i32_50 v81
  v82.toNat
def k0_dev137 : Nat :=
  let c0_i32_54 : BitVec 32 := 0#32
  let c4_i32_52 : BitVec 32 := 4#32
  let c1_i32_53 : BitVec 32 := 1#32
  let v83 : BitVec 32 := Scalar.muli c4_i32_52 c1_i32_53
  let v84 : BitVec 32 := Scalar.addi c0_i32_54 v83
  v84.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v58 : BitVec 1 := Scalar.cmpi .eq v2 c1_i32_29
  let v59 : BitVec 32 := Scalar.extui v58
  let c0_i32_30 : BitVec 32 := 0#32
  let v60 : BitVec 1 := Scalar.cmpi .ne v59 c0_i32_30
  v60

def k0_dev138 : Nat :=
  let c0_i32_46 : BitVec 32 := 0#32
  let c0_i32_44 : BitVec 32 := 0#32
  let c1_i32_45 : BitVec 32 := 1#32
  let v79 : BitVec 32 := Scalar.muli c0_i32_44 c1_i32_45
  let v80 : BitVec 32 := Scalar.addi c0_i32_46 v79
  v80.toNat
def k0_dev139 : Nat :=
  let c0_i32_50 : BitVec 32 := 0#32
  let c2_i32_48 : BitVec 32 := 2#32
  let c1_i32_49 : BitVec 32 := 1#32
  let v81 : BitVec 32 := Scalar.muli c2_i32_48 c1_i32_49
  let v82 : BitVec 32 := Scalar.addi c0_i32_50 v81
  v82.toNat
def k0_dev140 : Nat :=
  let c0_i32_54 : BitVec 32 := 0#32
  let c5_i32_52 : BitVec 32 := 5#32
  let c1_i32_53 : BitVec 32 := 1#32
  let v83 : BitVec 32 := Scalar.muli c5_i32_52 c1_i32_53
  let v84 : BitVec 32 := Scalar.addi c0_i32_54 v83
  v84.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_31 : BitVec 32 := 2#32
  let v61 : BitVec 1 := Scalar.cmpi .eq v2 c2_i32_31
  let v62 : BitVec 32 := Scalar.extui v61
  let c0_i32_32 : BitVec 32 := 0#32
  let v63 : BitVec 1 := Scalar.cmpi .ne v62 c0_i32_32
  v63

def k0_dev141 : Nat :=
  let c0_i32_46 : BitVec 32 := 0#32
  let c1_i32_44 : BitVec 32 := 1#32
  let c1_i32_45 : BitVec 32 := 1#32
  let v79 : BitVec 32 := Scalar.muli c1_i32_44 c1_i32_45
  let v80 : BitVec 32 := Scalar.addi c0_i32_46 v79
  v80.toNat
def k0_dev142 : Nat :=
  let c0_i32_50 : BitVec 32 := 0#32
  let c6_i32_48 : BitVec 32 := 6#32
  let c1_i32_49 : BitVec 32 := 1#32
  let v81 : BitVec 32 := Scalar.muli c6_i32_48 c1_i32_49
  let v82 : BitVec 32 := Scalar.addi c0_i32_50 v81
  v82.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_33 : BitVec 32 := 3#32
  let v64 : BitVec 1 := Scalar.cmpi .eq v2 c3_i32_33
  let v65 : BitVec 32 := Scalar.extui v64
  let c0_i32_34 : BitVec 32 := 0#32
  let v66 : BitVec 1 := Scalar.cmpi .ne v65 c0_i32_34
  v66

def k0_dev143 : Nat :=
  let c0_i32_46 : BitVec 32 := 0#32
  let c0_i32_44 : BitVec 32 := 0#32
  let c1_i32_45 : BitVec 32 := 1#32
  let v79 : BitVec 32 := Scalar.muli c0_i32_44 c1_i32_45
  let v80 : BitVec 32 := Scalar.addi c0_i32_46 v79
  v80.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_35 : BitVec 32 := 4#32
  let v67 : BitVec 1 := Scalar.cmpi .eq v2 c4_i32_35
  let v68 : BitVec 32 := Scalar.extui v67
  let c0_i32_36 : BitVec 32 := 0#32
  let v69 : BitVec 1 := Scalar.cmpi .ne v68 c0_i32_36
  v69

def k0_dev144 : Nat :=
  let c0_i32_46 : BitVec 32 := 0#32
  let c0_i32_44 : BitVec 32 := 0#32
  let c1_i32_45 : BitVec 32 := 1#32
  let v79 : BitVec 32 := Scalar.muli c0_i32_44 c1_i32_45
  let v80 : BitVec 32 := Scalar.addi c0_i32_46 v79
  v80.toNat
def k0_dev145 : Nat :=
  let c0_i32_50 : BitVec 32 := 0#32
  let c7_i32_48 : BitVec 32 := 7#32
  let c1_i32_49 : BitVec 32 := 1#32
  let v81 : BitVec 32 := Scalar.muli c7_i32_48 c1_i32_49
  let v82 : BitVec 32 := Scalar.addi c0_i32_50 v81
  v82.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_37 : BitVec 32 := 5#32
  let v70 : BitVec 1 := Scalar.cmpi .eq v2 c5_i32_37
  let v71 : BitVec 32 := Scalar.extui v70
  let c0_i32_38 : BitVec 32 := 0#32
  let v72 : BitVec 1 := Scalar.cmpi .ne v71 c0_i32_38
  v72

def k0_dev146 : Nat :=
  let c0_i32_46 : BitVec 32 := 0#32
  let c1_i32_44 : BitVec 32 := 1#32
  let c1_i32_45 : BitVec 32 := 1#32
  let v79 : BitVec 32 := Scalar.muli c1_i32_44 c1_i32_45
  let v80 : BitVec 32 := Scalar.addi c0_i32_46 v79
  v80.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_39 : BitVec 32 := 6#32
  let v73 : BitVec 1 := Scalar.cmpi .eq v2 c6_i32_39
  let v74 : BitVec 32 := Scalar.extui v73
  let c0_i32_40 : BitVec 32 := 0#32
  let v75 : BitVec 1 := Scalar.cmpi .ne v74 c0_i32_40
  v75

def k0_dev147 : Nat :=
  let c0_i32_46 : BitVec 32 := 0#32
  let c2_i32_44 : BitVec 32 := 2#32
  let c1_i32_45 : BitVec 32 := 1#32
  let v79 : BitVec 32 := Scalar.muli c2_i32_44 c1_i32_45
  let v80 : BitVec 32 := Scalar.addi c0_i32_46 v79
  v80.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_41 : BitVec 32 := 7#32
  let v76 : BitVec 1 := Scalar.cmpi .eq v2 c7_i32_41
  let v77 : BitVec 32 := Scalar.extui v76
  let c0_i32_42 : BitVec 32 := 0#32
  let v78 : BitVec 1 := Scalar.cmpi .ne v77 c0_i32_42
  v78

def k0_dev148 : Nat :=
  let c0_i32_46 : BitVec 32 := 0#32
  let c4_i32_44 : BitVec 32 := 4#32
  let c1_i32_45 : BitVec 32 := 1#32
  let v79 : BitVec 32 := Scalar.muli c4_i32_44 c1_i32_45
  let v80 : BitVec 32 := Scalar.addi c0_i32_46 v79
  v80.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S_ : Shape := ⟨0, ![]⟩
abbrev S2x8x512x4096 : Shape := ⟨4, ![2, 8, 512, 4096]⟩
abbrev S1x1x512x4096 : Shape := ⟨4, ![1, 1, 512, 4096]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 57
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x4096x8x64, .f32⟩
  | .hbm, ⟨3, _⟩ => ⟨S2x4096x8x64, .f32⟩
  | .hbm, ⟨4, _⟩ => ⟨S512x768, .f32⟩
  | .hbm, ⟨5, _⟩ => ⟨S2x512x512, .f32⟩
  | .hbm, ⟨6, _⟩ => ⟨S2x512x8x64, .f32⟩
  | .hbm, ⟨7, _⟩ => ⟨S512, .i32⟩
  | .hbm, ⟨8, _⟩ => ⟨S512x1, .i32⟩
  | .hbm, ⟨9, _⟩ => ⟨S4096, .i32⟩
  | .hbm, ⟨10, _⟩ => ⟨S1x4096, .i32⟩
  | .hbm, ⟨11, _⟩ => ⟨S512x4096, .i32⟩
  | .hbm, ⟨12, _⟩ => ⟨S512x4096, .i32⟩
  | .hbm, ⟨13, _⟩ => ⟨S512x4096, .i32⟩
  | .hbm, ⟨14, _⟩ => ⟨S512x4096, .i32⟩
  | .hbm, ⟨15, _⟩ => ⟨S_, .i32⟩
  | .hbm, ⟨16, _⟩ => ⟨S512x4096, .i32⟩
  | .hbm, ⟨17, _⟩ => ⟨S512x4096, .i1⟩
  | .hbm, ⟨18, _⟩ => ⟨S2x8x512x4096, .f32⟩
  | .hbm, ⟨19, _⟩ => ⟨S_, .f32⟩
  | .hbm, ⟨20, _⟩ => ⟨S2x8x512x4096, .f32⟩
  | .hbm, ⟨21, _⟩ => ⟨S2x8x512x4096, .f32⟩
  | .hbm, ⟨22, _⟩ => ⟨S1x1x512x4096, .i1⟩
  | .hbm, ⟨23, _⟩ => ⟨S_, .f32⟩
  | .hbm, ⟨24, _⟩ => ⟨S_, .f32⟩
  | .hbm, ⟨25, _⟩ => ⟨S2x8x512x4096, .i1⟩
  | .hbm, ⟨26, _⟩ => ⟨S2x8x512x4096, .f32⟩
  | .hbm, ⟨27, _⟩ => ⟨S2x8x512x4096, .f32⟩
  | .hbm, ⟨28, _⟩ => ⟨S_, .f32⟩
  | .hbm, ⟨29, _⟩ => ⟨S2x8x512, .f32⟩
  | .hbm, ⟨30, _⟩ => ⟨S2x8x512x1, .f32⟩
  | .hbm, ⟨31, _⟩ => ⟨S2x8x512x4096, .f32⟩
  | .hbm, ⟨32, _⟩ => ⟨S2x8x512x4096, .f32⟩
  | .hbm, ⟨33, _⟩ => ⟨S2x8x512x4096, .f32⟩
  | .hbm, ⟨34, _⟩ => ⟨S_, .i1⟩
  | .hbm, ⟨35, _⟩ => ⟨S512, .i1⟩
  | .hbm, ⟨36, _⟩ => ⟨S1x1x512x1, .i1⟩
  | .hbm, ⟨37, _⟩ => ⟨S_, .f32⟩
  | .hbm, ⟨38, _⟩ => ⟨S2x8x512, .f32⟩
  | .hbm, ⟨39, _⟩ => ⟨S2x8x512x1, .f32⟩
  | .hbm, ⟨40, _⟩ => ⟨S_, .f32⟩
  | .hbm, ⟨41, _⟩ => ⟨S_, .f32⟩
  | .hbm, ⟨42, _⟩ => ⟨S2x8x512x1, .i1⟩
  | .hbm, ⟨43, _⟩ => ⟨S2x8x512x1, .f32⟩
  | .hbm, ⟨44, _⟩ => ⟨S2x8x512x1, .f32⟩
  | .hbm, ⟨45, _⟩ => ⟨S2x8x512x4096, .f32⟩
  | .hbm, ⟨46, _⟩ => ⟨S2x8x512x4096, .f32⟩
  | .hbm, ⟨47, _⟩ => ⟨S1x1x512x1, .i1⟩
  | .hbm, ⟨48, _⟩ => ⟨S_, .f32⟩
  | .hbm, ⟨49, _⟩ => ⟨S_, .f32⟩
  | .hbm, ⟨50, _⟩ => ⟨S2x8x512x4096, .i1⟩
  | .hbm, ⟨51, _⟩ => ⟨S2x8x512x4096, .f32⟩
  | .hbm, ⟨52, _⟩ => ⟨S2x8x512x4096, .f32⟩
  | .hbm, ⟨53, _⟩ => ⟨S2x8x64x512, .f32⟩
  | .hbm, ⟨54, _⟩ => ⟨S2x512x8x64, .f32⟩
  | .hbm, ⟨55, _⟩ => ⟨S2x512x512, .f32⟩
  | .hbm, ⟨56, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KI.Prog.lean ====
/-
  The kernel's body written as loops over (batch, chunk, half, child): one definition per step,
  each generic in its indices. `Refold.lean` shows the printed body is this program.
-/
module

public import proofs.«01_k».proof.Proof.Gen.KernelIdeal.Skeleton

@[expose] public section

set_option synthInstance.maxSize 4096

noncomputable section

namespace Cert.KernelIdeal.Mine

open Idealize.ShloMosaic Idealize.SL.Sem Cert.KernelIdeal.Gen

variable {F : FTy → Type} [FloatOps F] [Named F]

/-- The operations of one TensorCore of this kernel. -/
abbrev E (F : FTy → Type) := TpuEff nD τ sig (Elt F) Λ₀ .tc

/-- Run `f` on each element of a list, in order. -/
def seqL {α : Type} (f : α → Prog (E F) PUnit) : List α → Prog (E F) PUnit
  | [] => pure ⟨⟩
  | a :: l => (f a).bind fun _ => seqL f l

/-! ## The tree of devices -/

/-- The devices a device exchanges barrier signals with, in the order it signals them. -/
def partners : Fin 8 → List (Fin 8)
  | 0 => [1, 3, 4]
  | 1 => [0, 2, 5]
  | 2 => [1, 6]
  | 3 => [0]
  | 4 => [0, 7]
  | 5 => [1]
  | 6 => [2]
  | 7 => [4]

/-- The children a device forwards the normalized context to, each with its position. -/
def children : Fin 8 → List (Fin 3 × Fin 8)
  | 0 => [(0, 1), (1, 3), (2, 4)]
  | 1 => [(0, 2), (1, 5)]
  | 2 => [(0, 6)]
  | 3 => []
  | 4 => [(0, 7)]
  | 5 => []
  | 6 => []
  | 7 => []

/-- Chunk `p` of batch `b`. -/
def ch (b : Fin 2) (p : Fin 4) : Fin 8 := ⟨4 * b.1 + p.1, by omega⟩

/-- Head `s` of the chunk `p` of a batch. -/
def hd (p : Fin 4) (s : Fin 2) : Fin 8 := ⟨2 * p.1 + s.1, by omega⟩

/-! ## The buffers -/

abbrev mX : Memref sig .tc .vmem S2x512x768 .f32 := Memref.whole cc0_stg0_0
abbrev mWq : Memref sig .tc .vmem S768x512 .f32 := Memref.whole cc0_stg1_0
abbrev mK : Memref sig .tc .vmem S2x512x8x64 .f32 := Memref.whole cc0_stg2_0
abbrev mV : Memref sig .tc .vmem S2x512x8x64 .f32 := Memref.whole cc0_stg3_0
abbrev mWo : Memref sig .tc .vmem S512x768 .f32 := Memref.whole cc0_stg4_0
abbrev mOut : Memref sig .tc .vmem S2x512x768 .f32 := Memref.whole cc0_stg5_0
abbrev mF : Memref sig .tc .vmem S8x512x128 .bf16 := Memref.whole cc0_scratch0
abbrev mT : Memref sig .tc .vmem S8x128x256 .bf16 := Memref.whole cc0_scratch1

/-! ## The rectangles -/

theorem inbX (b : Fin 2) : ∀ a, (![b.1, 0, 0] : Fin 3 → Nat) a + S1x512x768.size a ≤ S2x512x768.size a := by
  revert b; decide
theorem inbX1 (b : Fin 2) : ∀ a, (![b.1, 384, 0] : Fin 3 → Nat) a + S1x128x768.size a ≤ S2x512x768.size a := by
  revert b; decide
theorem inbK (b : Fin 2) : ∀ a, (![b.1, 0, 0, 0] : Fin 4 → Nat) a + S1x512x8x64.size a ≤ S2x512x8x64.size a := by
  revert b; decide
theorem inbK1 (b : Fin 2) (h : Fin 8) :
    ∀ a, (![b.1, 0, h.1, 0] : Fin 4 → Nat) a + S1x128x1x64.size a ≤ S2x512x8x64.size a := by
  revert b h; decide
theorem inbTc (c : Fin 8) (s : Fin 2) :
    ∀ a, (![c.1, 0, 64 * s.1] : Fin 3 → Nat) a + S1x128x64.size a ≤ S8x128x256.size a := by
  revert c s; decide
theorem inbTs (c : Fin 8) (s : Fin 2) :
    ∀ a, (![c.1, 0, 128 + s.1] : Fin 3 → Nat) a + S1x128x1.size a ≤ S8x128x256.size a := by
  revert c s; decide
theorem inbT (c : Fin 8) : ∀ a, (![c.1, 0, 0] : Fin 3 → Nat) a + S1x128x256.size a ≤ S8x128x256.size a := by
  revert c; decide
theorem inbFt (c : Fin 8) (s : Fin 2) :
    ∀ a, (![c.1, 0, 64 * s.1] : Fin 3 → Nat) a + S1x256x64.size a ≤ S8x512x128.size a := by
  revert c s; decide
theorem inbFm (c : Fin 8) (s : Fin 2) :
    ∀ a, (![c.1, 256, 64 * s.1] : Fin 3 → Nat) a + S1x128x64.size a ≤ S8x512x128.size a := by
  revert c s; decide
theorem inbFb (c : Fin 8) (s : Fin 2) :
    ∀ a, (![c.1, 384, 64 * s.1] : Fin 3 → Nat) a + S1x128x64.size a ≤ S8x512x128.size a := by
  revert c s; decide
theorem inbFc (c : Fin 8) : ∀ a, (![c.1, 0, 0] : Fin 3 → Nat) a + S1x512x128.size a ≤ S8x512x128.size a := by
  revert c; decide
theorem inbFh (c : Fin 8) (h : Fin 2) :
    ∀ a, (![c.1, 256 * h.1, 0] : Fin 3 → Nat) a + S1x256x128.size a ≤ S8x512x128.size a := by
  revert c h; decide

/-- Batch `b` of a `2 × 512 × 768` array. -/
abbrev rX (b : Fin 2) : Rect S2x512x768 := Rect.unit (s := S2x512x768) ![b.1, 0, 0] S1x512x768.size (inbX b)
/-- The last 128 rows of batch `b`. -/
abbrev rX1 (b : Fin 2) : Rect S2x512x768 := Rect.unit (s := S2x512x768) ![b.1, 384, 0] S1x128x768.size (inbX1 b)
/-- Batch `b` of the keys (or values). -/
abbrev rK (b : Fin 2) : Rect S2x512x8x64 := Rect.unit (s := S2x512x8x64) ![b.1, 0, 0, 0] S1x512x8x64.size (inbK b)
/-- The first 128 keys of head `h` of batch `b`. -/
abbrev rK1 (b : Fin 2) (h : Fin 8) : Rect S2x512x8x64 :=
  Rect.unit (s := S2x512x8x64) ![b.1, 0, h.1, 0] S1x128x1x64.size (inbK1 b h)
/-- The context half `s` of chunk `c` of the partials. -/
abbrev rTc (c : Fin 8) (s : Fin 2) : Rect S8x128x256 :=
  Rect.unit (s := S8x128x256) ![c.1, 0, 64 * s.1] S1x128x64.size (inbTc c s)
/-- The sum column `s` of chunk `c` of the partials. -/
abbrev rTs (c : Fin 8) (s : Fin 2) : Rect S8x128x256 :=
  Rect.unit (s := S8x128x256) ![c.1, 0, 128 + s.1] S1x128x1.size (inbTs c s)
/-- Chunk `c` of the partials. -/
abbrev rT (c : Fin 8) : Rect S8x128x256 := Rect.unit (s := S8x128x256) ![c.1, 0, 0] S1x128x256.size (inbT c)
/-- Rows 0–255 of head `s` of chunk `c` of the context. -/
abbrev rFt (c : Fin 8) (s : Fin 2) : Rect S8x512x128 :=
  Rect.unit (s := S8x512x128) ![c.1, 0, 64 * s.1] S1x256x64.size (inbFt c s)
/-- Rows 256–383. -/
abbrev rFm (c : Fin 8) (s : Fin 2) : Rect S8x512x128 :=
  Rect.unit (s := S8x512x128) ![c.1, 256, 64 * s.1] S1x128x64.size (inbFm c s)
/-- Rows 384–511. -/
abbrev rFb (c : Fin 8) (s : Fin 2) : Rect S8x512x128 :=
  Rect.unit (s := S8x512x128) ![c.1, 384, 64 * s.1] S1x128x64.size (inbFb c s)
/-- Chunk `c` of the context. -/
abbrev rFc (c : Fin 8) : Rect S8x512x128 := Rect.unit (s := S8x512x128) ![c.1, 0, 0] S1x512x128.size (inbFc c)
/-- Half `h` (256 rows) of chunk `c` of the context. -/
abbrev rFh (c : Fin 8) (h : Fin 2) : Rect S8x512x128 :=
  Rect.unit (s := S8x512x128) ![c.1, 256 * h.1, 0] S1x256x128.size (inbFh c h)

theorem packTc (c : Fin 8) (s : Fin 2) : (rTc c s).PackedRows (EltTy.packing .bf16) := by revert c s; decide
theorem packTs (c : Fin 8) (s : Fin 2) : (rTs c s).PackedRows (EltTy.packing .bf16) := by revert c s; decide
theorem packFt (c : Fin 8) (s : Fin 2) : (rFt c s).PackedRows (EltTy.packing .bf16) := by revert c s; decide
theorem packFm (c : Fin 8) (s : Fin 2) : (rFm c s).PackedRows (EltTy.packing .bf16) := by revert c s; decide
theorem packFb (c : Fin 8) (s : Fin 2) : (rFb c s).PackedRows (EltTy.packing .bf16) := by revert c s; decide
theorem wordsT (c : Fin 8) : (rT c).WholeWords (EltTy.packing .bf16) := by revert c; decide
theorem wordsFh (c : Fin 8) (h : Fin 2) : (rFh c h).WholeWords (EltTy.packing .bf16) := by revert c h; decide

/-- Half `h` of chunk `c` of the context, the memref a copy moves. -/
abbrev mFh (c : Fin 8) (h : Fin 2) : Memref sig .tc .vmem S256x128 .bf16 :=
  ((mF).slice (rFh c h) (fun _ => rfl)).squeeze S256x128 squeezes_S1x256x128_S256x128
/-- Chunk `c` of the partials, the memref a copy moves. -/
abbrev mTc (c : Fin 8) : Memref sig .tc .vmem S128x256 .bf16 :=
  ((mT).slice (rT c) (fun _ => rfl)).squeeze S128x256 squeezes_S1x128x256_S128x256

/-! ## The semaphores -/

/-- The cell a half of a chunk arrives on. -/
def recvF (c : Fin 8) (h : Fin 2) : DmaSem sig := ⟨6 + (2 * c.1 + h.1), by show _ < 86; omega⟩
/-- The cell the copy of a half to child `i` is paid back on. -/
def sendF (i : Fin 3) (c : Fin 8) (h : Fin 2) : DmaSem sig := ⟨22 + (16 * i.1 + (2 * c.1 + h.1)), by show _ < 86; omega⟩
/-- The cell the copy of a partial is paid back on. -/
def sendT (c : Fin 8) : DmaSem sig := ⟨70 + c.1, by show _ < 86; omega⟩
/-- The cell a partial arrives on. -/
def recvT (c : Fin 8) : DmaSem sig := ⟨78 + c.1, by show _ < 86; omega⟩
/-- The opening barrier's counter. -/
abbrev barS : Sem sig := (SemArray.scalar (sig.barrier 0 rfl) : Sems sig S_).sem
/-- The closing barrier's counter. -/
abbrev cloS : Sem sig := (cc0_scratch6 : Sems sig S_).sem

/-! ## The values -/

theorem slQ1 (h : Fin 8) : S128x512.Slices ![0, 64 * h.1] S128x64 := by revert h; decide
theorem slQ (h : Fin 8) : S512x512.Slices ![0, 64 * h.1] S512x64 := by revert h; decide
theorem slWo (p : Fin 4) : S512x768.Slices ![128 * p.1, 0] S128x768 := by revert p; decide

/-- Device 1's exponentials for head `h`: the last 128 queries against its first 128 keys. -/
def ex1 (q : FVec F S128x512 .f32) (h : Fin 8) (k : Vec F S1x128x1x64 .f32) : FVec F S128x128 .f32 :=
  exp (addf (mulf (matmul dot_S128x64_S128x64_S128x128_1_1_0_0_n_n none
    (truncf .bf16 (extractStridedSlice S128x64 ![0, 64 * h.1] q (slQ1 h)) bitsLt_bf16_f32)
    (truncf .bf16 (shapeCast S128x64 k shapeCasts_S1x128x1x64_S128x64) bitsLt_bf16_f32)
    (constant S128x128 .f32 0x00000000#32))
    (broadcast S128x128 (Scalar.ofBits .f32 0x3E000000#32 : F .f32))) (k0_pay2 (F := F)))

/-- Device 1's partial context for a head. -/
def ctx1 (e : FVec F S128x128 .f32) (v : Vec F S1x128x1x64 .f32) : FVec F S1x128x64 .bf16 :=
  shapeCast S1x128x64 (truncf .bf16 (matmul dot_S128x128_S128x64_S128x64_1_0_0_1_n_n none
    (truncf .bf16 e bitsLt_bf16_f32)
    (truncf .bf16 (shapeCast S128x64 v shapeCasts_S1x128x1x64_S128x64) bitsLt_bf16_f32)
    (constant S128x64 .f32 0x00000000#32)) bitsLt_bf16_f32) shapeCasts_S128x64_S1x128x64

/-- Device 1's partial row sums for a head. -/
def sum1 (e : FVec F S128x128 .f32) : FVec F S1x128x1 .bf16 :=
  shapeCast S1x128x1 (truncf .bf16 (shapeCast S128x1
    (multiReduction .add [1] S128 e 0x00000000#32 reduces_S128x128_S128 (.inl rfl) rfl)
    shapeCasts_S128_S128x1) bitsLt_bf16_f32) shapeCasts_S128x1_S1x128x1

/-- Device 0's queries of one batch. -/
def q0 (wq : FVec F S768x512 .bf16) (x : Vec F S1x512x768 .f32) : FVec F S512x512 .f32 :=
  matmul dot_S512x768_S768x512_S512x512_1_0_0_1_n_n none
    (truncf .bf16 (shapeCast S512x768 x shapeCasts_S1x512x768_S512x768) bitsLt_bf16_f32) wq
    (constant S512x512 .f32 0x00000000#32)

/-- Device 1's queries of one batch. -/
def q1 (wq : FVec F S768x512 .bf16) (x : Vec F S1x128x768 .f32) : FVec F S128x512 .f32 :=
  matmul dot_S128x768_S768x512_S128x512_1_0_0_1_n_n none
    (truncf .bf16 (shapeCast S128x768 x shapeCasts_S1x128x768_S128x768) bitsLt_bf16_f32) wq
    (constant S128x512 .f32 0x00000000#32)

/-- The queries of head `h`. -/
def qh (q : FVec F S512x512 .f32) (h : Fin 8) : FVec F S512x64 .bf16 :=
  truncf .bf16 (extractStridedSlice S512x64 ![0, 64 * h.1] q (slQ h)) bitsLt_bf16_f32
/-- The keys (or values) of head `h`. -/
def kh (k : FVec F S512x512 .bf16) (h : Fin 8) : FVec F S512x64 .bf16 :=
  extractStridedSlice S512x64 ![0, 64 * h.1] k (slQ h)

/-- Exponentials of the first 256 queries against keys 0–383. -/
def exT (q : FVec F S512x64 .bf16) (k : FVec F S512x64 .bf16) : FVec F S256x384 .f32 :=
  exp (addf (mulf (matmul dot_S256x64_S384x64_S256x384_1_1_0_0_n_n none
    (extractStridedSlice S256x64 ![0, 0] q slices_S512x64_o0_0_S256x64)
    (extractStridedSlice S384x64 ![0, 0] k slices_S512x64_o0_0_S384x64)
    (constant S256x384 .f32 0x00000000#32))
    (broadcast S256x384 (Scalar.ofBits .f32 0x3E000000#32 : F .f32))) (k0_pay68 (F := F)))
/-- Exponentials of the last 256 queries against keys 128–511. -/
def exB (q : FVec F S512x64 .bf16) (k : FVec F S512x64 .bf16) : FVec F S256x384 .f32 :=
  exp (addf (mulf (matmul dot_S256x64_S384x64_S256x384_1_1_0_0_n_n none
    (extractStridedSlice S256x64 ![256, 0] q slices_S512x64_o256_0_S256x64)
    (extractStridedSlice S384x64 ![128, 0] k slices_S512x64_o128_0_S384x64)
    (constant S256x384 .f32 0x00000000#32))
    (broadcast S256x384 (Scalar.ofBits .f32 0x3E000000#32 : F .f32))) (k0_pay69 (F := F)))
/-- Row sums of a block of exponentials. -/
def sumR (e : FVec F S256x384 .f32) : FVec F S256x1 .f32 :=
  shapeCast S256x1 (multiReduction .add [1] S256 e 0x00000000#32 reduces_S256x384_S256 (.inl rfl) rfl)
    shapeCasts_S256_S256x1
/-- The context of the first 256 queries, before normalization. -/
def ctxT (e : FVec F S256x384 .f32) (v : FVec F S512x64 .bf16) : FVec F S256x64 .f32 :=
  matmul dot_S256x384_S384x64_S256x64_1_0_0_1_n_n none (truncf .bf16 e bitsLt_bf16_f32)
    (extractStridedSlice S384x64 ![0, 0] v slices_S512x64_o0_0_S384x64) (constant S256x64 .f32 0x00000000#32)
/-- The context of the last 256 queries, before normalization. -/
def ctxB (e : FVec F S256x384 .f32) (v : FVec F S512x64 .bf16) : FVec F S256x64 .f32 :=
  matmul dot_S256x384_S384x64_S256x64_1_0_0_1_n_n none (truncf .bf16 e bitsLt_bf16_f32)
    (extractStridedSlice S384x64 ![128, 0] v slices_S512x64_o128_0_S384x64) (constant S256x64 .f32 0x00000000#32)
/-- Rows 0–255 as stored. -/
def outT (s : FVec F S256x1 .f32) (c : FVec F S256x64 .f32) : FVec F S1x256x64 .bf16 :=
  shapeCast S1x256x64 (truncf .bf16 (mulf c (broadcastTo S256x64
    (divf (broadcast S256x1 (Scalar.ofBits .f32 0x3F800000#32 : F .f32)) s) broadcasts_S256x1_S256x64))
    bitsLt_bf16_f32) shapeCasts_S256x64_S1x256x64
/-- Rows 256–383 as stored. -/
def outM (s : FVec F S256x1 .f32) (c : FVec F S256x64 .f32) : FVec F S1x128x64 .bf16 :=
  shapeCast S1x128x64 (truncf .bf16 (mulf (extractStridedSlice S128x64 ![0, 0] c slices_S256x64_o0_0_S128x64)
    (broadcastTo S128x64 (divf (broadcast S128x1 (Scalar.ofBits .f32 0x3F800000#32 : F .f32))
      (extractStridedSlice S128x1 ![0, 0] s slices_S256x1_o0_0_S128x1)) broadcasts_S128x1_S128x64))
    bitsLt_bf16_f32) shapeCasts_S128x64_S1x128x64
/-- Rows 384–511 as stored: device 0's block plus the received partials. -/
def outB (s : FVec F S256x1 .f32) (c : FVec F S256x64 .f32) (s1 : Vec F S1x128x1 .bf16) (c1 : Vec F S1x128x64 .bf16) :
    FVec F S1x128x64 .bf16 :=
  shapeCast S1x128x64 (truncf .bf16 (mulf
    (addf (extractStridedSlice S128x64 ![128, 0] c slices_S256x64_o128_0_S128x64)
      (extf .f32 (shapeCast S128x64 c1 shapeCasts_S1x128x64_S128x64) bitsLt_bf16_f32))
    (broadcastTo S128x64 (divf (broadcast S128x1 (Scalar.ofBits .f32 0x3F800000#32 : F .f32))
      (addf (extractStridedSlice S128x1 ![128, 0] s slices_S256x1_o128_0_S128x1)
        (extf .f32 (shapeCast S128x1 s1 shapeCasts_S1x128x1_S128x1) bitsLt_bf16_f32)))
      broadcasts_S128x1_S128x64)) bitsLt_bf16_f32) shapeCasts_S128x64_S1x128x64

/-- The keys (or values) of one batch, its heads laid side by side. -/
def flat (k : Vec F S1x512x8x64 .f32) : FVec F S512x512 .bf16 :=
  truncf .bf16 (shapeCast S512x512 (shapeCast S512x8x64 k shapeCasts_S1x512x8x64_S512x8x64)
    shapeCasts_S512x8x64_S512x512) bitsLt_bf16_f32

/-- The bf16 output weights. -/
def woB (wo : Vec F S512x768 .f32) : FVec F S512x768 .bf16 :=
  truncf .bf16 (shapeCast S512x768 wo shapeCasts_S512x768_S512x768) bitsLt_bf16_f32

/-- Chunk `p` of a batch times its rows of the output weights. -/
def projC (wo : FVec F S512x768 .bf16) (p : Fin 4) (f : Vec F S1x512x128 .bf16) : FVec F S512x768 .f32 :=
  matmul dot_S512x128_S128x768_S512x768_1_0_0_1_n_n none
    (shapeCast S512x128 f shapeCasts_S1x512x128_S512x128)
    (extractStridedSlice S128x768 ![128 * p.1, 0] wo (slWo p)) (constant S512x768 .f32 0x00000000#32)

/-- One batch of the result from the four chunks of its context. -/
def proj (wo : FVec F S512x768 .bf16) (f0 f1 f2 f3 : Vec F S1x512x128 .bf16) : FVec F S1x512x768 .f32 :=
  shapeCast S1x512x768 (addf (addf (addf (projC wo 0 f0) (projC wo 1 f1)) (projC wo 2 f2)) (projC wo 3 f3))
    shapeCasts_S512x768_S1x512x768

/-! ## The steps -/

/-- A barrier exchange on one counter: signal every partner, await as many. -/
def exchange (s : Sem sig) (d : Fin 8) : Prog (E F) PUnit :=
  (seqL (fun p => semSignalWord (p : Dev nD) s 1#32) (partners d)).bind fun _ =>
    semWaitWord s (BitVec.ofNat 32 (partners d).length)

/-- Send half `h` of chunk `c` to a child. -/
def sendHalf (c : Fin 8) (h : Fin 2) (i : Fin 3 × Fin 8) : Prog (E F) PUnit :=
  Prog.lift (.enqueueDma (mFh c h) (.remote (Dev.tc (i.2 : Dev nD)) (mFh c h) (.dma (sendF i.1 c h)))
    (.dma (recvF c h))
    (((Memref.isWhole_whole _).wordExact_slice rfl _ (wordsFh c h)).reshape _ _)
    (((Memref.isWhole_whole _).wordExact_slice rfl _ (wordsFh c h)).reshape _ _) ⟨⟨rfl, Or.inl rfl⟩, trivial⟩)

/-- Await on a cell the credit of a half of a chunk. -/
def waitHalf (g : DmaSem sig) (c : Fin 8) (h : Fin 2) : Prog (E F) PUnit :=
  Prog.lift (.waitDma2 g (mFh c h) (mFh c h)
    (((Memref.isWhole_whole _).wordExact_slice rfl _ (wordsFh c h)).reshape _ _)
    (((Memref.isWhole_whole _).wordExact_slice rfl _ (wordsFh c h)).reshape _ _))

/-- Send chunk `c` of the partials to device 0. -/
def sendPart (c : Fin 8) : Prog (E F) PUnit :=
  Prog.lift (.enqueueDma (mTc c) (.remote (Dev.tc (0 : Dev nD)) (mTc c) (.dma (sendT c)))
    (.dma (recvT c))
    (((Memref.isWhole_whole _).wordExact_slice rfl _ (wordsT c)).reshape _ _)
    (((Memref.isWhole_whole _).wordExact_slice rfl _ (wordsT c)).reshape _ _) ⟨⟨rfl, Or.inl rfl⟩, trivial⟩)

/-- Await on a cell the credit of a chunk of the partials. -/
def waitPart (g : DmaSem sig) (c : Fin 8) : Prog (E F) PUnit :=
  Prog.lift (.waitDma2 g (mTc c) (mTc c)
    (((Memref.isWhole_whole _).wordExact_slice rfl _ (wordsT c)).reshape _ _)
    (((Memref.isWhole_whole _).wordExact_slice rfl _ (wordsT c)).reshape _ _))

/-- Load chunk `c` of the context. -/
def loadF (c : Fin 8) : Prog (E F) (Vec F S1x512x128 .bf16) :=
  Prog.lift (.load mF (rFc c).toLoadRect (View.loadsAt_vmem h_S1x512x128))

/-- Store one batch of the result (a store reads what it replaces). -/
def storeOut (b : Fin 2) (v : FVec F S1x512x768 .f32) : Prog (E F) PUnit := do
  let _ : Vec F S1x512x768 .f32 ← Prog.lift (.load mOut (rX b).toLoadRect (View.loadsAt_vmem h_S1x512x768))
  Prog.lift (.store mOut (rX b) v Finset.univ (View.stores_vmem_bits_univ h_S1x512x768 rfl) (.inl rfl))

/-- Store into a half of a chunk of the partials, the context. -/
def storeTc (c : Fin 8) (s : Fin 2) (v : FVec F S1x128x64 .bf16) : Prog (E F) PUnit := do
  let _ : Vec F S1x128x64 .bf16 ← Prog.lift (.load mT (rTc c s).toLoadRect (View.loadsAt_vmem h_S1x128x64))
  Prog.lift (.store mT (rTc c s) v Finset.univ (View.stores_vmem h_S1x128x64
    ((Memref.isWhole_whole _).storeExact_slice rfl _ (packTc c s)) (fun _ => rfl)) (.inl rfl))

/-- Store into a chunk of the partials, the row sums. -/
def storeTs (c : Fin 8) (s : Fin 2) (v : FVec F S1x128x1 .bf16) : Prog (E F) PUnit := do
  let _ : Vec F S1x128x1 .bf16 ← Prog.lift (.load mT (rTs c s).toLoadRect (View.loadsAt_vmem h_S1x128x1))
  Prog.lift (.store mT (rTs c s) v Finset.univ (View.stores_vmem h_S1x128x1
    ((Memref.isWhole_whole _).storeExact_slice rfl _ (packTs c s)) (fun _ => rfl)) (.inl rfl))

/-- Store rows 0–255 of a head. -/
def storeFt (c : Fin 8) (s : Fin 2) (v : FVec F S1x256x64 .bf16) : Prog (E F) PUnit := do
  let _ : Vec F S1x256x64 .bf16 ← Prog.lift (.load mF (rFt c s).toLoadRect (View.loadsAt_vmem h_S1x256x64))
  Prog.lift (.store mF (rFt c s) v Finset.univ (View.stores_vmem h_S1x256x64
    ((Memref.isWhole_whole _).storeExact_slice rfl _ (packFt c s)) (fun _ => rfl)) (.inl rfl))

/-- Store rows 256–383 of a head. -/
def storeFm (c : Fin 8) (s : Fin 2) (v : FVec F S1x128x64 .bf16) : Prog (E F) PUnit := do
  let _ : Vec F S1x128x64 .bf16 ← Prog.lift (.load mF (rFm c s).toLoadRect (View.loadsAt_vmem h_S1x128x64))
  Prog.lift (.store mF (rFm c s) v Finset.univ (View.stores_vmem h_S1x128x64
    ((Memref.isWhole_whole _).storeExact_slice rfl _ (packFm c s)) (fun _ => rfl)) (.inl rfl))

/-- Store rows 384–511 of a head. -/
def storeFb (c : Fin 8) (s : Fin 2) (v : FVec F S1x128x64 .bf16) : Prog (E F) PUnit := do
  let _ : Vec F S1x128x64 .bf16 ← Prog.lift (.load mF (rFb c s).toLoadRect (View.loadsAt_vmem h_S1x128x64))
  Prog.lift (.store mF (rFb c s) v Finset.univ (View.stores_vmem h_S1x128x64
    ((Memref.isWhole_whole _).storeExact_slice rfl _ (packFb c s)) (fun _ => rfl)) (.inl rfl))

/-- Device 1, one head: its partial context and sums. -/
def part (q : FVec F S128x512 .f32) (b : Fin 2) (p : Fin 4) (s : Fin 2) : Prog (E F) PUnit := do
  let k : Vec F S1x128x1x64 .f32 ← Prog.lift (.load mK (rK1 b (hd p s)).toLoadRect (View.loadsAt_vmem h_S1x128x1x64))
  let v : Vec F S1x128x1x64 .f32 ← Prog.lift (.load mV (rK1 b (hd p s)).toLoadRect (View.loadsAt_vmem h_S1x128x1x64))
  storeTc (ch b p) s (ctx1 (ex1 q (hd p s) k) v)
  storeTs (ch b p) s (sum1 (ex1 q (hd p s) k))

/-- Device 1, one chunk of partials: two heads, and the copy to device 0. -/
def partChunk (q : FVec F S128x512 .f32) (b : Fin 2) (p : Fin 4) : Prog (E F) PUnit := do
  part q b p 0
  part q b p 1
  sendPart (ch b p)

/-- Device 1, one batch of partials. -/
def partBatch (wq : FVec F S768x512 .bf16) (b : Fin 2) : Prog (E F) PUnit := do
  let x : Vec F S1x128x768 .f32 ← Prog.lift (.load mX (rX1 b).toLoadRect (View.loadsAt_vmem h_S1x128x768))
  seqL (partChunk (q1 wq x) b) [0, 1, 2, 3]

/-- Load the query weights. -/
def loadWq : Prog (E F) (Vec F S768x512 .f32) :=
  Prog.lift (.load mWq (Rect.unit (s := S768x512) ![0, 0] S768x512.size inb_S768x512_S768x512_0_0).toLoadRect
    (View.loadsAt_vmem h_S768x512))

/-- Load the output weights. -/
def loadWo : Prog (E F) (Vec F S512x768 .f32) :=
  Prog.lift (.load mWo (Rect.unit (s := S512x768) ![0, 0] S512x768.size inb_S512x768_S512x768_0_0).toLoadRect
    (View.loadsAt_vmem h_S512x768))

/-- Device 1's partials. -/
def parts : Prog (E F) PUnit := do
  let wq ← loadWq
  seqL (partBatch (k0_pay1 wq)) [0, 1]
  seqL (fun c => waitPart (sendT c) c) [0, 1, 2, 3, 4, 5, 6, 7]

/-- Device 0, the part of one head that needs no partials. -/
def headTop (q : FVec F S512x512 .f32) (k v : FVec F S512x512 .bf16) (b : Fin 2) (p : Fin 4) (s : Fin 2) : Prog (E F) PUnit := do
  storeFt (ch b p) s (outT (sumR (exT (qh q (hd p s)) (kh k (hd p s))))
    (ctxT (exT (qh q (hd p s)) (kh k (hd p s))) (kh v (hd p s))))
  storeFm (ch b p) s (outM (sumR (exB (qh q (hd p s)) (kh k (hd p s))))
    (ctxB (exB (qh q (hd p s)) (kh k (hd p s))) (kh v (hd p s))))

/-- Device 0, the rows of one head that add device 1's partials. -/
def headBot (q : FVec F S512x512 .f32) (k v : FVec F S512x512 .bf16) (b : Fin 2) (p : Fin 4) (s : Fin 2) : Prog (E F) PUnit := do
  let s1 : Vec F S1x128x1 .bf16 ← Prog.lift (.load mT (rTs (ch b p) s).toLoadRect (View.loadsAt_vmem h_S1x128x1))
  let c1 : Vec F S1x128x64 .bf16 ← Prog.lift (.load mT (rTc (ch b p) s).toLoadRect (View.loadsAt_vmem h_S1x128x64))
  storeFb (ch b p) s (outB (sumR (exB (qh q (hd p s)) (kh k (hd p s))))
    (ctxB (exB (qh q (hd p s)) (kh k (hd p s))) (kh v (hd p s))) s1 c1)

/-- Device 0, one chunk: two heads, and its copies to the children. -/
def rootChunk (q : FVec F S512x512 .f32) (k v : FVec F S512x512 .bf16) (b : Fin 2) (p : Fin 4) : Prog (E F) PUnit := do
  headTop q k v b p 0
  waitPart (recvT (ch b p)) (ch b p)
  headBot q k v b p 0
  headTop q k v b p 1
  headBot q k v b p 1
  seqL (fun h => seqL (sendHalf (ch b p) h) (children 0)) [0, 1]

/-- Device 0, one batch. -/
def rootBatch (wq : FVec F S768x512 .bf16) (b : Fin 2) : Prog (E F) PUnit := do
  let x : Vec F S1x512x768 .f32 ← Prog.lift (.load mX (rX b).toLoadRect (View.loadsAt_vmem h_S1x512x768))
  let k : Vec F S1x512x8x64 .f32 ← Prog.lift (.load mK (rK b).toLoadRect (View.loadsAt_vmem h_S1x512x8x64))
  let v : Vec F S1x512x8x64 .f32 ← Prog.lift (.load mV (rK b).toLoadRect (View.loadsAt_vmem h_S1x512x8x64))
  seqL (rootChunk (q0 wq x) (flat k) (flat v) b) [0, 1, 2, 3]

/-- Device 0's projection of one batch. -/
def rootProj (wo : FVec F S512x768 .bf16) (b : Fin 2) : Prog (E F) PUnit := do
  let f0 ← loadF (ch b 0)
  let f1 ← loadF (ch b 1)
  let f2 ← loadF (ch b 2)
  let f3 ← loadF (ch b 3)
  storeOut b (proj wo f0 f1 f2 f3)

/-- Await every copy a device sent. -/
def drain (d : Fin 8) : Prog (E F) PUnit :=
  seqL (fun c => seqL (fun h => seqL (fun i => waitHalf (sendF i.1 c h) c h) (children d)) [0, 1])
    [0, 1, 2, 3, 4, 5, 6, 7]

/-- Device 0 between the barriers. -/
def root : Prog (E F) PUnit := do
  let wq ← loadWq
  seqL (rootBatch (k0_pay67 wq)) [0, 1]
  let wo ← loadWo
  seqL (rootProj (woB wo)) [0, 1]
  drain 0

/-- A relay, one chunk: each half received and forwarded, then the chunk read. -/
def relayChunk (d : Fin 8) (c : Fin 8) : Prog (E F) (Vec F S1x512x128 .bf16) :=
  (seqL (fun h => (waitHalf (recvF c h) c h).bind fun _ => seqL (sendHalf c h) (children d)) [0, 1]).bind fun _ =>
    loadF c

/-- A relay between the barriers. -/
def relay (d : Fin 8) : Prog (E F) PUnit := do
  let wo ← loadWo
  let f0 ← relayChunk d 0
  let f1 ← relayChunk d 1
  let f2 ← relayChunk d 2
  let f3 ← relayChunk d 3
  let f4 ← relayChunk d 4
  let f5 ← relayChunk d 5
  let f6 ← relayChunk d 6
  let f7 ← relayChunk d 7
  storeOut 0 (proj (woB wo) f0 f1 f2 f3)
  storeOut 1 (proj (woB wo) f4 f5 f6 f7)
  drain d

/-- What a device runs between the barriers. -/
def work : Fin 8 → Prog (E F) PUnit
  | 0 => root
  | 1 => parts.bind fun _ => relay 1
  | d => relay d

/-- The whole body on device `d`. -/
def body (d : Fin 8) : Prog (E F) PUnit := do
  exchange barS d
  work d
  exchange cloS d

end Cert.KernelIdeal.Mine

end
-- ==== Proof.KI.Sched.lean ====
/-
  The protocol: which cells carry which duties, what each duty hands over, what each device owes
  and in what order the cells come. Contents of the forwarded buffer are part of it.
-/
module

public import proofs.«01_k».proof.Proof.KI.Prog
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueIdxCore
public import Idealize.ShloMosaic.Lib.Tactic

@[expose] public section

set_option synthInstance.maxSize 4096

noncomputable section

namespace Cert.KernelIdeal.Mine

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3)
open Idealize.ShloMosaic.Transfers (shareTokN shareDrop)

variable {F : FTy → Type} [FloatOps F] [Named F]

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells of a device -/

/-- The closing barrier, the arrivals of halves, the halves sent, the partials sent, the partials arriving. -/
abbrev Own := Unit ⊕ (Fin 8 × Fin 2) ⊕ (Fin 3 × Fin 8 × Fin 2) ⊕ Fin 8 ⊕ Fin 8
/-- And the opening barrier. -/
abbrev Cell := Unit ⊕ Own

@[match_pattern] abbrev kBar : Cell := .inl ()
@[match_pattern] abbrev kClo : Cell := .inr (.inl ())
@[match_pattern] abbrev kRF (c : Fin 8) (h : Fin 2) : Cell := .inr (.inr (.inl (c, h)))
@[match_pattern] abbrev kSF (i : Fin 3) (c : Fin 8) (h : Fin 2) : Cell := .inr (.inr (.inr (.inl (i, c, h))))
@[match_pattern] abbrev kST (c : Fin 8) : Cell := .inr (.inr (.inr (.inr (.inl c))))
@[match_pattern] abbrev kRT (c : Fin 8) : Cell := .inr (.inr (.inr (.inr (.inr c))))

/-- The semaphore of a cell. -/
def csem : Cell → SemLoc sig
  | kBar => .reg barS
  | kClo => .reg cloS
  | kRF c h => .dma (recvF c h)
  | kSF i c h => .dma (sendF i c h)
  | kST c => .dma (sendT c)
  | kRT c => .dma (recvT c)

/-- The kernel's own, without the opening barrier's. -/
def osem (k : Own) : SemLoc sig := csem (.inr k)

/-- The cell of device `d`. -/
abbrev cellAt (d : Fin 8) (k : Cell) : GSem nD τ sig := (((d : Dev nD) : Thread nD τ), csem k)

/-- A number telling semaphores apart. -/
def semNum : SemLoc sig → ℕ
  | .dma x => x.val
  | .reg s => if s = barS then 1000 else 1001

theorem semNum_csem : ∀ k : Cell, semNum (csem k) = match k with
  | kBar => 1000
  | kClo => 1001
  | kRF c h => 6 + (2 * c.1 + h.1)
  | kSF i c h => 22 + (16 * i.1 + (2 * c.1 + h.1))
  | kST c => 70 + c.1
  | kRT c => 78 + c.1 := by
  rintro (⟨⟩ | ⟨⟩ | ⟨c, h⟩ | ⟨i, c, h⟩ | c | c)
  · show (if barS = barS then 1000 else 1001) = 1000; exact if_pos rfl
  · show (if cloS = barS then 1000 else 1001) = 1001; exact if_neg (by decide)
  all_goals rfl

theorem csem_injective : Function.Injective csem := by
  intro k k' e
  have e' := congrArg semNum e
  rw [semNum_csem, semNum_csem] at e'
  rcases k with (⟨⟩ | ⟨⟩ | ⟨c, h⟩ | ⟨i, c, h⟩ | c | c) <;> rcases k' with (⟨⟩ | ⟨⟩ | ⟨c', h'⟩ | ⟨i', c', h'⟩ | c' | c') <;>
    simp only [] at e' <;> first
    | rfl
    | (exfalso; omega)
    | (have h1 : c = c' := Fin.ext (by omega)
       have h2 : h = h' := Fin.ext (by omega)
       have h3 : i = i' := Fin.ext (by omega)
       subst h1; subst h2; subst h3; rfl)
    | (have h1 : c = c' := Fin.ext (by omega)
       have h2 : h = h' := Fin.ext (by omega)
       subst h1; subst h2; rfl)
    | (have h1 : c = c' := Fin.ext (by omega)
       subst h1; rfl)

/-- The cell a semaphore belongs to, if any. -/
def kindOf (s : SemLoc sig) : Option Cell :=
  open Classical in if h : ∃ k, csem k = s then some h.choose else none

theorem kindOf_csem (k : Cell) : kindOf (csem k) = some k := by
  have h : ∃ k', csem k' = csem k := ⟨k, rfl⟩
  unfold kindOf; rw [dif_pos h]; exact congrArg some (csem_injective h.choose_spec)

theorem cellAt_inj {d d' : Fin 8} {k k' : Cell} (h : cellAt d k = cellAt d' k') : d = d' ∧ k = k' :=
  ⟨congrArg (fun g : GSem nD τ sig => g.1.1) h, csem_injective (congrArg Prod.snd h)⟩

/-! ## Who pays what -/

/-- The device a device's halves come from. -/
def parent : Fin 8 → Option (Fin 8)
  | 0 => none
  | 1 => some 0
  | 2 => some 1
  | 3 => some 0
  | 4 => some 0
  | 5 => some 1
  | 6 => some 2
  | 7 => some 4

/-- How far a device is from device 0 along the tree. -/
def depth : Fin 8 → ℕ
  | 0 => 0
  | 1 => 1
  | 2 => 2
  | 3 => 1
  | 4 => 1
  | 5 => 2
  | 6 => 3
  | 7 => 2

/-- The devices that pay a cell of device `d`. -/
def dut (d : Fin 8) : Cell → Finset (Fin 8)
  | kBar => (partners d).toFinset
  | kClo => (partners d).toFinset
  | kRF _ _ => (parent d).toFinset
  | kSF i _ _ => if i.1 < (children d).length then {d} else ∅
  | kST _ => if d = 1 then {1} else ∅
  | kRT _ => if d = 0 then {1} else ∅

/-- What a duty is worth. -/
def amt : Cell → ℕ
  | kRF c h => (mFh c h).view.dmaCredit
  | kSF _ c h => (mFh c h).view.dmaCredit
  | kST c => (mTc c).view.dmaCredit
  | kRT c => (mTc c).view.dmaCredit
  | _ => 1

theorem amt_pos : ∀ k, 0 < amt k := by
  rintro (⟨⟩ | ⟨⟩ | ⟨c, h⟩ | ⟨i, c, h⟩ | c | c)
  · exact Nat.one_pos
  · exact Nat.one_pos
  all_goals exact View.dmaCredit_pos _ (by decide)

/-! ## The contents -/

/-- The batch of a chunk, and its place in the batch. -/
def bOf (c : Fin 8) : Fin 2 := ⟨c.1 / 4, by omega⟩
def pOf (c : Fin 8) : Fin 4 := ⟨c.1 % 4, by omega⟩

theorem ch_bp (c : Fin 8) : ch (bOf c) (pOf c) = c := Fin.ext (by show 4 * (c.1 / 4) + c.1 % 4 = c.1; omega)
theorem bOf_ch (b : Fin 2) (p : Fin 4) : bOf (ch b p) = b := Fin.ext (by show (4 * b.1 + p.1) / 4 = b.1; omega)
theorem pOf_ch (b : Fin 2) (p : Fin 4) : pOf (ch b p) = p := Fin.ext (by show (4 * b.1 + p.1) % 4 = p.1; omega)

section Contents

variable (d : Fin 8)

/-- The staged inputs of a device. -/
abbrev sX : Vec F S2x512x768 .f32 := (win0_0.blk t0_0).view.read (Elt F) ((s₀ m ρ).mem (((d : Dev nD) : Thread nD τ).loc main_arg0))
abbrev sWq : Vec F S768x512 .f32 := (win0_1.blk t0_0).view.read (Elt F) ((s₀ m ρ).mem (((d : Dev nD) : Thread nD τ).loc main_arg1))
abbrev sK : Vec F S2x512x8x64 .f32 := (win0_2.blk t0_0).view.read (Elt F) ((s₀ m ρ).mem (((d : Dev nD) : Thread nD τ).loc main_arg2))
abbrev sV : Vec F S2x512x8x64 .f32 := (win0_3.blk t0_0).view.read (Elt F) ((s₀ m ρ).mem (((d : Dev nD) : Thread nD τ).loc main_arg3))
abbrev sWo : Vec F S512x768 .f32 := (win0_4.blk t0_0).view.read (Elt F) ((s₀ m ρ).mem (((d : Dev nD) : Thread nD τ).loc main_arg4))

/-- What the loads of the inputs read. -/
abbrev lX (b : Fin 2) : Vec F S1x512x768 .f32 := mX.view.readAt (Elt F) (rX b).toLoadRect (sX m ρ d)
abbrev lX1 (b : Fin 2) : Vec F S1x128x768 .f32 := mX.view.readAt (Elt F) (rX1 b).toLoadRect (sX m ρ d)
abbrev lWq : Vec F S768x512 .f32 := mWq.view.readAt (Elt F) (Rect.unit (s := S768x512) ![0, 0] S768x512.size inb_S768x512_S768x512_0_0).toLoadRect (sWq m ρ d)
abbrev lWo : Vec F S512x768 .f32 := mWo.view.readAt (Elt F) (Rect.unit (s := S512x768) ![0, 0] S512x768.size inb_S512x768_S512x768_0_0).toLoadRect (sWo m ρ d)
abbrev lK (b : Fin 2) : Vec F S1x512x8x64 .f32 := mK.view.readAt (Elt F) (rK b).toLoadRect (sK m ρ d)
abbrev lV (b : Fin 2) : Vec F S1x512x8x64 .f32 := mV.view.readAt (Elt F) (rK b).toLoadRect (sV m ρ d)
abbrev lK1 (b : Fin 2) (h : Fin 8) : Vec F S1x128x1x64 .f32 := mK.view.readAt (Elt F) (rK1 b h).toLoadRect (sK m ρ d)
abbrev lV1 (b : Fin 2) (h : Fin 8) : Vec F S1x128x1x64 .f32 := mV.view.readAt (Elt F) (rK1 b h).toLoadRect (sV m ρ d)

end Contents

section Pieces

variable (b : Fin 2) (p : Fin 4) (s : Fin 2)

/-- Device 1's exponentials, partial context and sums of a head. -/
def eP : FVec F S128x128 .f32 := ex1 (q1 (k0_pay1 (lWq m ρ 1)) (lX1 m ρ 1 b)) (hd p s) (lK1 m ρ 1 b (hd p s))
def cP : FVec F S1x128x64 .bf16 := ctx1 (eP m ρ b p s) (lV1 m ρ 1 b (hd p s))
def sP : FVec F S1x128x1 .bf16 := sum1 (eP m ρ b p s)

/-- Device 0's queries, keys, values of a batch, and the exponentials of a head. -/
def qR : FVec F S512x512 .f32 := q0 (k0_pay67 (lWq m ρ 0)) (lX m ρ 0 b)
def kR : FVec F S512x512 .bf16 := flat (lK m ρ 0 b)
def vR : FVec F S512x512 .bf16 := flat (lV m ρ 0 b)
def eT : FVec F S256x384 .f32 := exT (qh (qR m ρ b) (hd p s)) (kh (kR m ρ b) (hd p s))
def eB : FVec F S256x384 .f32 := exB (qh (qR m ρ b) (hd p s)) (kh (kR m ρ b) (hd p s))

/-- The three pieces of a head's context as device 0 stores them. -/
def oT : FVec F S1x256x64 .bf16 := outT (sumR (eT m ρ b p s)) (ctxT (eT m ρ b p s) (kh (vR m ρ b) (hd p s)))
def oM : FVec F S1x128x64 .bf16 := outM (sumR (eB m ρ b p s)) (ctxB (eB m ρ b p s) (kh (vR m ρ b) (hd p s)))
def oB : FVec F S1x128x64 .bf16 :=
  outB (sumR (eB m ρ b p s)) (ctxB (eB m ρ b p s) (kh (vR m ρ b) (hd p s))) (sP m ρ b p s) (cP m ρ b p s)

end Pieces

/-- The buffer of the forwarded context, once filled. -/
def FV : S8x512x128.Idx → F .bf16 := fun i =>
  let c : Fin 8 := i 0
  let r : Fin 512 := i 1
  let e : Fin 128 := i 2
  let s : Fin 2 := ⟨e.1 / 64, by omega⟩
  let k : Fin 64 := ⟨e.1 % 64, by omega⟩
  if ht : r.1 < 256 then oT m ρ (bOf c) (pOf c) s (ix3 (0 : Fin 1) (⟨r.1, ht⟩ : Fin 256) k)
  else if hm : r.1 < 384 then oM m ρ (bOf c) (pOf c) s (ix3 (0 : Fin 1) (⟨r.1 - 256, by omega⟩ : Fin 128) k)
  else oB m ρ (bOf c) (pOf c) s (ix3 (0 : Fin 1) (⟨r.1 - 384, by omega⟩ : Fin 128) k)

/-- What a load of a chunk of it reads. -/
abbrev lF (c : Fin 8) : Vec F S1x512x128 .bf16 := mF.view.readAt (Elt F) (rFc c).toLoadRect (FV m ρ)

/-- One batch of a device's result. -/
def oP (d : Fin 8) (b : Fin 2) : FVec F S1x512x768 .f32 :=
  proj (woB (lWo m ρ d)) (lF m ρ (ch b 0)) (lF m ρ (ch b 1)) (lF m ρ (ch b 2)) (lF m ρ (ch b 3))

/-- A device's result. -/
def OUT (d : Fin 8) : S2x512x768.Idx → F .f32 := fun i =>
  let b : Fin 2 := i 0
  let r : Fin 512 := i 1
  let e : Fin 768 := i 2
  oP m ρ d b (ix3 (0 : Fin 1) r e)

/-! ## The buffers held -/

abbrev fLoc (d : Fin 8) : Loc nD τ sig := ((d : Dev nD) : Thread nD τ).loc cc0_scratch0
abbrev tLoc (d : Fin 8) : Loc nD τ sig := ((d : Dev nD) : Thread nD τ).loc cc0_scratch1

/-- Half `h` of chunk `c` of device `d`'s context buffer, at a share and contents. -/
def fH (d c : Fin 8) (h : Fin 2) (q : PosShare TreeShare) (f : S8x512x128.Idx → F .bf16) : sProp 𝕄 :=
  (mFh c h).view.loc ((d : Dev nD) : Thread nD τ) ↦[(mFh c h).view.set]{q} f

/-- Chunk `c` of device `d`'s buffer of partials. -/
def tC (d c : Fin 8) (f : S8x128x256.Idx → F .bf16) : sProp 𝕄 :=
  (mTc c).view.loc ((d : Dev nD) : Thread nD τ) ↦[(mTc c).view.set]{fullShare} f

/-- Contents holding device 1's partials of chunk `c`. -/
def IsPart (c : Fin 8) (f : S8x128x256.Idx → F .bf16) : Prop :=
  ∀ s : Fin 2, mT.view.readAt (Elt F) (rTc c s).toLoadRect f = cP m ρ (bOf c) (pOf c) s
    ∧ mT.view.readAt (Elt F) (rTs c s).toLoadRect f = sP m ρ (bOf c) (pOf c) s

/-- A separating conjunction along a list. -/
def sepL {α : Type} : List α → (α → sProp 𝕄) → sProp 𝕄
  | [], _ => iprop(emp)
  | a :: l, Φ => iprop(Φ a ∗ sepL l Φ)

abbrev all8 : List (Fin 8) := [0, 1, 2, 3, 4, 5, 6, 7]
abbrev all2 : List (Fin 2) := [0, 1]

/-! ## What the duties hand over -/

/-- With the opening signal a child gives its parent the room its halves land in, and device 0 gives device 1 the
    room its partials land in. -/
def barPay (p d : Fin 8) : sProp 𝕄 :=
  iprop((if parent d = some p then sepL all8 (fun c => sepL all2 fun h => iprop(∃ f, fH d c h fullShare f)) else iprop(emp))
    ∗ if d = 0 ∧ p = 1 then sepL all8 (fun c => iprop(∃ f, tC 0 c f)) else iprop(emp))

/-- What device `u` hands over with its duty on cell `k` of device `d`. -/
def pay (d : Fin 8) (k : Cell) (u : Fin 8) : sProp 𝕄 :=
  match k with
  | kBar => barPay d u
  | kClo => iprop(emp)
  | kRF c h => fH d c h fullShare (FV m ρ)
  | kSF i c h => fH d c h (shareTokN fullShare i.1) (FV m ρ)
  | kST c => iprop(∃ f, tC d c f)
  | kRT c => iprop(∃ f, ⌜IsPart m ρ c f⌝ ∗ tC d c f)

/-- One round of duties on every cell. -/
def Rd : Rounds.Schedule (GSem nD τ sig) (Fin 8) 𝕄 where
  duties g r := if r = 0 ∧ g.1.2 = .tc then (kindOf g.2).elim ∅ (dut g.1.1) else ∅
  unitless _ := False
  amount g _ _ := (kindOf g.2).elim 1 amt
  payload g _ u := (kindOf g.2).elim iprop(emp) fun k => pay m ρ g.1.1 k u
  amount_pos g _ _ _ := by
    cases kindOf g.2 with
    | none => exact Nat.one_pos
    | some k => exact amt_pos k

instance sepL_storable {α : Type} (l : List α) (Φ : α → sProp 𝕄) [∀ a, BI.Storable (upEmb : UEmb _ 𝕄) (Φ a)] :
    BI.Storable (upEmb : UEmb _ 𝕄) (sepL l Φ) := by
  induction l with
  | nil => unfold sepL; infer_instance
  | cons a l ih => unfold sepL; infer_instance

instance fH_storable (d c : Fin 8) (h : Fin 2) (q : PosShare TreeShare) (f : S8x512x128.Idx → F .bf16) :
    BI.Storable (upEmb : UEmb _ 𝕄) (fH d c h q f) := by unfold fH; infer_instance
instance tC_storable (d c : Fin 8) (f : S8x128x256.Idx → F .bf16) :
    BI.Storable (upEmb : UEmb _ 𝕄) (tC d c f) := by unfold tC; infer_instance
instance barPay_storable (p d : Fin 8) : BI.Storable (upEmb : UEmb _ 𝕄) (barPay (F := F) p d) := by
  unfold barPay
  (repeat' split) <;> infer_instance

instance pay_storable (d : Fin 8) (k : Cell) (u : Fin 8) : BI.Storable (upEmb : UEmb _ 𝕄) (pay m ρ d k u) := by
  unfold pay
  split <;> infer_instance

instance Rd_payload_storable (g : GSem nD τ sig) (r : ℕ) (u : Fin 8) :
    BI.Storable (upEmb : UEmb _ 𝕄) ((Rd m ρ).payload g r u) := by
  show BI.Storable upEmb ((kindOf g.2).elim iprop(emp) fun k => pay m ρ g.1.1 k u)
  cases kindOf g.2 with
  | none => exact (inferInstance : BI.Storable upEmb (iprop(emp) : sProp 𝕄))
  | some k => exact pay_storable m ρ g.1.1 k u

theorem duties_at (d : Fin 8) (k : Cell) : (Rd m ρ).duties (cellAt d k) 0 = dut d k := by
  dsimp only [Rd]; rw [if_pos ⟨rfl, rfl⟩, kindOf_csem]; rfl
theorem duties_later (g : GSem nD τ sig) : ∀ r, 1 ≤ r → (Rd m ρ).duties g r = ∅ :=
  fun r hr => by dsimp only [Rd]; exact if_neg fun h => by omega
theorem amount_at (d : Fin 8) (k : Cell) (r : ℕ) (u : Fin 8) : (Rd m ρ).amount (cellAt d k) r u = amt k := by
  dsimp only [Rd]; rw [kindOf_csem]; rfl
theorem payload_at (d : Fin 8) (k : Cell) (r : ℕ) (u : Fin 8) : (Rd m ρ).payload (cellAt d k) r u = pay m ρ d k u := by
  dsimp only [Rd]; rw [kindOf_csem]; rfl
theorem expect_at (d : Fin 8) (k : Cell) : (Rd m ρ).expect (cellAt d k) 0 = (dut d k).card * amt k := by
  unfold Schedule.expect Schedule.amountOf
  rw [duties_at, Finset.sum_congr rfl fun u _ => amount_at m ρ d k 0 u, Finset.sum_const, smul_eq_mul]
theorem rest_at (d : Fin 8) (k : Cell) :
    bigSep ((Rd m ρ).duties (cellAt d k) 0 \ ∅) (fun u => (Rd m ρ).payload (cellAt d k) 0 u) = bigSep (dut d k) (pay m ρ d k) := by
  rw [Finset.sdiff_empty, duties_at]; exact bigSep_congr fun u _ => payload_at m ρ d k 0 u

/-! ## Levels -/

/-- The order the cells come in. -/
def lvl (d : Fin 8) : Cell → ℕ
  | kBar => 1
  | kClo => 10
  | kRF _ _ => 2 + depth d
  | kRT _ => 2
  | _ => 0

def L (g : GSem nD τ sig) : Finset Unit := if g.1.2 = .tc then {()} else ∅
def lv (g : GSem nD τ sig) (_ : Unit) : ℕ := (kindOf g.2).elim 0 (lvl g.1.1)

theorem L_of_ne (g : GSem nD τ sig) (h : g.1.2 ≠ .tc) : L g = ∅ := if_neg h
theorem lv_at (d : Fin 8) (k : Cell) (u : Unit) : lv (cellAt d k) u = lvl d k := by
  unfold lv; rw [kindOf_csem]; rfl

/-- Everything owed is on a cell above `n`. -/
def Above (n : ℕ) (O : CellTallies nD τ sig Unit) : Prop :=
  ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with e | e
  · exact h' g u (by omega)
  · exact h g u e
theorem Above.tally {n : ℕ} (d : Fin 8) (k : Cell) (j : ℕ) (h : n < lvl d k) : Above n (tallyAt (cellAt d k) () j) := fun g u hg => by
  rw [tallyAt_apply] at hg
  by_cases hc : g = cellAt d k ∧ u = ()
  · rw [hc.1, lv_at]; exact ⟨rfl, h⟩
  · rw [if_neg hc] at hg; exact absurd hg (Nat.lt_irrefl 0)
theorem Above.sum {n : ℕ} {α : Type} (l : List α) (O : α → CellTallies nD τ sig Unit) (h : ∀ a ∈ l, Above n (O a)) :
    Above n (l.map O).sum := by
  induction l with
  | nil => exact Above.zero n
  | cons a l ih =>
    rw [List.map_cons, List.sum_cons]
    exact (h a List.mem_cons_self).add (ih fun x hx => h x (List.mem_cons_of_mem _ hx))

theorem mayWait (d : Fin 8) (k : Cell) (O : CellTallies nD τ sig Unit) (h : Above (lvl d k) O) :
    (levAts L lv : sProp 𝕄) ⊢ MayWait ((d : Dev nD) : Thread nD τ) (csem k) () O :=
  MayOwe.of_cut (L := L) (lev := lv) (lvl d k)
    (fun p hp => by rw [Finset.mem_singleton.mp hp]; exact Finset.mem_singleton_self _)
    (fun g u hg => by unfold L; rw [if_pos (h g u hg).1]; exact Finset.mem_singleton_self _)
    (fun p hp => by rw [Finset.mem_singleton.mp hp]; exact (lv_at d k ()).le)
    (fun g u hg => (h g u hg).2)

/-! ## What is owed -/

/-- To each partner, a unit on a barrier cell. -/
def sigO (k : Cell) (l : List (Fin 8)) : CellTallies nD τ sig Unit := (l.map fun p => tallyAt (cellAt p k) () 1).sum
/-- To each child, half `h` of chunk `c`. -/
def halfO (c : Fin 8) (h : Fin 2) (l : List (Fin 3 × Fin 8)) : CellTallies nD τ sig Unit :=
  (l.map fun i => tallyAt (cellAt i.2 (kRF c h)) () (amt (kRF c h))).sum
/-- Halves of one chunk. -/
def chunkO (d c : Fin 8) (l : List (Fin 2)) : CellTallies nD τ sig Unit := (l.map fun h => halfO c h (children d)).sum
/-- Chunks. -/
def sendsO (d : Fin 8) (l : List (Fin 8)) : CellTallies nD τ sig Unit := (l.map fun c => chunkO d c all2).sum
/-- Device 1's partials. -/
def partsO (l : List (Fin 8)) : CellTallies nD τ sig Unit := (l.map fun c => tallyAt (cellAt 0 (kRT c)) () (amt (kRT c))).sum

/-- What a device owes between the barriers, -/
def workO (d : Fin 8) : CellTallies nD τ sig Unit := (if d = 1 then partsO all8 else 0) + sendsO d all8
/-- and at launch. -/
def O₀ (d : Fin 8) : CellTallies nD τ sig Unit := sigO kBar (partners d) + (workO d + sigO kClo (partners d))

theorem above_sig (n : ℕ) (k : Cell) (l : List (Fin 8)) (h : ∀ p, n < lvl p k) : Above n (sigO k l) :=
  Above.sum _ _ fun p _ => Above.tally p k _ (h p)

theorem depth_child (d : Fin 8) (i : Fin 3 × Fin 8) (h : i ∈ children d) : depth i.2 = depth d + 1 ∧ parent i.2 = some d := by
  revert d i; decide

theorem above_half (d c : Fin 8) (h : Fin 2) (l : List (Fin 3 × Fin 8)) (hl : ∀ i ∈ l, i ∈ children d) : Above (2 + depth d) (halfO c h l) :=
  Above.sum _ _ fun i hi => Above.tally i.2 _ _ (by show 2 + depth d < 2 + depth i.2; have := (depth_child d i (hl i hi)).1; omega)
theorem above_chunk (d c : Fin 8) (l : List (Fin 2)) : Above (2 + depth d) (chunkO d c l) :=
  Above.sum _ _ fun h _ => above_half d c h _ fun _ hi => hi
theorem above_sends (d : Fin 8) (l : List (Fin 8)) : Above (2 + depth d) (sendsO d l) :=
  Above.sum _ _ fun c _ => above_chunk d c _
theorem above_parts (l : List (Fin 8)) : Above 1 (partsO l) :=
  Above.sum _ _ fun c _ => Above.tally 0 _ _ (by show 1 < 2; omega)
theorem Above.mono {n n' : ℕ} {O : CellTallies nD τ sig Unit} (h : Above n O) (hn : n' ≤ n) : Above n' O :=
  fun g u hg => ⟨(h g u hg).1, lt_of_le_of_lt hn (h g u hg).2⟩
theorem above_work (d : Fin 8) : Above 1 (workO d) := by
  refine Above.add ?_ ((above_sends d _).mono (by omega))
  split
  · exact above_parts _
  · exact Above.zero _
theorem above_clo (l : List (Fin 8)) : Above 9 (sigO kClo l) := above_sig 9 kClo l fun _ => by show 9 < 10; omega
theorem above_O₀ (d : Fin 8) : Above 0 (O₀ d) :=
  (above_sig 0 kBar _ fun _ => Nat.one_pos).add (((above_work d).mono (by omega)).add ((above_clo _).mono (by omega)))

end Cert.KernelIdeal.Mine

end
-- ==== Proof.KI.Steps.lean ====
/-
  One rule per step of the body: what it takes and what it gives back.
-/
module

public import proofs.«01_k».proof.Proof.KI.Sched

@[expose] public section

set_option synthInstance.maxSize 4096

noncomputable section

namespace Cert.KernelIdeal.Mine

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Transfers (shareTokN shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

/-- The kernels' variants: none. -/
abbrev 𝒱₀ : Variants := Variants.none

/-- A program run by the TensorCore of device `d`. -/
abbrev WP {α : Type} (d : Fin 8) (p : Prog (E F) α) (Q : α → sProp 𝕄) : sProp 𝕄 :=
  wp frame (wpE (defs₀ (F := F)) 𝒱₀ ((d : Dev nD) : Thread nD τ) none) Set.univ p Q

/-- All cells' invariants, and that every cell stands at round 0. -/
def records (K : Fin 8 × Cell → ℕ) : sProp 𝕄 :=
  iprop((bigSep Finset.univ fun ck : Fin 8 × Cell => cellInv ER (Rd m ρ) (K ck) (cellAt ck.1 ck.2))
    ∗ bigSep Finset.univ fun ck : Fin 8 × Cell => reached ER (cellAt ck.1 ck.2) 0)

instance records_persistent (K : Fin 8 × Cell → ℕ) : BI.Persistent (records m ρ K) := by unfold records; infer_instance

/-- What every step may use: the records and the order of the cells. -/
def ctx (K : Fin 8 × Cell → ℕ) : sProp 𝕄 := iprop(records m ρ K ∗ levAts L lv)

instance ctx_persistent (K : Fin 8 × Cell → ℕ) : BI.Persistent (ctx m ρ K) := by unfold ctx; infer_instance

theorem ctx_inv (K : Fin 8 × Cell → ℕ) (d : Fin 8) (k : Cell) : ctx m ρ K ⊢ cellInv ER (Rd m ρ) (K (d, k)) (cellAt d k) := by
  have h : (bigSep Finset.univ fun ck : Fin 8 × Cell => (cellInv ER (Rd m ρ) (K ck) (cellAt ck.1 ck.2) : sProp 𝕄))
      ⊢ cellInv ER (Rd m ρ) (K (d, k)) (cellAt d k) := bigSep_elim (Finset.mem_univ (d, k))
  unfold ctx records
  iintro ⟨⟨HI, -⟩, -⟩
  iapply h; iexact HI
theorem ctx_reached (K : Fin 8 × Cell → ℕ) (d : Fin 8) (k : Cell) : ctx m ρ K ⊢ reached ER (cellAt d k) 0 := by
  have h : (bigSep Finset.univ fun ck : Fin 8 × Cell => (reached ER (cellAt ck.1 ck.2) 0 : sProp 𝕄))
      ⊢ reached ER (cellAt d k) 0 := bigSep_elim (Finset.mem_univ (d, k))
  unfold ctx records
  iintro ⟨⟨-, HR⟩, -⟩
  iapply h; iexact HR
theorem ctx_lev (K : Fin 8 × Cell → ℕ) : ctx m ρ K ⊢ levAts L lv := by
  unfold ctx
  iintro ⟨-, H⟩; iexact H

/-- A device still owes `O`. -/
def owesE (d : Fin 8) (O : CellTallies nD τ sig Unit) : sProp 𝕄 := iprop(∃ W, owes ((d : Dev nD) : Thread nD τ) O W)

/-- Its position on a cell: `r` rounds done. -/
abbrev pos (d : Fin 8) (k : Cell) (r : ℕ) : sProp 𝕄 := atPos ER (cellAt d k) r ∅ 0
/-- Its right to pay a duty, -/
abbrev tok (p : Fin 8) (k : Cell) (d : Fin 8) : sProp 𝕄 := dutyTok ER (cellAt p k) 0 d
/-- and its credit on a cell. -/
abbrev crd (d : Fin 8) (k : Cell) (n : ℕ) : sProp 𝕄 := cred (tallyAt (cellAt d k) () n)

/-! ## Loops -/

theorem wp_seqL {α : Type} (d : Fin 8) (f : α → Prog (E F) PUnit) (I : List α → sProp 𝕄)
    (h : ∀ a l (Kt : PUnit → sProp 𝕄), iprop(I (a :: l) ∗ (I l -∗ Kt ⟨⟩)) ⊢ WP d (f a) Kt) :
    ∀ (l : List α) (Kt : PUnit → sProp 𝕄), iprop(I l ∗ (I [] -∗ Kt ⟨⟩)) ⊢ WP d (seqL f l) Kt
  | [], Kt => by
    unfold seqL WP; rw [Prog.pure_eq_ret, wp_ret]
    iintro ⟨HI, HK⟩
    imodintro
    iapply HK; iexact HI
  | a :: l, Kt => by
    unfold seqL
    show _ ⊢ WP d (f a >>= fun _ => seqL f l) Kt
    rw [WP, wp_bind]
    iintro ⟨HI, HK⟩
    iapply (h a l)
    isplitl [HI]; · iexact HI
    iintro HI
    iapply (wp_seqL d f I h l Kt)
    isplitl [HI]; · iexact HI
    iexact HK

/-! ## Signals and waits -/

theorem step_signal (K : Fin 8 × Cell → ℕ) (d p : Fin 8) (k : Cell) (s : Sem sig) (hs : csem k = .reg s) (hd : d ∈ dut p k)
    (ha : amt k = 1) (O : CellTallies nD τ sig Unit) (Kt : PUnit → sProp 𝕄) :
    iprop(ctx m ρ K ∗ owesE d (tallyAt (cellAt p k) () 1 + O) ∗ tok p k d ∗ pay m ρ p k d ∗ (owesE d O -∗ Kt ⟨⟩))
      ⊢ WP d (semSignalWord (p : Dev nD) s 1#32) Kt := by
  have hcell : cellAt p k = (((p : Dev nD) : Thread nD τ), SemLoc.reg s) := by unfold cellAt; rw [hs]
  have hI := ctx_inv m ρ K p k
  have hR := ctx_reached m ρ K p k
  have hmem : d ∈ (Rd m ρ).duties (cellAt p k) 0 := by rw [duties_at]; exact hd
  have ham := (amount_at m ρ p k 0 d).trans (ha.trans (by decide : 1 = (1#32 : BitVec 32).toInt.toNat))
  rw [← payload_at m ρ p k 0 d]
  unfold owesE WP tok
  simp only [semSignalWord, Prog.lift]
  rw [hcell] at hI hR hmem ham ⊢
  iintro ⟨#Hc, ⟨%W, HO⟩, Ht, Hp, HK⟩
  ihave #HI := hI $$ Hc
  ihave #HR := hR $$ Hc
  iapply (Rounds.wp_signal 𝒱₀ ER (Rd m ρ) ((d : Dev nD) : Thread nD τ) none (dst := ((p : Dev nD) : Thread nD τ)) (κ := K (p, k)) (d := d)
    hmem ham () O (add_comm _ _)) $$ [HO Ht Hp]
  · isplitr; · iexact HI
    isplitl [HO]; · iexact HO
    isplitl [Ht]; · iexact Ht
    isplitl [Hp]; · iexact Hp
    iexact HR
  iintro HO
  rw [wp_ret]; imodintro
  iapply HK
  iexists W; iexact HO

theorem step_wait (K : Fin 8 × Cell → ℕ) (d : Fin 8) (k : Cell) (s : Sem sig) (hs : csem k = .reg s) (w : BitVec 32) (n : ℕ)
    (hw : w.toInt = (n : ℤ)) (he : (dut d k).card * amt k = n) (O : CellTallies nD τ sig Unit) (hO : Above (lvl d k) O)
    (Kt : PUnit → sProp 𝕄) :
    iprop(ctx m ρ K ∗ crd d k n ∗ owesE d O ∗ pos d k 0
        ∗ ((owesE d O ∗ pos d k 1 ∗ bigSep (dut d k) (pay m ρ d k)) -∗ Kt ⟨⟩))
      ⊢ WP d (semWaitWord s w) Kt := by
  have hcell : cellAt d k = (((d : Dev nD) : Thread nD τ), SemLoc.reg s) := by unfold cellAt; rw [hs]
  have hI := ctx_inv m ρ K d k
  have hL := (ctx_lev m ρ K).trans (mayWait (F := F) d k O hO)
  have hex := (expect_at m ρ d k).trans he
  have hrest := rest_at m ρ d k
  unfold owesE WP pos crd
  simp only [semWaitWord, Prog.lift]
  rw [hcell] at hI hex hrest
  rw [hs] at hL
  rw [hcell, hw]
  iintro ⟨#Hc, Hcr, ⟨%W, HO⟩, Hat, HK⟩
  ihave #HI := hI $$ Hc
  iapply (Rounds.wp_wait_rest_token 𝒱₀ ER (Rd m ρ) ((d : Dev nD) : Thread nD τ) none (κ := K (d, k))
      (wpE_semWait_eq 𝒱₀ ((d : Dev nD) : Thread nD τ) none Set.univ) (Set.mem_univ _) () (O := O) (W := W) (R := 0) (m := 0) (T := ∅)
      (by rw [hex, Nat.zero_add])) $$ [Hcr HO Hat]
  · isplitr; · iexact HI
    isplitl [Hcr]; · iexact Hcr
    isplitl [HO]; · iexact HO
    isplitr; · iapply hL; iexact Hc
    iexact Hat
  iintro ⟨HO, Hat, -, Hpay⟩
  rw [wp_ret]; imodintro
  iapply HK
  isplitl [HO]; · iexists _; iexact HO
  isplitl [Hat]; · iexact Hat
  iapply (Entails.of_eq hrest); iexact Hpay

theorem step_waitHalf (K : Fin 8 × Cell → ℕ) (d : Fin 8) (k : Cell) (g : DmaSem sig) (hs : csem k = .dma g) (c : Fin 8) (h : Fin 2)
    (ha : amt k = (mFh c h).view.dmaCredit) (u : Fin 8) (hu : dut d k = {u}) (O : CellTallies nD τ sig Unit) (hO : Above (lvl d k) O)
    (Kt : PUnit → sProp 𝕄) :
    iprop(ctx m ρ K ∗ crd d k (amt k) ∗ owesE d O ∗ pos d k 0 ∗ ((owesE d O ∗ pos d k 1 ∗ pay m ρ d k u) -∗ Kt ⟨⟩))
      ⊢ WP d (waitHalf g c h) Kt := by
  have hcell : cellAt d k = (((d : Dev nD) : Thread nD τ), SemLoc.dma g) := by unfold cellAt; rw [hs]
  have hI := ctx_inv m ρ K d k
  have hL := (ctx_lev m ρ K).trans (mayWait (F := F) d k O hO)
  have hex := expect_at m ρ d k
  rw [hu, Finset.card_singleton, Nat.one_mul, ha] at hex
  have hrest := rest_at m ρ d k
  rw [hu, bigSep_singleton] at hrest
  unfold owesE WP pos crd waitHalf
  simp only [Prog.lift]
  rw [hcell] at hI hex hrest
  rw [hs] at hL
  rw [hcell, ha]
  iintro ⟨#Hc, Hcr, ⟨%W, HO⟩, Hat, HK⟩
  ihave #HI := hI $$ Hc
  iapply (Rounds.wp_wait_rest_token 𝒱₀ ER (Rd m ρ) ((d : Dev nD) : Thread nD τ) none (κ := K (d, k))
      (wpE_waitDma2_eq 𝒱₀ ((d : Dev nD) : Thread nD τ) none Set.univ) (Set.mem_univ _) () (O := O) (W := W) (R := 0) (m := 0) (T := ∅)
      (by rw [hex, Nat.zero_add])) $$ [Hcr HO Hat]
  · isplitr; · iexact HI
    isplitl [Hcr]; · iexact Hcr
    isplitl [HO]; · iexact HO
    isplitr; · iapply hL; iexact Hc
    iexact Hat
  iintro ⟨HO, Hat, -, Hpay⟩
  rw [wp_ret]; imodintro
  iapply HK
  isplitl [HO]; · iexists _; iexact HO
  isplitl [Hat]; · iexact Hat
  iapply (Entails.of_eq hrest); iexact Hpay

theorem step_waitPart (K : Fin 8 × Cell → ℕ) (d : Fin 8) (k : Cell) (g : DmaSem sig) (hs : csem k = .dma g) (c : Fin 8)
    (ha : amt k = (mTc c).view.dmaCredit) (u : Fin 8) (hu : dut d k = {u}) (O : CellTallies nD τ sig Unit) (hO : Above (lvl d k) O)
    (Kt : PUnit → sProp 𝕄) :
    iprop(ctx m ρ K ∗ crd d k (amt k) ∗ owesE d O ∗ pos d k 0 ∗ ((owesE d O ∗ pos d k 1 ∗ pay m ρ d k u) -∗ Kt ⟨⟩))
      ⊢ WP d (waitPart g c) Kt := by
  have hcell : cellAt d k = (((d : Dev nD) : Thread nD τ), SemLoc.dma g) := by unfold cellAt; rw [hs]
  have hI := ctx_inv m ρ K d k
  have hL := (ctx_lev m ρ K).trans (mayWait (F := F) d k O hO)
  have hex := expect_at m ρ d k
  rw [hu, Finset.card_singleton, Nat.one_mul, ha] at hex
  have hrest := rest_at m ρ d k
  rw [hu, bigSep_singleton] at hrest
  unfold owesE WP pos crd waitPart
  simp only [Prog.lift]
  rw [hcell] at hI hex hrest
  rw [hs] at hL
  rw [hcell, ha]
  iintro ⟨#Hc, Hcr, ⟨%W, HO⟩, Hat, HK⟩
  ihave #HI := hI $$ Hc
  iapply (Rounds.wp_wait_rest_token 𝒱₀ ER (Rd m ρ) ((d : Dev nD) : Thread nD τ) none (κ := K (d, k))
      (wpE_waitDma2_eq 𝒱₀ ((d : Dev nD) : Thread nD τ) none Set.univ) (Set.mem_univ _) () (O := O) (W := W) (R := 0) (m := 0) (T := ∅)
      (by rw [hex, Nat.zero_add])) $$ [Hcr HO Hat]
  · isplitr; · iexact HI
    isplitl [Hcr]; · iexact Hcr
    isplitl [HO]; · iexact HO
    isplitr; · iapply hL; iexact Hc
    iexact Hat
  iintro ⟨HO, Hat, -, Hpay⟩
  rw [wp_ret]; imodintro
  iapply HK
  isplitl [HO]; · iexists _; iexact HO
  isplitl [Hat]; · iexact Hat
  iapply (Entails.of_eq hrest); iexact Hpay

/-! ## Copies -/

theorem dut_child (d : Fin 8) (i : Fin 3 × Fin 8) (hi : i ∈ children d) (c : Fin 8) (h : Fin 2) :
    d ∈ dut i.2 (kRF c h) ∧ dut d (kSF i.1 c h) = {d} := by
  constructor
  · show d ∈ (parent i.2).toFinset
    rw [(depth_child d i hi).2]; exact Finset.mem_singleton_self d
  · have : i.1.1 < (children d).length := by revert d i; decide
    exact if_pos this

/-- A half copied: what lands is what was sent. -/
theorem landed (c : Fin 8) (h : Fin 2) (f g : S8x512x128.Idx → F .bf16) (i : S8x512x128.Idx) (hi : i ∈ (mFh c h).view.set) :
    (mFh c h).view.write (Elt F) f ((mFh c h).view.read (Elt F) g) Finset.univ i = g i := by
  rw [View.write_read_eq_piecewise]
  exact Finset.piecewise_eq_of_mem _ _ _ hi

theorem landedT (c : Fin 8) (f g : S8x128x256.Idx → F .bf16) (i : S8x128x256.Idx) (hi : i ∈ (mTc c).view.set) :
    (mTc c).view.write (Elt F) f ((mTc c).view.read (Elt F) g) Finset.univ i = g i := by
  rw [View.write_read_eq_piecewise]
  exact Finset.piecewise_eq_of_mem _ _ _ hi

theorem step_sendHalf (K : Fin 8 × Cell → ℕ) (d : Fin 8) (c : Fin 8) (h : Fin 2) (i : Fin 3 × Fin 8) (hi : i ∈ children d)
    (O : CellTallies nD τ sig Unit) (Kt : PUnit → sProp 𝕄) :
    iprop(ctx m ρ K ∗ fH d c h (shareTokN fullShare i.1.1) (FV m ρ) ∗ (∃ f, fH i.2 c h fullShare f)
        ∗ owesE d (tallyAt (cellAt i.2 (kRF c h)) () (amt (kRF c h)) + O) ∗ tok d (kSF i.1 c h) d ∗ tok i.2 (kRF c h) d
        ∗ ((crd d (kSF i.1 c h) (amt (kSF i.1 c h)) ∗ owesE d O) -∗ Kt ⟨⟩))
      ⊢ WP d (sendHalf c h i) Kt := by
  have hI₁ := ctx_inv m ρ K d (kSF i.1 c h)
  have hR₁ := ctx_reached m ρ K d (kSF i.1 c h)
  have hI₂ := ctx_inv m ρ K i.2 (kRF c h)
  have hR₂ := ctx_reached m ρ K i.2 (kRF c h)
  unfold owesE WP sendHalf fH
  simp only [Prog.lift]
  iintro ⟨#Hc, Hs, ⟨%fn, Hd⟩, ⟨%W, HO⟩, Ht₁, Ht₂, HK⟩
  ihave #HI₁ := hI₁ $$ Hc
  ihave #HR₁ := hR₁ $$ Hc
  ihave #HI₂ := hI₂ $$ Hc
  ihave #HR₂ := hR₂ $$ Hc
  iapply (Rounds.wp_send_pointsTo 𝒱₀ ER (Rd m ρ) ((d : Dev nD) : Thread nD τ) none (κ₁ := K (d, kSF i.1 c h)) (κ₂ := K (i.2, kRF c h))
    (r₁ := 0) (r₂ := 0) (d₁ := d) (d₂ := d) (fd := fn)
    (by rw [duties_at m ρ d (kSF i.1 c h), (dut_child d i hi c h).2]; exact Finset.mem_singleton_self _)
    (by rw [duties_at m ρ i.2 (kRF c h)]; exact (dut_child d i hi c h).1)
    () () (amt (kRF c h)) rfl (amount_at m ρ d (kSF i.1 c h) 0 d) (amount_at m ρ i.2 (kRF c h) 0 d) O (add_comm _ _) (W := W)
    (by rw [payload_at m ρ d (kSF i.1 c h)]; exact BI.Entails.refl _)
    (by
      rw [payload_at m ρ i.2 (kRF c h)]
      exact Entails.of_eq (pointsTo_congr fun x hx => landed c h _ _ x hx))) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hcr, HO⟩
  rw [wp_ret]; imodintro
  iapply HK
  isplitl [Hcr]; · iexact Hcr
  iexists W; iexact HO

theorem step_sendPart (K : Fin 8 × Cell → ℕ) (c : Fin 8) (f : S8x128x256.Idx → F .bf16) (hf : IsPart m ρ c f)
    (O : CellTallies nD τ sig Unit) (Kt : PUnit → sProp 𝕄) :
    iprop(ctx m ρ K ∗ tC 1 c f ∗ (∃ f, tC 0 c f)
        ∗ owesE 1 (tallyAt (cellAt 0 (kRT c)) () (amt (kRT c)) + O) ∗ tok 1 (kST c) 1 ∗ tok 0 (kRT c) 1
        ∗ ((crd 1 (kST c) (amt (kST c)) ∗ owesE 1 O) -∗ Kt ⟨⟩))
      ⊢ WP 1 (sendPart c) Kt := by
  have hI₁ := ctx_inv m ρ K 1 (kST c)
  have hR₁ := ctx_reached m ρ K 1 (kST c)
  have hI₂ := ctx_inv m ρ K 0 (kRT c)
  have hR₂ := ctx_reached m ρ K 0 (kRT c)
  unfold owesE WP sendPart tC
  simp only [Prog.lift]
  iintro ⟨#Hc, Hs, ⟨%fn, Hd⟩, ⟨%W, HO⟩, Ht₁, Ht₂, HK⟩
  ihave #HI₁ := hI₁ $$ Hc
  ihave #HR₁ := hR₁ $$ Hc
  ihave #HI₂ := hI₂ $$ Hc
  ihave #HR₂ := hR₂ $$ Hc
  iapply (Rounds.wp_send_pointsTo 𝒱₀ ER (Rd m ρ) (((1 : Fin 8) : Dev nD) : Thread nD τ) none (κ₁ := K (1, kST c)) (κ₂ := K (0, kRT c))
    (r₁ := 0) (r₂ := 0) (d₁ := 1) (d₂ := 1) (fd := fn)
    (by rw [duties_at m ρ 1 (kST c)]; exact Finset.mem_singleton_self _)
    (by rw [duties_at m ρ 0 (kRT c)]; exact Finset.mem_singleton_self _)
    () () (amt (kRT c)) rfl (amount_at m ρ 1 (kST c) 0 1) (amount_at m ρ 0 (kRT c) 0 1) O (add_comm _ _) (W := W)
    (by
      rw [payload_at m ρ 1 (kST c)]
      show _ ⊢ iprop(∃ f, tC 1 c f)
      unfold tC
      iintro H; iexists f; iexact H)
    (by
      rw [payload_at m ρ 0 (kRT c)]
      show _ ⊢ iprop(∃ f, ⌜IsPart m ρ c f⌝ ∗ tC 0 c f)
      unfold tC
      iintro H
      iexists f
      isplitr; · ipureintro; exact hf
      iapply (Entails.of_eq (pointsTo_congr fun x hx => landedT c _ _ x hx)); iexact H)) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hcr, HO⟩
  rw [wp_ret]; imodintro
  iapply HK
  isplitl [Hcr]; · iexact Hcr
  iexists W; iexact HO

end Cert.KernelIdeal.Mine

end
-- ==== Proof.KI.Mem.lean ====
/-
  The loads and stores, and the regions they touch.
-/
module

public import proofs.«01_k».proof.Proof.KI.Steps

@[expose] public section

set_option synthInstance.maxSize 4096

noncomputable section

namespace Cert.KernelIdeal.Mine

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Transfers (shareTokN shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Lists -/

theorem sepL_nil {α : Type} (Φ : α → sProp 𝕄) : sepL [] Φ = iprop(emp) := rfl
theorem sepL_cons {α : Type} (a : α) (l : List α) (Φ : α → sProp 𝕄) : sepL (a :: l) Φ = iprop(Φ a ∗ sepL l Φ) := rfl

theorem sepL_mono {α : Type} (l : List α) {Φ Ψ : α → sProp 𝕄} (h : ∀ a ∈ l, Φ a ⊢ Ψ a) : sepL l Φ ⊢ sepL l Ψ := by
  induction l with
  | nil => exact BI.Entails.refl _
  | cons a l ih =>
    rw [sepL_cons, sepL_cons]
    iintro ⟨H, HL⟩
    isplitl [H]
    · iapply (h a List.mem_cons_self); iexact H
    · iapply (ih fun x hx => h x (List.mem_cons_of_mem _ hx)); iexact HL

theorem sepL_sep {α : Type} (l : List α) (Φ Ψ : α → sProp 𝕄) :
    sepL l (fun a => iprop(Φ a ∗ Ψ a)) ⊣⊢ iprop(sepL l Φ ∗ sepL l Ψ) := by
  induction l with
  | nil =>
    rw [sepL_nil, sepL_nil, sepL_nil]
    exact ⟨Laws.sep_emp.2, Laws.sep_emp.1⟩
  | cons a l ih =>
    rw [sepL_cons, sepL_cons, sepL_cons]
    constructor
    · iintro ⟨⟨H1, H2⟩, HL⟩
      ihave HL := ih.1 $$ HL
      icases HL with ⟨HL1, HL2⟩
      isplitl [H1 HL1]
      · isplitl [H1] <;> iassumption
      · isplitl [H2] <;> iassumption
    · iintro ⟨⟨H1, HL1⟩, H2, HL2⟩
      isplitl [H1 H2]
      · isplitl [H1] <;> iassumption
      iapply ih.2
      isplitl [HL1] <;> iassumption

/-- A loop whose steps turn `P a` into `Q a`, over a state `R` of what is left to do. -/
theorem wp_each {α : Type} (d : Fin 8) (f : α → Prog (E F) PUnit) (P Q : α → sProp 𝕄) (R : List α → sProp 𝕄) :
    ∀ (l : List α) (h : ∀ a ∈ l, ∀ l' (Kt : PUnit → sProp 𝕄), iprop(R (a :: l') ∗ P a ∗ ((R l' ∗ Q a) -∗ Kt ⟨⟩)) ⊢ WP d (f a) Kt)
      (Kt : PUnit → sProp 𝕄), iprop(R l ∗ sepL l P ∗ ((R [] ∗ sepL l Q) -∗ Kt ⟨⟩)) ⊢ WP d (seqL f l) Kt
  | [], _, Kt => by
    unfold seqL WP; rw [Prog.pure_eq_ret, wp_ret]
    iintro ⟨HR, -, HK⟩
    imodintro
    iapply HK
    isplitl [HR]; · iexact HR
    rw [sepL_nil]; iempintro
  | a :: l, h, Kt => by
    unfold seqL
    show _ ⊢ WP d (f a >>= fun _ => seqL f l) Kt
    rw [WP, wp_bind, sepL_cons, sepL_cons]
    iintro ⟨HR, ⟨HP, HL⟩, HK⟩
    iapply (h a List.mem_cons_self l)
    isplitl [HR]; · iexact HR
    isplitl [HP]; · iexact HP
    iintro ⟨HR, HQ⟩
    iapply (wp_each d f P Q R l (fun x hx => h x (List.mem_cons_of_mem _ hx)) Kt)
    isplitl [HR]; · iexact HR
    isplitl [HL]; · iexact HL
    iintro ⟨HR, HL⟩
    iapply HK
    isplitl [HR]; · iexact HR
    isplitl [HQ] <;> iassumption

/-! ## Loads and stores -/

theorem step_ldst (d : Fin 8) {cs : CoreSpace} {s : Shape} {e : EltTy} (M : Memref sig .tc cs s e)
    (r : Rect s) (hl : M.view.LoadsAt r.toLoadRect) (v : r.shape.Idx → Elt F e) (hx : (M.access r).Stores Finset.univ)
    (hm : (Finset.univ : Finset r.shape.Idx) = Finset.univ ∨ ∀ a, r.stride a = 1)
    (S : Finset (Idx ((M.access r).loc ((d : Dev nD) : Thread nD τ)))) (hS : (M.access r).set ⊆ S)
    (f : Buf (Elt F) ((M.access r).loc ((d : Dev nD) : Thread nD τ))) (Kt : PUnit → sProp 𝕄) :
    iprop(((M.access r).loc ((d : Dev nD) : Thread nD τ) ↦[S]{fullShare} f)
        ∗ (((M.access r).loc ((d : Dev nD) : Thread nD τ) ↦[S]{fullShare} (M.access r).write (Elt F) f v Finset.univ) -∗ Kt ⟨⟩))
      ⊢ WP d ((Prog.lift (.load M r.toLoadRect hl) : Prog (E F) _).bind fun _ => Prog.lift (.store M r v Finset.univ hx hm)) Kt := by
  unfold WP
  simp only [Prog.lift, Prog.bind_op, Prog.bind_ret]
  iintro ⟨H, HK⟩
  iapply (wp_load 𝒱₀ ((d : Dev nD) : Thread nD τ) none Set.univ (m := M) (S := S)
    ((View.set_slice M.view r).ge.trans hS)) $$ H; iintro H
  iapply (wp_store 𝒱₀ ((d : Dev nD) : Thread nD τ) none Set.univ (m := M) (r := r) (Mk := Finset.univ) (S := S)
    ((View.setOn_subset_set _ _).trans hS)) $$ H; iintro H
  rw [wp_ret]; imodintro
  iapply HK; iexact H

/-! ## The regions -/

abbrev SFh (c : Fin 8) (h : Fin 2) : Finset (Idx (fLoc 0)) := (mF.access (rFh c h)).set
abbrev STc (c : Fin 8) : Finset (Idx (tLoc 0)) := (mT.access (rT c)).set

theorem fH_eq (d c : Fin 8) (h : Fin 2) (q : PosShare TreeShare) (f : S8x512x128.Idx → F .bf16) :
    fH d c h q f = (fLoc d ↦[(mF.access (rFh c h)).set]{q} f : sProp 𝕄) := by
  unfold fH
  rw [show (mFh c h).view.set = (mF.access (rFh c h)).set from View.set_reshape _ _]

theorem tC_eq (d c : Fin 8) (f : S8x128x256.Idx → F .bf16) :
    tC d c f = (tLoc d ↦[(mT.access (rT c)).set]{fullShare} f : sProp 𝕄) := by
  unfold tC
  rw [show (mTc c).view.set = (mT.access (rT c)).set from View.set_reshape _ _]

theorem memF {off size : Fin 3 → ℕ} {inb : ∀ a, off a + size a ≤ S8x512x128.size a} {i : S8x512x128.Idx} :
    i ∈ (mF.access (Rect.unit (s := S8x512x128) off size inb)).set
      ↔ (off 0 ≤ (i 0).1 ∧ (i 0).1 < off 0 + size 0) ∧ (off 1 ≤ (i 1).1 ∧ (i 1).1 < off 1 + size 1)
        ∧ (off 2 ≤ (i 2).1 ∧ (i 2).1 < off 2 + size 2) := by
  rw [show (mF.access (Rect.unit (s := S8x512x128) off size inb)).set = (Rect.unit (s := S8x512x128) off size inb).set from
    View.set_slice_whole _ _, Rect.mem_set_unit]
  exact ⟨fun h => ⟨h 0, h 1, h 2⟩, fun h a => match a with | 0 => h.1 | 1 => h.2.1 | 2 => h.2.2⟩

theorem memT {off size : Fin 3 → ℕ} {inb : ∀ a, off a + size a ≤ S8x128x256.size a} {i : S8x128x256.Idx} :
    i ∈ (mT.access (Rect.unit (s := S8x128x256) off size inb)).set
      ↔ (off 0 ≤ (i 0).1 ∧ (i 0).1 < off 0 + size 0) ∧ (off 1 ≤ (i 1).1 ∧ (i 1).1 < off 1 + size 1)
        ∧ (off 2 ≤ (i 2).1 ∧ (i 2).1 < off 2 + size 2) := by
  rw [show (mT.access (Rect.unit (s := S8x128x256) off size inb)).set = (Rect.unit (s := S8x128x256) off size inb).set from
    View.set_slice_whole _ _, Rect.mem_set_unit]
  exact ⟨fun h => ⟨h 0, h 1, h 2⟩, fun h a => match a with | 0 => h.1 | 1 => h.2.1 | 2 => h.2.2⟩

theorem inFh (c : Fin 8) (h : Fin 2) (i : S8x512x128.Idx) :
    i ∈ (mF.access (rFh c h)).set ↔ (i 0).1 = c.1 ∧ (i 1).1 / 256 = h.1 := by
  have e0 : (i 0).1 < 8 := (i 0).2
  have e1 : (i 1).1 < 512 := (i 1).2
  have e2 : (i 2).1 < 128 := (i 2).2
  rw [memF]
  show (c.1 ≤ (i 0).1 ∧ (i 0).1 < c.1 + 1) ∧ (256 * h.1 ≤ (i 1).1 ∧ (i 1).1 < 256 * h.1 + 256) ∧ (0 ≤ (i 2).1 ∧ (i 2).1 < 0 + 128) ↔ _
  omega
theorem inFc (c : Fin 8) (i : S8x512x128.Idx) : i ∈ (mF.access (rFc c)).set ↔ (i 0).1 = c.1 := by
  have e0 : (i 0).1 < 8 := (i 0).2
  have e1 : (i 1).1 < 512 := (i 1).2
  have e2 : (i 2).1 < 128 := (i 2).2
  rw [memF]
  show (c.1 ≤ (i 0).1 ∧ (i 0).1 < c.1 + 1) ∧ (0 ≤ (i 1).1 ∧ (i 1).1 < 0 + 512) ∧ (0 ≤ (i 2).1 ∧ (i 2).1 < 0 + 128) ↔ _
  omega
theorem inFt (c : Fin 8) (s : Fin 2) (i : S8x512x128.Idx) :
    i ∈ (mF.access (rFt c s)).set ↔ (i 0).1 = c.1 ∧ (i 1).1 < 256 ∧ (i 2).1 / 64 = s.1 := by
  rw [memF]
  show (c.1 ≤ (i 0).1 ∧ (i 0).1 < c.1 + 1) ∧ (0 ≤ (i 1).1 ∧ (i 1).1 < 0 + 256) ∧ (64 * s.1 ≤ (i 2).1 ∧ (i 2).1 < 64 * s.1 + 64) ↔ _
  omega
theorem inFm (c : Fin 8) (s : Fin 2) (i : S8x512x128.Idx) :
    i ∈ (mF.access (rFm c s)).set ↔ (i 0).1 = c.1 ∧ (256 ≤ (i 1).1 ∧ (i 1).1 < 384) ∧ (i 2).1 / 64 = s.1 := by
  rw [memF]
  show (c.1 ≤ (i 0).1 ∧ (i 0).1 < c.1 + 1) ∧ (256 ≤ (i 1).1 ∧ (i 1).1 < 256 + 128) ∧ (64 * s.1 ≤ (i 2).1 ∧ (i 2).1 < 64 * s.1 + 64) ↔ _
  omega
theorem inFb (c : Fin 8) (s : Fin 2) (i : S8x512x128.Idx) :
    i ∈ (mF.access (rFb c s)).set ↔ (i 0).1 = c.1 ∧ 384 ≤ (i 1).1 ∧ (i 2).1 / 64 = s.1 := by
  have e1 : (i 1).1 < 512 := (i 1).2
  rw [memF]
  show (c.1 ≤ (i 0).1 ∧ (i 0).1 < c.1 + 1) ∧ (384 ≤ (i 1).1 ∧ (i 1).1 < 384 + 128) ∧ (64 * s.1 ≤ (i 2).1 ∧ (i 2).1 < 64 * s.1 + 64) ↔ _
  omega
theorem inT (c : Fin 8) (i : S8x128x256.Idx) : i ∈ (mT.access (rT c)).set ↔ (i 0).1 = c.1 := by
  have e1 : (i 1).1 < 128 := (i 1).2
  have e2 : (i 2).1 < 256 := (i 2).2
  rw [memT]
  show (c.1 ≤ (i 0).1 ∧ (i 0).1 < c.1 + 1) ∧ (0 ≤ (i 1).1 ∧ (i 1).1 < 0 + 128) ∧ (0 ≤ (i 2).1 ∧ (i 2).1 < 0 + 256) ↔ _
  omega
theorem inTc (c : Fin 8) (s : Fin 2) (i : S8x128x256.Idx) :
    i ∈ (mT.access (rTc c s)).set ↔ (i 0).1 = c.1 ∧ (i 2).1 / 64 = s.1 := by
  have e1 : (i 1).1 < 128 := (i 1).2
  rw [memT]
  show (c.1 ≤ (i 0).1 ∧ (i 0).1 < c.1 + 1) ∧ (0 ≤ (i 1).1 ∧ (i 1).1 < 0 + 128) ∧ (64 * s.1 ≤ (i 2).1 ∧ (i 2).1 < 64 * s.1 + 64) ↔ _
  omega
theorem inTs (c : Fin 8) (s : Fin 2) (i : S8x128x256.Idx) :
    i ∈ (mT.access (rTs c s)).set ↔ (i 0).1 = c.1 ∧ (i 2).1 = 128 + s.1 := by
  have e1 : (i 1).1 < 128 := (i 1).2
  rw [memT]
  show (c.1 ≤ (i 0).1 ∧ (i 0).1 < c.1 + 1) ∧ (0 ≤ (i 1).1 ∧ (i 1).1 < 0 + 128) ∧ (128 + s.1 ≤ (i 2).1 ∧ (i 2).1 < 128 + s.1 + 1) ↔ _
  omega

/-! ## Pieces of a context buffer and whole halves -/

/-- The two halves of a chunk held at one share are the chunk. -/
theorem chunk_eq (d c : Fin 8) (q : PosShare TreeShare) (f : S8x512x128.Idx → F .bf16) :
    iprop(fH d c 0 q f ∗ fH d c 1 q f) ⊣⊢ (fLoc d ↦[(mF.access (rFc c)).set]{q} f : sProp 𝕄) := by
  rw [fH_eq, fH_eq]
  have hU : (mF.access (rFc c)).set = (mF.access (rFh c 0)).set ∪ (mF.access (rFh c 1)).set := by
    ext i
    have e1 : (i 1).1 < 512 := (i 1).2
    rw [Finset.mem_union, inFc, inFh, inFh]
    show _ ↔ ((i 0).1 = c.1 ∧ (i 1).1 / 256 = 0) ∨ ((i 0).1 = c.1 ∧ (i 1).1 / 256 = 1)
    omega
  have hD : Disjoint (mF.access (rFh c 0)).set (mF.access (rFh c 1)).set := by
    rw [Finset.disjoint_left]
    intro i h0 h1
    have h0' := ((inFh c 0 i).mp h0).2
    have h1' := ((inFh c 1 i).mp h1).2
    rw [h0'] at h1'
    exact absurd h1' (by decide)
  rw [hU]
  exact ⟨(pointsTo_union hD).2, (pointsTo_union hD).1⟩

/-- A region cut in two. -/
theorem cut {ℓ : Loc nD τ sig} {q : PosShare TreeShare} {f : Buf (Elt F) ℓ} (S A B : Finset (Idx ℓ)) (hS : ∀ i, i ∈ S ↔ i ∈ A ∨ i ∈ B)
    (hD : ∀ i, i ∈ A → i ∈ B → False) : (ℓ ↦[S]{q} f : sProp 𝕄) ⊣⊢ iprop((ℓ ↦[A]{q} f) ∗ ℓ ↦[B]{q} f) := by
  have h : S = A ∪ B := by ext i; rw [Finset.mem_union]; exact hS i
  subst h
  exact pointsTo_union (Finset.disjoint_left.mpr hD)

/-- Rows 0–255, 256–383, 384–511 of a head of a chunk of device `d`'s context buffer. -/
def fT (d c : Fin 8) (s : Fin 2) (f : S8x512x128.Idx → F .bf16) : sProp 𝕄 := fLoc d ↦[(mF.access (rFt c s)).set]{fullShare} f
def fM (d c : Fin 8) (s : Fin 2) (f : S8x512x128.Idx → F .bf16) : sProp 𝕄 := fLoc d ↦[(mF.access (rFm c s)).set]{fullShare} f
def fB (d c : Fin 8) (s : Fin 2) (f : S8x512x128.Idx → F .bf16) : sProp 𝕄 := fLoc d ↦[(mF.access (rFb c s)).set]{fullShare} f

theorem half0_eq (d c : Fin 8) (f : S8x512x128.Idx → F .bf16) :
    fH d c 0 fullShare f ⊣⊢ (iprop(fT d c 0 f ∗ fT d c 1 f) : sProp 𝕄) := by
  rw [fH_eq]; unfold fT
  refine cut _ _ _ (fun i => ?_) (fun i h1 h2 => ?_)
  · have e2 : (i 2).1 < 128 := (i 2).2
    rw [inFh, inFt, inFt]
    show (i 0).1 = c.1 ∧ (i 1).1 / 256 = 0 ↔ ((i 0).1 = c.1 ∧ (i 1).1 < 256 ∧ (i 2).1 / 64 = 0) ∨ ((i 0).1 = c.1 ∧ (i 1).1 < 256 ∧ (i 2).1 / 64 = 1)
    omega
  · have h1' : (i 2).1 / 64 = 0 := ((inFt c 0 i).mp h1).2.2
    have h2' : (i 2).1 / 64 = 1 := ((inFt c 1 i).mp h2).2.2
    omega

theorem half1_eq (d c : Fin 8) (f : S8x512x128.Idx → F .bf16) :
    fH d c 1 fullShare f ⊣⊢ (iprop((fM d c 0 f ∗ fB d c 0 f) ∗ (fM d c 1 f ∗ fB d c 1 f)) : sProp 𝕄) := by
  rw [fH_eq]; unfold fM fB
  have hs (s : Fin 2) : (fLoc d ↦[(mF.access (rFm c s)).set ∪ (mF.access (rFb c s)).set]{fullShare} f : sProp 𝕄)
      ⊣⊢ iprop((fLoc d ↦[(mF.access (rFm c s)).set]{fullShare} f) ∗ fLoc d ↦[(mF.access (rFb c s)).set]{fullShare} f) :=
    cut _ _ _ (fun i => Finset.mem_union) (fun i h1 h2 => by
      have h1' := ((inFm c s i).mp h1).2.1.2
      have h2' := ((inFb c s i).mp h2).2.1
      omega)
  have hc : (fLoc d ↦[(mF.access (rFh c 1)).set]{fullShare} f : sProp 𝕄)
      ⊣⊢ iprop((fLoc d ↦[(mF.access (rFm c 0)).set ∪ (mF.access (rFb c 0)).set]{fullShare} f)
        ∗ fLoc d ↦[(mF.access (rFm c 1)).set ∪ (mF.access (rFb c 1)).set]{fullShare} f) := by
    refine cut _ _ _ (fun i => ?_) (fun i h1 h2 => ?_)
    · have e1 : (i 1).1 < 512 := (i 1).2
      have e2 : (i 2).1 < 128 := (i 2).2
      rw [Finset.mem_union, Finset.mem_union, inFh, inFm, inFm, inFb, inFb]
      show (i 0).1 = c.1 ∧ (i 1).1 / 256 = 1 ↔
        (((i 0).1 = c.1 ∧ (256 ≤ (i 1).1 ∧ (i 1).1 < 384) ∧ (i 2).1 / 64 = 0) ∨ ((i 0).1 = c.1 ∧ 384 ≤ (i 1).1 ∧ (i 2).1 / 64 = 0))
        ∨ (((i 0).1 = c.1 ∧ (256 ≤ (i 1).1 ∧ (i 1).1 < 384) ∧ (i 2).1 / 64 = 1) ∨ ((i 0).1 = c.1 ∧ 384 ≤ (i 1).1 ∧ (i 2).1 / 64 = 1))
      omega
    · rw [Finset.mem_union, inFm, inFb] at h1 h2
      have h1' : (i 2).1 / 64 = 0 := h1.elim (fun h => h.2.2) fun h => h.2.2
      have h2' : (i 2).1 / 64 = 1 := h2.elim (fun h => h.2.2) fun h => h.2.2
      omega
  constructor
  · refine hc.1.trans ?_
    iintro ⟨H0, H1⟩
    isplitl [H0]
    · iapply (hs 0).1; iexact H0
    · iapply (hs 1).1; iexact H1
  · refine (BI.Entails.trans ?_ hc.2 : (iprop(((fLoc d ↦[(mF.access (rFm c 0)).set]{fullShare} f) ∗ fLoc d ↦[(mF.access (rFb c 0)).set]{fullShare} f)
        ∗ (fLoc d ↦[(mF.access (rFm c 1)).set]{fullShare} f) ∗ fLoc d ↦[(mF.access (rFb c 1)).set]{fullShare} f) : sProp 𝕄) ⊢ _)
    exact BI.sep_mono (hs 0).2 (hs 1).2

/-! ## What is stored -/

theorem readFt (c : Fin 8) (s : Fin 2) : (mF.access (rFt c s)).read (Elt F) (FV m ρ) = oT m ρ (bOf c) (pOf c) s := by
  funext x
  have x0 : (x 0).1 < 1 := (x 0).2
  have x1 : (x 1).1 < 256 := (x 1).2
  have x2 : (x 2).1 < 64 := (x 2).2
  have hi : (mF.access (rFt c s)).emb x = ix3 c (⟨(x 1).1, by omega⟩ : Fin 512) (⟨64 * s.1 + (x 2).1, by omega⟩ : Fin 128) := by
    funext a
    match a with
    | 0 => exact Fin.ext (show c.1 + 1 * (x 0).1 = c.1 by omega)
    | 1 => exact Fin.ext (show 0 + 1 * (x 1).1 = (x 1).1 by omega)
    | 2 => exact Fin.ext (show 64 * s.1 + 1 * (x 2).1 = 64 * s.1 + (x 2).1 by omega)
  rw [View.read_apply]
  show FV m ρ ((mF.access (rFt c s)).emb x) = _
  rw [hi]
  have hs : (⟨(64 * s.1 + (x 2).1) / 64, by omega⟩ : Fin 2) = s := Fin.ext (by show (64 * s.1 + (x 2).1) / 64 = s.1; omega)
  have hx : ix3 (0 : Fin 1) (⟨(x 1).1, x1⟩ : Fin 256) (⟨(64 * s.1 + (x 2).1) % 64, by omega⟩ : Fin 64) = x := by
    funext a
    match a with
    | 0 => exact Fin.ext (show 0 = (x 0).1 by omega)
    | 1 => rfl
    | 2 => exact Fin.ext (show (64 * s.1 + (x 2).1) % 64 = (x 2).1 by omega)
  refine (dif_pos x1).trans ?_
  show oT m ρ (bOf c) (pOf c) ⟨(64 * s.1 + (x 2).1) / 64, by omega⟩ (ix3 (0 : Fin 1) (⟨(x 1).1, x1⟩ : Fin 256) (⟨(64 * s.1 + (x 2).1) % 64, by omega⟩ : Fin 64)) = _
  rw [hs, hx]

theorem readFm (c : Fin 8) (s : Fin 2) : (mF.access (rFm c s)).read (Elt F) (FV m ρ) = oM m ρ (bOf c) (pOf c) s := by
  funext x
  have x0 : (x 0).1 < 1 := (x 0).2
  have x1 : (x 1).1 < 128 := (x 1).2
  have x2 : (x 2).1 < 64 := (x 2).2
  have hi : (mF.access (rFm c s)).emb x = ix3 c (⟨256 + (x 1).1, by omega⟩ : Fin 512) (⟨64 * s.1 + (x 2).1, by omega⟩ : Fin 128) := by
    funext a
    match a with
    | 0 => exact Fin.ext (show c.1 + 1 * (x 0).1 = c.1 by omega)
    | 1 => exact Fin.ext (show 256 + 1 * (x 1).1 = 256 + (x 1).1 by omega)
    | 2 => exact Fin.ext (show 64 * s.1 + 1 * (x 2).1 = 64 * s.1 + (x 2).1 by omega)
  rw [View.read_apply]
  show FV m ρ ((mF.access (rFm c s)).emb x) = _
  rw [hi]
  have hs : (⟨(64 * s.1 + (x 2).1) / 64, by omega⟩ : Fin 2) = s := Fin.ext (by show (64 * s.1 + (x 2).1) / 64 = s.1; omega)
  have hx : ix3 (0 : Fin 1) (⟨256 + (x 1).1 - 256, by omega⟩ : Fin 128) (⟨(64 * s.1 + (x 2).1) % 64, by omega⟩ : Fin 64) = x := by
    funext a
    match a with
    | 0 => exact Fin.ext (show 0 = (x 0).1 by omega)
    | 1 => exact Fin.ext (show 256 + (x 1).1 - 256 = (x 1).1 by omega)
    | 2 => exact Fin.ext (show (64 * s.1 + (x 2).1) % 64 = (x 2).1 by omega)
  refine (dif_neg (show ¬ 256 + (x 1).1 < 256 by omega)).trans ((dif_pos (show 256 + (x 1).1 < 384 by omega)).trans ?_)
  show oM m ρ (bOf c) (pOf c) ⟨(64 * s.1 + (x 2).1) / 64, by omega⟩ (ix3 (0 : Fin 1) (⟨256 + (x 1).1 - 256, by omega⟩ : Fin 128) (⟨(64 * s.1 + (x 2).1) % 64, by omega⟩ : Fin 64)) = _
  rw [hs, hx]

theorem readFb (c : Fin 8) (s : Fin 2) : (mF.access (rFb c s)).read (Elt F) (FV m ρ) = oB m ρ (bOf c) (pOf c) s := by
  funext x
  have x0 : (x 0).1 < 1 := (x 0).2
  have x1 : (x 1).1 < 128 := (x 1).2
  have x2 : (x 2).1 < 64 := (x 2).2
  have hi : (mF.access (rFb c s)).emb x = ix3 c (⟨384 + (x 1).1, by omega⟩ : Fin 512) (⟨64 * s.1 + (x 2).1, by omega⟩ : Fin 128) := by
    funext a
    match a with
    | 0 => exact Fin.ext (show c.1 + 1 * (x 0).1 = c.1 by omega)
    | 1 => exact Fin.ext (show 384 + 1 * (x 1).1 = 384 + (x 1).1 by omega)
    | 2 => exact Fin.ext (show 64 * s.1 + 1 * (x 2).1 = 64 * s.1 + (x 2).1 by omega)
  rw [View.read_apply]
  show FV m ρ ((mF.access (rFb c s)).emb x) = _
  rw [hi]
  have hs : (⟨(64 * s.1 + (x 2).1) / 64, by omega⟩ : Fin 2) = s := Fin.ext (by show (64 * s.1 + (x 2).1) / 64 = s.1; omega)
  have hx : ix3 (0 : Fin 1) (⟨384 + (x 1).1 - 384, by omega⟩ : Fin 128) (⟨(64 * s.1 + (x 2).1) % 64, by omega⟩ : Fin 64) = x := by
    funext a
    match a with
    | 0 => exact Fin.ext (show 0 = (x 0).1 by omega)
    | 1 => exact Fin.ext (show 384 + (x 1).1 - 384 = (x 1).1 by omega)
    | 2 => exact Fin.ext (show (64 * s.1 + (x 2).1) % 64 = (x 2).1 by omega)
  refine (dif_neg (show ¬ 384 + (x 1).1 < 256 by omega)).trans ((dif_neg (show ¬ 384 + (x 1).1 < 384 by omega)).trans ?_)
  show oB m ρ (bOf c) (pOf c) ⟨(64 * s.1 + (x 2).1) / 64, by omega⟩ (ix3 (0 : Fin 1) (⟨384 + (x 1).1 - 384, by omega⟩ : Fin 128) (⟨(64 * s.1 + (x 2).1) % 64, by omega⟩ : Fin 64)) = _
  rw [hs, hx]

/-- A region stored with its own final contents has them. -/
theorem wrote (r : Rect S8x512x128) (f : S8x512x128.Idx → F .bf16) : ∀ i ∈ (mF.access r).set,
    (mF.access r).write (Elt F) f ((mF.access r).read (Elt F) (FV m ρ)) Finset.univ i = FV m ρ i := fun i hi => by
  rw [View.write_read_eq_piecewise]; exact Finset.piecewise_eq_of_mem _ _ _ hi

theorem step_storeFt (c : Fin 8) (s : Fin 2) (v : FVec F S1x256x64 .bf16) (hv : v = oT m ρ (bOf c) (pOf c) s) (Kt : PUnit → sProp 𝕄) :
    iprop((∃ f, fT 0 c s f) ∗ (fT 0 c s (FV m ρ) -∗ Kt ⟨⟩)) ⊢ WP 0 (storeFt c s v) Kt := by
  subst hv
  rw [← readFt]
  unfold fT
  iintro ⟨⟨%f, H⟩, HK⟩
  iapply (step_ldst 0 mF (rFt c s) (View.loadsAt_vmem h_S1x256x64) _ (View.stores_vmem h_S1x256x64
    ((Memref.isWhole_whole _).storeExact_slice rfl _ (packFt c s)) (fun _ => rfl)) (.inl rfl) _ (Finset.Subset.refl _) f)
  isplitl [H]; · iexact H
  iintro H
  iapply HK
  iapply (Entails.of_eq (pointsTo_congr (wrote m ρ (rFt c s) f))); iexact H

theorem step_storeFm (c : Fin 8) (s : Fin 2) (v : FVec F S1x128x64 .bf16) (hv : v = oM m ρ (bOf c) (pOf c) s) (Kt : PUnit → sProp 𝕄) :
    iprop((∃ f, fM 0 c s f) ∗ (fM 0 c s (FV m ρ) -∗ Kt ⟨⟩)) ⊢ WP 0 (storeFm c s v) Kt := by
  subst hv
  rw [← readFm]
  unfold fM
  iintro ⟨⟨%f, H⟩, HK⟩
  iapply (step_ldst 0 mF (rFm c s) (View.loadsAt_vmem h_S1x128x64) _ (View.stores_vmem h_S1x128x64
    ((Memref.isWhole_whole _).storeExact_slice rfl _ (packFm c s)) (fun _ => rfl)) (.inl rfl) _ (Finset.Subset.refl _) f)
  isplitl [H]; · iexact H
  iintro H
  iapply HK
  iapply (Entails.of_eq (pointsTo_congr (wrote m ρ (rFm c s) f))); iexact H

theorem step_storeFb (c : Fin 8) (s : Fin 2) (v : FVec F S1x128x64 .bf16) (hv : v = oB m ρ (bOf c) (pOf c) s) (Kt : PUnit → sProp 𝕄) :
    iprop((∃ f, fB 0 c s f) ∗ (fB 0 c s (FV m ρ) -∗ Kt ⟨⟩)) ⊢ WP 0 (storeFb c s v) Kt := by
  subst hv
  rw [← readFb]
  unfold fB
  iintro ⟨⟨%f, H⟩, HK⟩
  iapply (step_ldst 0 mF (rFb c s) (View.loadsAt_vmem h_S1x128x64) _ (View.stores_vmem h_S1x128x64
    ((Memref.isWhole_whole _).storeExact_slice rfl _ (packFb c s)) (fun _ => rfl)) (.inl rfl) _ (Finset.Subset.refl _) f)
  isplitl [H]; · iexact H
  iintro H
  iapply HK
  iapply (Entails.of_eq (pointsTo_congr (wrote m ρ (rFb c s) f))); iexact H

end Cert.KernelIdeal.Mine

end
-- ==== Proof.KI.Loads.lean ====
/-
  Loads, partials, the result, and how shares of the context are divided.
-/
module

public import proofs.«01_k».proof.Proof.KI.Mem

@[expose] public section

set_option synthInstance.maxSize 4096

noncomputable section

namespace Cert.KernelIdeal.Mine

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Transfers (shareTokN shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Loads of whole inputs -/

theorem step_load (d : Fin 8) {cs : CoreSpace} {s : Shape} {e : EltTy} (M : Memref sig .tc cs s e)
    (r : Rect s) (hl : M.view.LoadsAt r.toLoadRect) (S : Finset (Idx ((M.access r).loc ((d : Dev nD) : Thread nD τ))))
    (hS : (M.access r).set ⊆ S) (q : PosShare TreeShare) (f : Buf (Elt F) ((M.access r).loc ((d : Dev nD) : Thread nD τ)))
    {α : Type} (k : (r.shape.Idx → Elt F e) → Prog (E F) α) (Kt : α → sProp 𝕄) :
    iprop(((M.access r).loc ((d : Dev nD) : Thread nD τ) ↦[S]{q} f)
        ∗ (((M.access r).loc ((d : Dev nD) : Thread nD τ) ↦[S]{q} f) -∗ WP d (k (M.view.readAt (Elt F) r.toLoadRect f)) Kt))
      ⊢ WP d ((Prog.lift (.load M r.toLoadRect hl) : Prog (E F) _).bind k) Kt := by
  unfold WP
  simp only [Prog.lift, Prog.bind_op, Prog.bind_ret]
  iintro ⟨H, HK⟩
  iapply (wp_load 𝒱₀ ((d : Dev nD) : Thread nD τ) none Set.univ (m := M) (S := S)
    ((View.set_slice M.view r).ge.trans hS)) $$ H; iintro H
  iapply HK; iexact H

theorem wp_then {α β : Type} (d : Fin 8) (p : Prog (E F) α) (k : α → Prog (E F) β) (Kt : β → sProp 𝕄) :
    WP d (p.bind k) Kt = WP d p (fun a => WP d (k a) Kt) := by
  show WP d (p >>= k) Kt = _
  unfold WP; rw [wp_bind]

/-- The staged inputs a device reads. -/
def iX (d : Fin 8) : sProp 𝕄 := ((d : Dev nD) : Thread nD τ).loc cc0_stg0_0 ↦{fullShare} sX m ρ d
def iWq (d : Fin 8) : sProp 𝕄 := ((d : Dev nD) : Thread nD τ).loc cc0_stg1_0 ↦{fullShare} sWq m ρ d
def iK (d : Fin 8) : sProp 𝕄 := ((d : Dev nD) : Thread nD τ).loc cc0_stg2_0 ↦{fullShare} sK m ρ d
def iV (d : Fin 8) : sProp 𝕄 := ((d : Dev nD) : Thread nD τ).loc cc0_stg3_0 ↦{fullShare} sV m ρ d
def iWo (d : Fin 8) : sProp 𝕄 := ((d : Dev nD) : Thread nD τ).loc cc0_stg4_0 ↦{fullShare} sWo m ρ d
/-- A device's result buffer. -/
def oBuf (d : Fin 8) (f : S2x512x768.Idx → F .f32) : sProp 𝕄 := ((d : Dev nD) : Thread nD τ).loc cc0_stg5_0 ↦{fullShare} f

/-! ## The result -/

theorem oBuf_split (d : Fin 8) (f : S2x512x768.Idx → F .f32) :
    oBuf d f ⊣⊢ (iprop((((d : Dev nD) : Thread nD τ).loc cc0_stg5_0 ↦[(mOut.access (rX 0)).set]{fullShare} f)
      ∗ ((d : Dev nD) : Thread nD τ).loc cc0_stg5_0 ↦[(mOut.access (rX 1)).set]{fullShare} f) : sProp 𝕄) := by
  have hm (b : Fin 2) (i : S2x512x768.Idx) : i ∈ (mOut.access (rX b)).set ↔ (i 0).1 = b.1 := by
    have e1 : (i 1).1 < 512 := (i 1).2
    have e2 : (i 2).1 < 768 := (i 2).2
    rw [show (mOut.access (rX b)).set = (rX b).set from View.set_slice_whole _ _, Rect.mem_set_unit]
    constructor
    · intro h
      have h0 : b.1 ≤ (i 0).1 ∧ (i 0).1 < b.1 + 1 := h 0
      omega
    · intro h a
      match a with
      | 0 => show b.1 ≤ (i 0).1 ∧ (i 0).1 < b.1 + 1; omega
      | 1 => show 0 ≤ (i 1).1 ∧ (i 1).1 < 0 + 512; omega
      | 2 => show 0 ≤ (i 2).1 ∧ (i 2).1 < 0 + 768; omega
  unfold oBuf
  refine cut _ _ _ (fun i => ?_) (fun i h1 h2 => ?_)
  · have e0 : (i 0).1 < 2 := (i 0).2
    rw [hm, hm]
    show _ ↔ (i 0).1 = 0 ∨ (i 0).1 = 1
    exact ⟨fun _ => by omega, fun _ => Finset.mem_univ _⟩
  · have h1' : (i 0).1 = 0 := (hm 0 i).mp h1
    have h2' : (i 0).1 = 1 := (hm 1 i).mp h2
    omega

theorem read_OUT (d : Fin 8) (b : Fin 2) : (mOut.access (rX b)).read (Elt F) (OUT m ρ d) = oP m ρ d b := by
  funext x
  have x0 : (x 0).1 < 1 := (x 0).2
  have x1 : (x 1).1 < 512 := (x 1).2
  have x2 : (x 2).1 < 768 := (x 2).2
  have hi : (mOut.access (rX b)).emb x = ix3 b (⟨(x 1).1, by omega⟩ : Fin 512) (⟨(x 2).1, by omega⟩ : Fin 768) := by
    funext a
    match a with
    | 0 => exact Fin.ext (show b.1 + 1 * (x 0).1 = b.1 by omega)
    | 1 => exact Fin.ext (show 0 + 1 * (x 1).1 = (x 1).1 by omega)
    | 2 => exact Fin.ext (show 0 + 1 * (x 2).1 = (x 2).1 by omega)
  rw [View.read_apply]
  show OUT m ρ d ((mOut.access (rX b)).emb x) = _
  rw [hi]
  refine congrArg (oP m ρ d b) (?_ : ix3 (0 : Fin 1) (⟨(x 1).1, x1⟩ : Fin 512) (⟨(x 2).1, x2⟩ : Fin 768) = x)
  funext a
  match a with
  | 0 => exact Fin.ext (show 0 = (x 0).1 by omega)
  | 1 => rfl
  | 2 => rfl

/-- A batch of a device's result buffer. -/
def oB2 (d : Fin 8) (b : Fin 2) (f : S2x512x768.Idx → F .f32) : sProp 𝕄 :=
  ((d : Dev nD) : Thread nD τ).loc cc0_stg5_0 ↦[(mOut.access (rX b)).set]{fullShare} f

theorem step_storeOut (d : Fin 8) (b : Fin 2) (v : FVec F S1x512x768 .f32) (hv : v = oP m ρ d b) (Kt : PUnit → sProp 𝕄) :
    iprop((∃ f, oB2 d b f) ∗ (oB2 d b (OUT m ρ d) -∗ Kt ⟨⟩)) ⊢ WP d (storeOut b v) Kt := by
  subst hv
  rw [← read_OUT]
  have hw (f : S2x512x768.Idx → F .f32) : ∀ i ∈ (mOut.access (rX b)).set,
      (mOut.access (rX b)).write (Elt F) f ((mOut.access (rX b)).read (Elt F) (OUT m ρ d)) Finset.univ i = OUT m ρ d i := fun i hi => by
    rw [View.write_read_eq_piecewise]; exact Finset.piecewise_eq_of_mem _ _ _ hi
  unfold oB2
  iintro ⟨⟨%f, H⟩, HK⟩
  iapply (step_ldst d mOut (rX b) (View.loadsAt_vmem h_S1x512x768) _ (View.stores_vmem_bits_univ h_S1x512x768 rfl) (.inl rfl) _
    (Finset.Subset.refl _) f)
  isplitl [H]; · iexact H
  iintro H
  iapply HK
  iapply (Entails.of_eq (pointsTo_congr (hw f))); iexact H

/-! ## Device 1's partials -/

/-- Contents holding device 1's partials of one head of chunk `c`. -/
def IsHead (c : Fin 8) (s : Fin 2) (f : S8x128x256.Idx → F .bf16) : Prop :=
  mT.view.readAt (Elt F) (rTc c s).toLoadRect f = cP m ρ (bOf c) (pOf c) s
    ∧ mT.view.readAt (Elt F) (rTs c s).toLoadRect f = sP m ρ (bOf c) (pOf c) s

theorem rd_same (r : Rect S8x128x256) (f : S8x128x256.Idx → F .bf16) (v : r.shape.Idx → F .bf16) :
    mT.view.readAt (Elt F) r.toLoadRect ((mT.access r).write (Elt F) f v Finset.univ) = v :=
  View.read_write_univ (Val := Elt F) (v := mT.access r) f v

theorem rd_other (r r' : Rect S8x128x256) (f : S8x128x256.Idx → F .bf16) (v : r'.shape.Idx → F .bf16)
    (h : ∀ i, i ∈ (mT.access r).set → i ∈ (mT.access r').set → False) :
    mT.view.readAt (Elt F) r.toLoadRect ((mT.access r').write (Elt F) f v Finset.univ) = mT.view.readAt (Elt F) r.toLoadRect f :=
  View.read_slice_write_slice_of_disjoint (Val := Elt F) (v := mT.view) r r' f v Finset.univ
    (Finset.disjoint_left.mpr fun i hi hj => h i hi (View.setOn_subset_set _ _ hj))

theorem isHead_write (c : Fin 8) (s : Fin 2) (f : S8x128x256.Idx → F .bf16) (v : FVec F S1x128x64 .bf16) (w : FVec F S1x128x1 .bf16)
    (hv : v = cP m ρ (bOf c) (pOf c) s) (hw : w = sP m ρ (bOf c) (pOf c) s) :
    let f' := (mT.access (rTs c s)).write (Elt F) ((mT.access (rTc c s)).write (Elt F) f v Finset.univ) w Finset.univ
    IsHead m ρ c s f' ∧ ∀ s', s' ≠ s → IsHead m ρ c s' f → IsHead m ρ c s' f' := by
  intro f'
  have e2 (i : S8x128x256.Idx) : (i 2).1 < 256 := (i 2).2
  have hcs (a b : Fin 2) : ∀ i, i ∈ (mT.access (rTc c a)).set → i ∈ (mT.access (rTs c b)).set → False := fun i h1 h2 => by
    have h1 := ((inTc c a i).mp h1).2
    have h2 := ((inTs c b i).mp h2).2
    omega
  constructor
  · constructor
    · rw [rd_other (rTc c s) (rTs c s) _ _ (hcs s s), rd_same, hv]
    · rw [rd_same, hw]
  · intro s' hs h
    have hn : s'.1 ≠ s.1 := fun e => hs (Fin.ext e)
    constructor
    · rw [rd_other (rTc c s') (rTs c s) _ _ (hcs s' s), rd_other (rTc c s') (rTc c s) _ _ (fun i h1 h2 => hn (((inTc c s' i).mp h1).2.symm.trans ((inTc c s i).mp h2).2))]
      exact h.1
    · rw [rd_other (rTs c s') (rTs c s) _ _ (fun i h1 h2 => hn (by
        have h1 := ((inTs c s' i).mp h1).2
        have h2 := ((inTs c s i).mp h2).2
        omega)), rd_other (rTs c s') (rTc c s) _ _ (fun i h1 h2 => hcs s s' i h2 h1)]
      exact h.2

theorem subTc (c : Fin 8) (s : Fin 2) : (mT.access (rTc c s)).set ⊆ (mT.access (rT c)).set :=
  fun i hi => (inT c i).mpr ((inTc c s i).mp hi).1
theorem subTs (c : Fin 8) (s : Fin 2) : (mT.access (rTs c s)).set ⊆ (mT.access (rT c)).set :=
  fun i hi => (inT c i).mpr ((inTs c s i).mp hi).1

theorem step_part (b : Fin 2) (p : Fin 4) (s : Fin 2) (f : S8x128x256.Idx → F .bf16) (Kt : PUnit → sProp 𝕄) :
    iprop(iK m ρ 1 ∗ iV m ρ 1 ∗ tC 1 (ch b p) f
        ∗ ((iK m ρ 1 ∗ iV m ρ 1 ∗ ∃ f', ⌜IsHead m ρ (ch b p) s f' ∧ ∀ s', s' ≠ s → IsHead m ρ (ch b p) s' f → IsHead m ρ (ch b p) s' f'⌝
            ∗ tC 1 (ch b p) f') -∗ Kt ⟨⟩))
      ⊢ WP 1 (part (q1 (k0_pay1 (lWq m ρ 1)) (lX1 m ρ 1 b)) b p s) Kt := by
  have hv : cP m ρ b p s = cP m ρ (bOf (ch b p)) (pOf (ch b p)) s := by rw [bOf_ch, pOf_ch]
  have hw : sP m ρ b p s = sP m ρ (bOf (ch b p)) (pOf (ch b p)) s := by rw [bOf_ch, pOf_ch]
  have hh := isHead_write m ρ (ch b p) s f _ _ hv hw
  unfold iK iV part
  simp only [tC_eq]
  iintro ⟨HK, HV, HT, Hk⟩
  iapply (step_load 1 mK (rK1 b (hd p s)) (View.loadsAt_vmem h_S1x128x1x64) Finset.univ (Finset.subset_univ _) fullShare (sK m ρ 1))
  isplitl [HK]; · iexact HK
  iintro HK
  iapply (step_load 1 mV (rK1 b (hd p s)) (View.loadsAt_vmem h_S1x128x1x64) Finset.univ (Finset.subset_univ _) fullShare (sV m ρ 1))
  isplitl [HV]; · iexact HV
  iintro HV
  iapply (Entails.of_eq (wp_then 1 (storeTc (ch b p) s (cP m ρ b p s)) (fun _ => storeTs (ch b p) s (sP m ρ b p s)) Kt).symm)
  iapply (step_ldst 1 mT (rTc (ch b p) s) (View.loadsAt_vmem h_S1x128x64) (cP m ρ b p s) (View.stores_vmem h_S1x128x64
    ((Memref.isWhole_whole _).storeExact_slice rfl _ (packTc (ch b p) s)) (fun _ => rfl)) (.inl rfl) _ (subTc (ch b p) s) f)
  isplitl [HT]; · iexact HT
  iintro HT
  iapply (step_ldst 1 mT (rTs (ch b p) s) (View.loadsAt_vmem h_S1x128x1) (sP m ρ b p s) (View.stores_vmem h_S1x128x1
    ((Memref.isWhole_whole _).storeExact_slice rfl _ (packTs (ch b p) s)) (fun _ => rfl)) (.inl rfl) _ (subTs (ch b p) s) _)
  isplitl [HT]; · iexact HT
  iintro HT
  iapply Hk
  isplitl [HK]; · iexact HK
  isplitl [HV]; · iexact HV
  iexists _
  isplitr; · ipureintro; exact hh
  iexact HT

/-- Device 0 reads device 1's partials of a head and stores the rows that need them. -/
theorem step_headBot (b : Fin 2) (p : Fin 4) (s : Fin 2) (f : S8x128x256.Idx → F .bf16) (hf : IsPart m ρ (ch b p) f) (Kt : PUnit → sProp 𝕄) :
    iprop(tC 0 (ch b p) f ∗ (∃ g, fB 0 (ch b p) s g) ∗ ((tC 0 (ch b p) f ∗ fB 0 (ch b p) s (FV m ρ)) -∗ Kt ⟨⟩))
      ⊢ WP 0 (headBot (qR m ρ b) (kR m ρ b) (vR m ρ b) b p s) Kt := by
  have h1 := (hf s).1
  have h2 := (hf s).2
  rw [bOf_ch, pOf_ch] at h1 h2
  unfold headBot
  simp only [tC_eq]
  iintro ⟨HT, HB, Hk⟩
  iapply (step_load 0 mT (rTs (ch b p) s) (View.loadsAt_vmem h_S1x128x1) _ (subTs (ch b p) s) fullShare f)
  isplitl [HT]; · iexact HT
  iintro HT
  iapply (step_load 0 mT (rTc (ch b p) s) (View.loadsAt_vmem h_S1x128x64) _ (subTc (ch b p) s) fullShare f)
  isplitl [HT]; · iexact HT
  iintro HT
  iapply (step_storeFb m ρ (ch b p) s _ (by rw [h1, h2, bOf_ch, pOf_ch]; rfl))
  isplitl [HB]; · iexact HB
  iintro HB
  iapply Hk
  isplitl [HT]; · iexact HT
  iexact HB

theorem step_headTop (b : Fin 2) (p : Fin 4) (s : Fin 2) (Kt : PUnit → sProp 𝕄) :
    iprop((∃ g, fT 0 (ch b p) s g) ∗ (∃ g, fM 0 (ch b p) s g) ∗ ((fT 0 (ch b p) s (FV m ρ) ∗ fM 0 (ch b p) s (FV m ρ)) -∗ Kt ⟨⟩))
      ⊢ WP 0 (headTop (qR m ρ b) (kR m ρ b) (vR m ρ b) b p s) Kt := by
  unfold headTop
  iintro ⟨HT, HM, Hk⟩
  iapply (Entails.of_eq (wp_then 0 (storeFt (ch b p) s (oT m ρ b p s)) (fun _ => storeFm (ch b p) s (oM m ρ b p s)) Kt).symm)
  iapply (step_storeFt m ρ (ch b p) s (oT m ρ b p s) (by rw [bOf_ch, pOf_ch]))
  isplitl [HT]; · iexact HT
  iintro HT
  iapply (step_storeFm m ρ (ch b p) s (oM m ρ b p s) (by rw [bOf_ch, pOf_ch]))
  isplitl [HM]; · iexact HM
  iintro HM
  iapply Hk
  isplitl [HT] <;> iassumption

/-- A load of a chunk held in full. -/
theorem step_loadF (d c : Fin 8) (q : PosShare TreeShare) {α : Type} (k : Vec F S1x512x128 .bf16 → Prog (E F) α) (Kt : α → sProp 𝕄) :
    iprop(fH d c 0 q (FV m ρ) ∗ fH d c 1 q (FV m ρ) ∗ ((fH d c 0 q (FV m ρ) ∗ fH d c 1 q (FV m ρ)) -∗ WP d (k (lF m ρ c)) Kt))
      ⊢ WP d ((loadF c).bind k) Kt := by
  have hc := chunk_eq d c q (FV m ρ)
  unfold loadF
  iintro ⟨H0, H1, Hk⟩
  iapply (step_load d mF (rFc c) (View.loadsAt_vmem h_S1x512x128) _ (Finset.Subset.refl _) q (FV m ρ))
  isplitl [H0 H1]
  · iapply hc.1
    isplitl [H0] <;> iassumption
  iintro H
  iapply Hk
  iapply hc.2; iexact H

/-! ## Shares -/

theorem bigSep_list {α : Type} [DecidableEq α] (l : List α) (hl : l.Nodup) (Φ : α → sProp 𝕄) : bigSep l.toFinset Φ ⊣⊢ sepL l Φ := by
  induction l with
  | nil =>
    rw [List.toFinset_nil, bigSep_empty, sepL_nil]
    exact ⟨BI.Entails.refl _, BI.Entails.refl _⟩
  | cons a l ih =>
    rw [List.toFinset_cons, bigSep_insert (fun h => (List.nodup_cons.mp hl).1 (List.mem_toFinset.mp h)), sepL_cons]
    exact ⟨Laws.sep_mono_right (ih (List.nodup_cons.mp hl).2).1, Laws.sep_mono_right (ih (List.nodup_cons.mp hl).2).2⟩

theorem sepL_map {α β : Type} (l : List α) (g : α → β) (Φ : β → sProp 𝕄) : sepL (l.map g) Φ = sepL l fun a => Φ (g a) := by
  induction l with
  | nil => rfl
  | cons a l ih => rw [List.map_cons, sepL_cons, sepL_cons, ih]

theorem shares (d c : Fin 8) (h : Fin 2) (f : S8x512x128.Idx → F .bf16) :
    fH d c h fullShare f ⊣⊢ (iprop(fH d c h (shareDrop fullShare (children d).length) f
      ∗ sepL (children d) fun i => fH d c h (shareTokN fullShare i.1.1) f) : sProp 𝕄) := by
  have ht : ((children d).map fun i => i.1.1).Nodup ∧ ((children d).map fun i => i.1.1).toFinset = Finset.range (children d).length := by
    revert d; decide
  have hb := bigSep_list _ ht.1 (fun j : ℕ => fH d c h (shareTokN fullShare j) f)
  rw [ht.2, sepL_map] at hb
  have hp := Idealize.ShloMosaic.Transfers.pointsTo_toks_range (Ix := Unit) (Val := Elt F) (Name := ℕ) (U := UU) (Lvl := ℕ)
    (ℓ := (mFh c h).view.loc ((d : Dev nD) : Thread nD τ)) (S := (mFh c h).view.set) (f := f) fullShare (children d).length
  exact ⟨hp.1.trans (Laws.sep_mono_right hb.1), (Laws.sep_mono_right hb.2).trans hp.2⟩

end Cert.KernelIdeal.Mine

end
-- ==== Proof.KI.Work.lean ====
/-
  What each part of the body takes and gives back: exchanges, sends, relays, device 0, device 1.
-/
module

public import proofs.«01_k».proof.Proof.KI.Loads

@[expose] public section

set_option synthInstance.maxSize 4096

noncomputable section

namespace Cert.KernelIdeal.Mine

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Transfers (shareTokN shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Lists -/

abbrev all4 : List (Fin 4) := [0, 1, 2, 3]

theorem sepL_emp {α : Type} (l : List α) : (iprop(emp) : sProp 𝕄) ⊢ sepL l fun _ => iprop(emp) := by
  induction l with
  | nil => exact BI.Entails.refl _
  | cons a l ih =>
    rw [sepL_cons]
    iintro -
    isplitr; · iempintro
    iapply ih; iempintro

theorem sepL_comm {α β : Type} (l : List α) (l' : List β) (Φ : α → β → sProp 𝕄) :
    sepL l (fun a => sepL l' (Φ a)) ⊢ sepL l' fun b => sepL l fun a => Φ a b := by
  induction l with
  | nil => exact (sepL_emp l').trans (sepL_mono l' fun _ _ => BI.Entails.refl _)
  | cons a l ih =>
    rw [sepL_cons]
    exact (Laws.sep_mono_right ih).trans (sepL_sep l' (Φ a) fun b => sepL l fun a => Φ a b).2

theorem sepL_append {α : Type} (l l' : List α) (Φ : α → sProp 𝕄) : sepL (l ++ l') Φ ⊣⊢ iprop(sepL l Φ ∗ sepL l' Φ) := by
  induction l with
  | nil =>
    rw [List.nil_append, sepL_nil]
    constructor
    · iintro H
      isplitr; · iempintro
      iexact H
    · iintro ⟨-, H⟩; iexact H
  | cons a l ih =>
    rw [List.cons_append, sepL_cons, sepL_cons]
    constructor
    · iintro ⟨H, HL⟩
      ihave HL := ih.1 $$ HL
      icases HL with ⟨H1, H2⟩
      isplitr [H2]
      · isplitl [H] <;> iassumption
      · iexact H2
    · iintro ⟨⟨H, H1⟩, H2⟩
      isplitl [H]; · iexact H
      iapply ih.2
      isplitl [H1] <;> iassumption

/-- Chunk by chunk is batch by batch. -/
theorem sepL_chunks (Φ : Fin 8 → sProp 𝕄) : sepL all8 Φ ⊣⊢ sepL all2 fun b => sepL all4 fun p => Φ (ch b p) := by
  have h := sepL_append (all4.map (ch 0)) (all4.map (ch 1)) Φ
  rw [show all4.map (ch 0) ++ all4.map (ch 1) = all8 by decide, sepL_map, sepL_map] at h
  rw [show (sepL all2 fun b => sepL all4 fun p => Φ (ch b p)) = iprop((sepL all4 fun p => Φ (ch 0 p)) ∗ (sepL all4 fun p => Φ (ch 1 p)) ∗ emp) from rfl]
  constructor
  · refine h.1.trans (Laws.sep_mono_right ?_)
    iintro H
    isplitl; · iexact H
    iempintro
  · refine (Laws.sep_mono_right ?_ : _ ⊢ iprop(_ ∗ sepL all4 fun p => Φ (ch 1 p))).trans h.2
    iintro ⟨H, -⟩; iexact H

/-! ## The barriers -/

theorem partners_facts : ∀ d : Fin 8, (∀ p ∈ partners d, d ∈ (partners p).toFinset)
    ∧ (BitVec.ofNat 32 (partners d).length).toInt = ((partners d).length : ℤ) ∧ (partners d).Nodup := by decide

theorem step_exchange (K : Fin 8 × Cell → ℕ) (d : Fin 8) (k : Cell) (s : Sem sig) (hs : csem k = .reg s)
    (hk : ∀ d, dut d k = (partners d).toFinset) (ha : amt k = 1) (O : CellTallies nD τ sig Unit) (hO : Above (lvl d k) O)
    (Kt : PUnit → sProp 𝕄) :
    iprop(ctx m ρ K ∗ owesE d (sigO k (partners d) + O) ∗ sepL (partners d) (fun p => iprop(tok p k d ∗ pay m ρ p k d))
        ∗ crd d k (partners d).length ∗ pos d k 0 ∗ ((owesE d O ∗ pos d k 1 ∗ sepL (partners d) (pay m ρ d k)) -∗ Kt ⟨⟩))
      ⊢ WP d (exchange s d) Kt := by
  obtain ⟨hsym, hw, hn⟩ := partners_facts d
  have hlen : (dut d k).card * amt k = (partners d).length := by rw [hk, ha, Nat.mul_one, List.toFinset_card_of_nodup hn]
  have hbs := (bigSep_list (F := F) (partners d) hn (pay m ρ d k)).1
  have hwait := step_wait m ρ K d k s hs (BitVec.ofNat 32 (partners d).length) _ hw hlen O hO Kt
  rw [hk] at hwait
  have hz : sigO k [] + O = O := zero_add O
  unfold exchange
  rw [wp_then]
  iintro ⟨#Hc, HO, HT, Hcr, Hpos, HK⟩
  iapply (wp_each d (fun p => semSignalWord (p : Dev nD) s 1#32) (fun p => iprop(tok p k d ∗ pay m ρ p k d)) (fun _ => iprop(emp))
    (fun l => iprop(ctx m ρ K ∗ owesE d (sigO k l + O))) (partners d) (fun p hp l' Kt' => by
      have e : sigO k (p :: l') + O = tallyAt (cellAt p k) () 1 + (sigO k l' + O) := by
        unfold sigO; rw [List.map_cons, List.sum_cons, add_assoc]
      rw [e]
      iintro ⟨⟨#Hc, HO⟩, ⟨Ht, Hp⟩, HK⟩
      iapply (step_signal m ρ K d p k s hs (by rw [hk]; exact hsym p hp) ha (sigO k l' + O) Kt')
      isplitr; · iexact Hc
      isplitl [HO]; · iexact HO
      isplitl [Ht]; · iexact Ht
      isplitl [Hp]; · iexact Hp
      iintro HO
      iapply HK
      isplitl
      · isplitr; · iexact Hc
        iexact HO
      · iempintro))
  isplitl [HO]
  · isplitr; · iexact Hc
    iexact HO
  isplitl [HT]; · iexact HT
  iintro ⟨⟨-, HO⟩, -⟩
  iapply hwait
  isplitr; · iexact Hc
  isplitl [Hcr]; · iexact Hcr
  isplitl [HO]; · iapply (Entails.of_eq (congrArg (owesE d) hz)); iexact HO
  isplitl [Hpos]; · iexact Hpos
  iintro ⟨HO, Hpos, Hb⟩
  iapply HK
  isplitl [HO]; · iexact HO
  isplitl [Hpos]; · iexact Hpos
  iapply hbs; iexact Hb

/-! ## Sends to the children -/

/-- What sending half `h` of chunk `c` to a child takes besides the half, -/
def SB (d c : Fin 8) (h : Fin 2) (i : Fin 3 × Fin 8) : sProp 𝕄 :=
  iprop((∃ f, fH i.2 c h fullShare f) ∗ tok d (kSF i.1 c h) d ∗ tok i.2 (kRF c h) d)
/-- and the credit it leaves. -/
def CS (d c : Fin 8) (h : Fin 2) (i : Fin 3 × Fin 8) : sProp 𝕄 := crd d (kSF i.1 c h) (amt (kSF i.1 c h))
/-- What stays of a half sent to the children. -/
def hD (d c : Fin 8) (h : Fin 2) : sProp 𝕄 := fH d c h (shareDrop fullShare (children d).length) (FV m ρ)

theorem step_sends (K : Fin 8 × Cell → ℕ) (d c : Fin 8) (h : Fin 2) (O : CellTallies nD τ sig Unit) (Kt : PUnit → sProp 𝕄) :
    iprop(ctx m ρ K ∗ owesE d (halfO c h (children d) + O) ∗ fH d c h fullShare (FV m ρ) ∗ sepL (children d) (SB d c h)
        ∗ ((owesE d O ∗ hD m ρ d c h ∗ sepL (children d) (CS d c h)) -∗ Kt ⟨⟩))
      ⊢ WP d (seqL (sendHalf c h) (children d)) Kt := by
  have hsh := (shares d c h (FV m ρ)).1
  have hpair := (sepL_sep (children d) (fun i => fH d c h (shareTokN fullShare i.1.1) (FV m ρ)) (SB (F := F) d c h)).2
  have hz : halfO c h [] + O = O := zero_add O
  iintro ⟨#Hc, HO, Hf, HB, HK⟩
  ihave Hf := hsh $$ Hf
  icases Hf with ⟨Hd, Hs⟩
  ihave HB := hpair $$ [Hs HB]
  · isplitl [Hs] <;> iassumption
  iapply (wp_each d (sendHalf c h) (fun i => iprop(fH d c h (shareTokN fullShare i.1.1) (FV m ρ) ∗ SB d c h i)) (CS d c h)
    (fun l => iprop(ctx m ρ K ∗ owesE d (halfO c h l + O))) (children d) (fun i hi l' Kt' => by
      have e : halfO c h (i :: l') + O = tallyAt (cellAt i.2 (kRF c h)) () (amt (kRF c h)) + (halfO c h l' + O) := by
        unfold halfO; rw [List.map_cons, List.sum_cons, add_assoc]
      rw [e]
      unfold SB CS
      iintro ⟨⟨#Hc, HO⟩, ⟨Hs, Hd, Ht₁, Ht₂⟩, HK⟩
      iapply (step_sendHalf m ρ K d c h i hi (halfO c h l' + O) Kt')
      isplitr; · iexact Hc
      isplitl [Hs]; · iexact Hs
      isplitl [Hd]; · iexact Hd
      isplitl [HO]; · iexact HO
      isplitl [Ht₁]; · iexact Ht₁
      isplitl [Ht₂]; · iexact Ht₂
      iintro ⟨Hcr, HO⟩
      iapply HK
      isplitl [HO]
      · isplitr; · iexact Hc
        iexact HO
      · iexact Hcr))
  isplitl [HO]
  · isplitr; · iexact Hc
    iexact HO
  isplitl [HB]; · iexact HB
  iintro ⟨⟨-, HO⟩, HC⟩
  iapply HK
  isplitl [HO]; · iapply (Entails.of_eq (congrArg (owesE d) hz)); iexact HO
  isplitl [Hd]; · unfold hD; iexact Hd
  iexact HC

theorem pay_SF (d u : Fin 8) (i : Fin 3) (c : Fin 8) (h : Fin 2) :
    pay m ρ d (kSF i c h) u = fH d c h (shareTokN fullShare i.1) (FV m ρ) := rfl
theorem pay_RF (d u c : Fin 8) (h : Fin 2) : pay m ρ d (kRF c h) u = fH d c h fullShare (FV m ρ) := rfl
theorem pay_RT (d u c : Fin 8) : pay m ρ d (kRT c) u = iprop(∃ f, ⌜IsPart m ρ c f⌝ ∗ tC d c f) := rfl
theorem pay_ST (d u c : Fin 8) : pay m ρ d (kST c) u = iprop(∃ f, tC d c f) := rfl

/-! ## Every send of a device drained -/

def DR (d c : Fin 8) (h : Fin 2) (i : Fin 3 × Fin 8) : sProp 𝕄 := iprop(CS d c h i ∗ pos d (kSF i.1 c h) 0)
def DD (d c : Fin 8) (h : Fin 2) (i : Fin 3 × Fin 8) : sProp 𝕄 :=
  iprop(pos d (kSF i.1 c h) 1 ∗ fH d c h (shareTokN fullShare i.1.1) (FV m ρ))

/-- Something of every half of every chunk for every child. -/
abbrev sepS (d : Fin 8) (Φ : Fin 8 → Fin 2 → Fin 3 × Fin 8 → sProp 𝕄) : sProp 𝕄 :=
  sepL all8 fun c => sepL all2 fun h => sepL (children d) (Φ c h)

theorem step_drain (K : Fin 8 × Cell → ℕ) (d : Fin 8) (O : CellTallies nD τ sig Unit) (hO : Above 0 O) (Kt : PUnit → sProp 𝕄) :
    iprop(ctx m ρ K ∗ owesE d O ∗ sepS d (DR d) ∗ ((owesE d O ∗ sepS d (DD m ρ d)) -∗ Kt ⟨⟩)) ⊢ WP d (drain d) Kt := by
  unfold drain
  iintro ⟨#Hc, HO, HS, HK⟩
  iapply (wp_each d _ (fun c => sepL all2 fun h => sepL (children d) (DR d c h)) (fun c => sepL all2 fun h => sepL (children d) (DD m ρ d c h))
    (fun _ => iprop(ctx m ρ K ∗ owesE d O)) all8 (fun c _ l₁ Kt₁ =>
      wp_each d _ (fun h => sepL (children d) (DR d c h)) (fun h => sepL (children d) (DD m ρ d c h))
        (fun _ => iprop(ctx m ρ K ∗ owesE d O)) all2 (fun h _ l₂ Kt₂ =>
          wp_each d _ (DR d c h) (DD m ρ d c h) (fun _ => iprop(ctx m ρ K ∗ owesE d O)) (children d) (fun i hi l₃ Kt₃ => by
            unfold DR DD CS
            iintro ⟨⟨#Hc, HO⟩, ⟨Hcr, Hp⟩, HK⟩
            iapply (step_waitHalf m ρ K d (kSF i.1 c h) (sendF i.1 c h) rfl c h rfl d (dut_child d i hi c h).2 O hO Kt₃)
            isplitr; · iexact Hc
            isplitl [Hcr]; · iexact Hcr
            isplitl [HO]; · iexact HO
            isplitl [Hp]; · iexact Hp
            iintro ⟨HO, Hp, Hf⟩
            iapply HK
            isplitl [HO]
            · isplitr; · iexact Hc
              iexact HO
            isplitl [Hp]; · iexact Hp
            iapply (Entails.of_eq (pay_SF m ρ d d i.1 c h)); iexact Hf) Kt₂) Kt₁))
  isplitl [HO]
  · isplitr; · iexact Hc
    iexact HO
  isplitl [HS]; · iexact HS
  iintro ⟨⟨-, HO⟩, HS⟩
  iapply HK
  isplitl [HO] <;> iassumption

/-- What was kept and what came back is the whole context buffer. -/
theorem rejoin (d : Fin 8) :
    iprop(sepL all8 (fun c => sepL all2 (hD m ρ d c)) ∗ sepS d (DD m ρ d))
      ⊢ (iprop(sepL all8 (fun c => sepL all2 fun h => fH d c h fullShare (FV m ρ)) ∗ sepS d (fun c h i => pos d (kSF i.1 c h) 1)) : sProp 𝕄) := by
  refine ((sepL_sep all8 _ _).2.trans (sepL_mono all8 fun c _ => ?_)).trans (sepL_sep all8 _ _).1
  refine ((sepL_sep all2 _ _).2.trans (sepL_mono all2 fun h _ => ?_)).trans (sepL_sep all2 _ _).1
  have h1 := (sepL_sep (children d) (fun i => pos (F := F) d (kSF i.1 c h) 1) fun i => fH d c h (shareTokN fullShare i.1.1) (FV m ρ)).1
  have h2 := (shares d c h (FV m ρ)).2
  unfold DD hD
  iintro ⟨Hd, HS⟩
  ihave HS := h1 $$ HS
  icases HS with ⟨Hp, Hf⟩
  isplitr [Hp]
  · iapply h2
    isplitl [Hd] <;> iassumption
  · iexact Hp

/-! ## A relay -/

theorem step_loadF0 (d c : Fin 8) (Kt : Vec F S1x512x128 .bf16 → sProp 𝕄) :
    iprop(sepL all2 (hD m ρ d c) ∗ (sepL all2 (hD m ρ d c) -∗ Kt (lF m ρ c))) ⊢ WP d (loadF c) Kt := by
  have e : (loadF c : Prog (E F) _) = (loadF c).bind Prog.ret := rfl
  have hl := step_loadF m ρ d c (shareDrop fullShare (children d).length) (fun x => (Prog.ret x : Prog (E F) _)) Kt
  rw [e]
  rw [show sepL all2 (hD m ρ d c) = iprop(hD m ρ d c 0 ∗ hD m ρ d c 1 ∗ emp) from rfl]
  unfold hD
  iintro ⟨⟨H0, H1, -⟩, HK⟩
  iapply hl
  isplitl [H0]; · iexact H0
  isplitl [H1]; · iexact H1
  iintro ⟨H0, H1⟩
  unfold WP; rw [wp_ret]; imodintro
  iapply HK
  isplitl [H0]; · iexact H0
  isplitl [H1]; · iexact H1
  iempintro

def RelC (d c : Fin 8) (h : Fin 2) : sProp 𝕄 :=
  iprop(crd d (kRF c h) (amt (kRF c h)) ∗ pos d (kRF c h) 0 ∗ sepL (children d) (SB d c h))
def RelD (d c : Fin 8) (h : Fin 2) : sProp 𝕄 :=
  iprop(hD m ρ d c h ∗ pos d (kRF c h) 1 ∗ sepL (children d) (CS d c h))

theorem step_relayChunk (K : Fin 8 × Cell → ℕ) (d u c : Fin 8) (hu : parent d = some u) (O : CellTallies nD τ sig Unit)
    (hO : Above (2 + depth d) O) (Kt : Vec F S1x512x128 .bf16 → sProp 𝕄) :
    iprop(ctx m ρ K ∗ owesE d (chunkO d c all2 + O) ∗ sepL all2 (RelC d c)
        ∗ ((owesE d O ∗ sepL all2 (RelD m ρ d c)) -∗ Kt (lF m ρ c)))
      ⊢ WP d (relayChunk d c) Kt := by
  have hz : chunkO d c [] + O = O := zero_add O
  have hs1 : sepL all2 (RelD m ρ d c) ⊢ iprop(sepL all2 (hD m ρ d c) ∗ sepL all2 fun h => iprop(pos d (kRF c h) 1 ∗ sepL (children d) (CS d c h))) :=
    (sepL_sep all2 (hD m ρ d c) fun h => iprop(pos d (kRF c h) 1 ∗ sepL (children d) (CS d c h))).1
  have hs2 : iprop(sepL all2 (hD m ρ d c) ∗ sepL all2 fun h => iprop(pos d (kRF c h) 1 ∗ sepL (children d) (CS d c h))) ⊢ sepL all2 (RelD m ρ d c) := (sepL_sep all2 (hD m ρ d c) fun h => iprop(pos d (kRF c h) 1 ∗ sepL (children d) (CS d c h))).2
  unfold relayChunk
  rw [wp_then]
  iintro ⟨#Hc, HO, HR, HK⟩
  iapply (wp_each d _ (RelC d c) (RelD m ρ d c) (fun l => iprop(ctx m ρ K ∗ owesE d (chunkO d c l + O))) all2 (fun h _ l' Kt' => by
      have e : chunkO d c (h :: l') + O = halfO c h (children d) + (chunkO d c l' + O) := by
        unfold chunkO; rw [List.map_cons, List.sum_cons, add_assoc]
      have hab : Above (lvl d (kRF c h)) (halfO c h (children d) + (chunkO d c l' + O)) :=
        (above_half d c h _ fun _ hi => hi).add ((above_chunk d c l').add hO)
      rw [e]
      unfold RelC RelD
      rw [wp_then]
      iintro ⟨⟨#Hc, HO⟩, ⟨Hcr, Hp, HB⟩, HK⟩
      iapply (step_waitHalf m ρ K d (kRF c h) (recvF c h) rfl c h rfl u (by show (parent d).toFinset = _; rw [hu]; rfl) _ hab)
      isplitr; · iexact Hc
      isplitl [Hcr]; · iexact Hcr
      isplitl [HO]; · iexact HO
      isplitl [Hp]; · iexact Hp
      iintro ⟨HO, Hp, Hf⟩
      iapply (step_sends m ρ K d c h (chunkO d c l' + O) Kt')
      isplitr; · iexact Hc
      isplitl [HO]; · iexact HO
      isplitl [Hf]; · iapply (Entails.of_eq (pay_RF m ρ d u c h)); iexact Hf
      isplitl [HB]; · iexact HB
      iintro ⟨HO, Hd, HC⟩
      iapply HK
      isplitl [HO]
      · isplitr; · iexact Hc
        iexact HO
      isplitl [Hd]; · iexact Hd
      isplitl [Hp] <;> iassumption))
  isplitl [HO]
  · isplitr; · iexact Hc
    iexact HO
  isplitl [HR]; · iexact HR
  iintro ⟨⟨-, HO⟩, HR⟩
  ihave HR := hs1 $$ HR
  icases HR with ⟨Hd, HR⟩
  iapply (step_loadF0 m ρ d c Kt)
  isplitl [Hd]; · iexact Hd
  iintro Hd
  iapply HK
  isplitl [HO]; · iapply (Entails.of_eq (congrArg (owesE d) hz)); iexact HO
  iapply hs2
  isplitl [Hd] <;> iassumption

theorem sends_all (d : Fin 8) (O : CellTallies nD τ sig Unit) : sendsO d all8 + O =
    chunkO d 0 all2 + (chunkO d 1 all2 + (chunkO d 2 all2 + (chunkO d 3 all2 + (chunkO d 4 all2 + (chunkO d 5 all2
      + (chunkO d 6 all2 + (chunkO d 7 all2 + O))))))) := by
  unfold sendsO
  simp only [List.map_cons, List.map_nil, List.sum_cons, List.sum_nil, add_assoc, zero_add]

theorem step_relay (K : Fin 8 × Cell → ℕ) (d u : Fin 8) (hu : parent d = some u) (O : CellTallies nD τ sig Unit)
    (hO : Above (2 + depth d) O) (Kt : PUnit → sProp 𝕄) :
    iprop(ctx m ρ K ∗ iWo m ρ d ∗ (∃ f, oBuf d f) ∗ owesE d (sendsO d all8 + O) ∗ sepL all8 (fun c => sepL all2 (RelC d c))
        ∗ sepS d (fun c h i => pos d (kSF i.1 c h) 0)
        ∗ ((iWo m ρ d ∗ oBuf d (OUT m ρ d) ∗ owesE d O ∗ sepL all8 (fun c => sepL all2 fun h => fH d c h fullShare (FV m ρ))
            ∗ sepL all8 (fun c => sepL all2 fun h => pos d (kRF c h) 1) ∗ sepS d (fun c h i => pos d (kSF i.1 c h) 1)) -∗ Kt ⟨⟩))
      ⊢ WP d (relay d) Kt := by
  have a7 := (above_chunk d 7 all2).add hO
  have a6 := (above_chunk d 6 all2).add a7
  have a5 := (above_chunk d 5 all2).add a6
  have a4 := (above_chunk d 4 all2).add a5
  have a3 := (above_chunk d 3 all2).add a4
  have a2 := (above_chunk d 2 all2).add a3
  have a1 := (above_chunk d 1 all2).add a2
  have hdone : sepL all8 (fun c => sepL all2 (RelD m ρ d c)) ⊢ (iprop(sepL all8 (fun c => sepL all2 (hD m ρ d c))
      ∗ sepL all8 (fun c => sepL all2 fun h => pos d (kRF c h) 1) ∗ sepS d (CS d)) : sProp 𝕄) :=
    (sepL_mono all8 fun c _ => ((sepL_sep all2 _ _).1.trans (Laws.sep_mono_right (sepL_sep all2 _ _).1))).trans
      ((sepL_sep all8 _ _).1.trans (Laws.sep_mono_right (sepL_sep all8 _ _).1))
  have hdr : iprop(sepS d (CS d) ∗ sepS d (fun c h i => pos d (kSF i.1 c h) 0)) ⊢ (sepS d (DR d) : sProp 𝕄) :=
    (sepL_sep all8 _ _).2.trans (sepL_mono all8 fun c _ => (sepL_sep all2 _ _).2.trans (sepL_mono all2 fun h _ => (sepL_sep _ _ _).2))
  have hj := rejoin m ρ d
  have ho1 (f : S2x512x768.Idx → F .f32) := (oBuf_split (F := F) d f).1
  have ho2 := (oBuf_split (F := F) d (OUT m ρ d)).2
  have c8 (Φ : Fin 8 → sProp 𝕄) : sepL all8 Φ = iprop(Φ 0 ∗ Φ 1 ∗ Φ 2 ∗ Φ 3 ∗ Φ 4 ∗ Φ 5 ∗ Φ 6 ∗ Φ 7 ∗ emp) := rfl
  rw [sends_all]
  rw [c8 fun c => sepL all2 (RelC d c)]
  rw [c8 fun c => sepL all2 (RelD m ρ d c)] at hdone
  iintro ⟨#Hc, HW, ⟨%f, Hout⟩, HO, ⟨H0, H1, H2, H3, H4, H5, H6, H7, -⟩, Hps, HK⟩
  unfold relay loadWo iWo
  iapply (step_load d mWo (Rect.unit (s := S512x768) ![0, 0] S512x768.size inb_S512x768_S512x768_0_0) (View.loadsAt_vmem h_S512x768)
    Finset.univ (Finset.subset_univ _) fullShare (sWo m ρ d))
  isplitl [HW]; · iexact HW
  iintro HW
  iapply (Entails.of_eq (wp_then d (relayChunk d 0) _ _).symm)
  iapply (step_relayChunk m ρ K d u 0 hu _ a1)
  isplitr; · iexact Hc
  isplitl [HO]; · iexact HO
  isplitl [H0]; · iexact H0
  iintro ⟨HO, H0⟩
  iapply (Entails.of_eq (wp_then d (relayChunk d 1) _ _).symm)
  iapply (step_relayChunk m ρ K d u 1 hu _ a2)
  isplitr; · iexact Hc
  isplitl [HO]; · iexact HO
  isplitl [H1]; · iexact H1
  iintro ⟨HO, H1⟩
  iapply (Entails.of_eq (wp_then d (relayChunk d 2) _ _).symm)
  iapply (step_relayChunk m ρ K d u 2 hu _ a3)
  isplitr; · iexact Hc
  isplitl [HO]; · iexact HO
  isplitl [H2]; · iexact H2
  iintro ⟨HO, H2⟩
  iapply (Entails.of_eq (wp_then d (relayChunk d 3) _ _).symm)
  iapply (step_relayChunk m ρ K d u 3 hu _ a4)
  isplitr; · iexact Hc
  isplitl [HO]; · iexact HO
  isplitl [H3]; · iexact H3
  iintro ⟨HO, H3⟩
  iapply (Entails.of_eq (wp_then d (relayChunk d 4) _ _).symm)
  iapply (step_relayChunk m ρ K d u 4 hu _ a5)
  isplitr; · iexact Hc
  isplitl [HO]; · iexact HO
  isplitl [H4]; · iexact H4
  iintro ⟨HO, H4⟩
  iapply (Entails.of_eq (wp_then d (relayChunk d 5) _ _).symm)
  iapply (step_relayChunk m ρ K d u 5 hu _ a6)
  isplitr; · iexact Hc
  isplitl [HO]; · iexact HO
  isplitl [H5]; · iexact H5
  iintro ⟨HO, H5⟩
  iapply (Entails.of_eq (wp_then d (relayChunk d 6) _ _).symm)
  iapply (step_relayChunk m ρ K d u 6 hu _ a7)
  isplitr; · iexact Hc
  isplitl [HO]; · iexact HO
  isplitl [H6]; · iexact H6
  iintro ⟨HO, H6⟩
  iapply (Entails.of_eq (wp_then d (relayChunk d 7) _ _).symm)
  iapply (step_relayChunk m ρ K d u 7 hu _ hO)
  isplitr; · iexact Hc
  isplitl [HO]; · iexact HO
  isplitl [H7]; · iexact H7
  iintro ⟨HO, H7⟩
  ihave HD := hdone $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  icases HD with ⟨HhD, Hpr, HCS⟩
  ihave Hout := (ho1 f) $$ Hout
  icases Hout with ⟨Ho0, Ho1⟩
  iapply (Entails.of_eq (wp_then d (storeOut 0 _) _ _).symm)
  iapply (step_storeOut m ρ d 0 (proj (woB (lWo m ρ d)) (lF m ρ 0) (lF m ρ 1) (lF m ρ 2) (lF m ρ 3)) rfl)
  isplitl [Ho0]; · iexists f; unfold oB2; iexact Ho0
  iintro Ho0
  iapply (Entails.of_eq (wp_then d (storeOut 1 _) _ _).symm)
  iapply (step_storeOut m ρ d 1 (proj (woB (lWo m ρ d)) (lF m ρ 4) (lF m ρ 5) (lF m ρ 6) (lF m ρ 7)) rfl)
  isplitl [Ho1]; · iexists f; unfold oB2; iexact Ho1
  iintro Ho1
  ihave HDR := hdr $$ [HCS Hps]
  · isplitl [HCS] <;> iassumption
  iapply (step_drain m ρ K d O (hO.mono (Nat.zero_le _)) Kt)
  isplitr; · iexact Hc
  isplitl [HO]; · iexact HO
  isplitl [HDR]; · iexact HDR
  iintro ⟨HO, HDD⟩
  ihave HJ := hj $$ [HhD HDD]
  · isplitl [HhD] <;> iassumption
  icases HJ with ⟨HF, Hps⟩
  iapply HK
  isplitl [HW]; · iexact HW
  isplitl [Ho0 Ho1]
  · iapply ho2; unfold oB2
    isplitl [Ho0] <;> iassumption
  isplitl [HO]; · iexact HO
  isplitl [HF]; · iexact HF
  isplitl [Hpr]; · iexact Hpr
  iexact Hps

end Cert.KernelIdeal.Mine

end
-- ==== Proof.KI.Ends.lean ====
/-
  Device 1 sending its partials, and device 0.
-/
module

public import proofs.«01_k».proof.Proof.KI.Work

@[expose] public section

set_option synthInstance.maxSize 4096

noncomputable section

namespace Cert.KernelIdeal.Mine

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Transfers (shareTokN shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

theorem wp_nil {α : Type} (d : Fin 8) (f : α → Prog (E F) PUnit) (Kt : PUnit → sProp 𝕄) : Kt ⟨⟩ ⊢ WP d (seqL f []) Kt := by
  unfold seqL WP
  rw [Prog.pure_eq_ret, wp_ret]
  iintro H
  imodintro
  iexact H

/-! ## Device 1's partials -/

/-- What device 1 needs for a chunk of partials. -/
def PC (c : Fin 8) : sProp 𝕄 := iprop((∃ f, tC 1 c f) ∗ (∃ f, tC 0 c f) ∗ tok 1 (kST c) 1 ∗ tok 0 (kRT c) 1)

/-- What is owed for chunks of a batch. -/
def partO (b : Fin 2) (l : List (Fin 4)) : CellTallies nD τ sig Unit :=
  (l.map fun p => tallyAt (cellAt 0 (kRT (ch b p))) () (amt (kRT (ch b p)))).sum

theorem step_partChunk (K : Fin 8 × Cell → ℕ) (b : Fin 2) (p : Fin 4) (O : CellTallies nD τ sig Unit) (Kt : PUnit → sProp 𝕄) :
    iprop(ctx m ρ K ∗ iK m ρ 1 ∗ iV m ρ 1 ∗ owesE 1 (tallyAt (cellAt 0 (kRT (ch b p))) () (amt (kRT (ch b p))) + O) ∗ PC (ch b p)
        ∗ ((iK m ρ 1 ∗ iV m ρ 1 ∗ owesE 1 O ∗ crd 1 (kST (ch b p)) (amt (kST (ch b p)))) -∗ Kt ⟨⟩))
      ⊢ WP 1 (partChunk (q1 (k0_pay1 (lWq m ρ 1)) (lX1 m ρ 1 b)) b p) Kt := by
  unfold partChunk PC
  iintro ⟨#Hc, HK, HV, HO, ⟨⟨%f, HT⟩, Hd, Ht₁, Ht₂⟩, Hk⟩
  iapply (Entails.of_eq (wp_then 1 (part (q1 (k0_pay1 (lWq m ρ 1)) (lX1 m ρ 1 b)) b p 0) _ _).symm)
  iapply (step_part m ρ b p 0 f)
  isplitl [HK]; · iexact HK
  isplitl [HV]; · iexact HV
  isplitl [HT]; · iexact HT
  iintro ⟨HK, HV, ⟨%f₁, %h₁, HT⟩⟩
  iapply (Entails.of_eq (wp_then 1 (part (q1 (k0_pay1 (lWq m ρ 1)) (lX1 m ρ 1 b)) b p 1) _ _).symm)
  iapply (step_part m ρ b p 1 f₁)
  isplitl [HK]; · iexact HK
  isplitl [HV]; · iexact HV
  isplitl [HT]; · iexact HT
  iintro ⟨HK, HV, ⟨%f₂, %h₂, HT⟩⟩
  iapply (step_sendPart m ρ K (ch b p) f₂ (fun s => match s with
    | 0 => h₂.2 0 (by decide) h₁.1
    | 1 => h₂.1) O Kt)
  isplitr; · iexact Hc
  isplitl [HT]; · iexact HT
  isplitl [Hd]; · iexact Hd
  isplitl [HO]; · iexact HO
  isplitl [Ht₁]; · iexact Ht₁
  isplitl [Ht₂]; · iexact Ht₂
  iintro ⟨Hcr, HO⟩
  iapply Hk
  isplitl [HK]; · iexact HK
  isplitl [HV]; · iexact HV
  isplitl [HO] <;> iassumption

theorem step_partBatch (K : Fin 8 × Cell → ℕ) (b : Fin 2) (O : CellTallies nD τ sig Unit) (Kt : PUnit → sProp 𝕄) :
    iprop(ctx m ρ K ∗ iX m ρ 1 ∗ iK m ρ 1 ∗ iV m ρ 1 ∗ owesE 1 (partO b all4 + O) ∗ sepL all4 (fun p => PC (ch b p))
        ∗ ((iX m ρ 1 ∗ iK m ρ 1 ∗ iV m ρ 1 ∗ owesE 1 O ∗ sepL all4 fun p => crd 1 (kST (ch b p)) (amt (kST (ch b p)))) -∗ Kt ⟨⟩))
      ⊢ WP 1 (partBatch (k0_pay1 (lWq m ρ 1)) b) Kt := by
  have hz : partO b [] + O = O := zero_add O
  unfold partBatch
  iintro ⟨#Hc, HX, HK, HV, HO, HP, Hk⟩
  unfold iX
  iapply (step_load 1 mX (rX1 b) (View.loadsAt_vmem h_S1x128x768) Finset.univ (Finset.subset_univ _) fullShare (sX m ρ 1))
  isplitl [HX]; · iexact HX
  iintro HX
  iapply (wp_each 1 (partChunk (q1 (k0_pay1 (lWq m ρ 1)) (lX1 m ρ 1 b)) b) (fun p => PC (ch b p)) (fun p => crd 1 (kST (ch b p)) (amt (kST (ch b p))))
    (fun l => iprop(ctx m ρ K ∗ iK m ρ 1 ∗ iV m ρ 1 ∗ owesE 1 (partO b l + O))) all4 (fun p _ l' Kt' => by
      have e : partO b (p :: l') + O = tallyAt (cellAt 0 (kRT (ch b p))) () (amt (kRT (ch b p))) + (partO b l' + O) := by
        unfold partO; rw [List.map_cons, List.sum_cons, add_assoc]
      rw [e]
      iintro ⟨⟨#Hc, HK, HV, HO⟩, HP, Hk⟩
      iapply (step_partChunk m ρ K b p (partO b l' + O) Kt')
      isplitr; · iexact Hc
      isplitl [HK]; · iexact HK
      isplitl [HV]; · iexact HV
      isplitl [HO]; · iexact HO
      isplitl [HP]; · iexact HP
      iintro ⟨HK, HV, HO, Hcr⟩
      iapply Hk
      isplitr [Hcr]
      · isplitr; · iexact Hc
        isplitl [HK]; · iexact HK
        isplitl [HV] <;> iassumption
      · iexact Hcr) Kt)
  isplitl [HK HV HO]
  · isplitr; · iexact Hc
    isplitl [HK]; · iexact HK
    isplitl [HV] <;> iassumption
  isplitl [HP]; · iexact HP
  iintro ⟨⟨-, HK, HV, HO⟩, Hcr⟩
  iapply Hk
  isplitl [HX]; · iexact HX
  isplitl [HK]; · iexact HK
  isplitl [HV]; · iexact HV
  isplitl [HO]; · iapply (Entails.of_eq (congrArg (owesE 1) hz)); iexact HO
  iexact Hcr

theorem parts_all (O : CellTallies nD τ sig Unit) : partsO all8 + O = partO 0 all4 + (partO 1 all4 + O) := by
  unfold partsO partO
  rw [show all8 = all4.map (ch 0) ++ all4.map (ch 1) by decide, List.map_append, List.sum_append, List.map_map, List.map_map, add_assoc]
  rfl

theorem step_parts (K : Fin 8 × Cell → ℕ) (O : CellTallies nD τ sig Unit) (hO : Above 0 O) (Kt : PUnit → sProp 𝕄) :
    iprop(ctx m ρ K ∗ iX m ρ 1 ∗ iWq m ρ 1 ∗ iK m ρ 1 ∗ iV m ρ 1 ∗ owesE 1 (partsO all8 + O) ∗ sepL all8 PC
        ∗ sepL all8 (fun c => pos 1 (kST c) 0)
        ∗ ((iX m ρ 1 ∗ iWq m ρ 1 ∗ iK m ρ 1 ∗ iV m ρ 1 ∗ owesE 1 O ∗ sepL all8 fun c => iprop(pos 1 (kST c) 1 ∗ ∃ f, tC 1 c f)) -∗ Kt ⟨⟩))
      ⊢ WP 1 parts Kt := by
  have hP := (sepL_chunks (F := F) PC).1
  have hC := (sepL_chunks (F := F) fun c => crd 1 (kST c) (amt (kST c))).2
  have hS := (sepL_sep (F := F) all8 (fun c => crd 1 (kST c) (amt (kST c))) fun c => pos 1 (kST c) 0).2
  rw [show (sepL all2 fun b => sepL all4 fun p => PC (F := F) (ch b p)) = iprop((sepL all4 fun p => PC (ch 0 p)) ∗ (sepL all4 fun p => PC (ch 1 p)) ∗ emp) from rfl] at hP
  rw [show (sepL all2 fun b => sepL all4 fun p => crd (F := F) 1 (kST (ch b p)) (amt (kST (ch b p))))
    = iprop((sepL all4 fun p => crd 1 (kST (ch 0 p)) (amt (kST (ch 0 p)))) ∗ (sepL all4 fun p => crd 1 (kST (ch 1 p)) (amt (kST (ch 1 p)))) ∗ emp) from rfl] at hC
  rw [parts_all]
  unfold parts
  iintro ⟨#Hc, HX, HW, HK, HV, HO, HP, Hps, Hk⟩
  unfold iWq loadWq
  iapply (step_load 1 mWq (Rect.unit (s := S768x512) ![0, 0] S768x512.size inb_S768x512_S768x512_0_0) (View.loadsAt_vmem h_S768x512)
    Finset.univ (Finset.subset_univ _) fullShare (sWq m ρ 1))
  isplitl [HW]; · iexact HW
  iintro HW
  ihave HP := hP $$ HP
  icases HP with ⟨HP0, HP1, -⟩
  iapply (Entails.of_eq (wp_then 1 (seqL (partBatch (k0_pay1 (lWq m ρ 1))) all2) (fun _ => seqL (fun c => waitPart (sendT c) c) all8) Kt).symm)
  iapply (Entails.of_eq (wp_then 1 (partBatch (k0_pay1 (lWq m ρ 1)) 0) (fun _ => seqL (partBatch (k0_pay1 (lWq m ρ 1))) [1]) _).symm)
  iapply (step_partBatch m ρ K 0 (partO 1 all4 + O))
  isplitr; · iexact Hc
  isplitl [HX]; · iexact HX
  isplitl [HK]; · iexact HK
  isplitl [HV]; · iexact HV
  isplitl [HO]; · iexact HO
  isplitl [HP0]; · iexact HP0
  iintro ⟨HX, HK, HV, HO, HC0⟩
  iapply (Entails.of_eq (wp_then 1 (partBatch (k0_pay1 (lWq m ρ 1)) 1) (fun _ => seqL (partBatch (k0_pay1 (lWq m ρ 1))) []) _).symm)
  iapply (step_partBatch m ρ K 1 O)
  isplitr; · iexact Hc
  isplitl [HX]; · iexact HX
  isplitl [HK]; · iexact HK
  isplitl [HV]; · iexact HV
  isplitl [HO]; · iexact HO
  isplitl [HP1]; · iexact HP1
  iintro ⟨HX, HK, HV, HO, HC1⟩
  iapply (wp_nil _ _ _)
  ihave HC := hC $$ [HC0 HC1]
  · isplitl [HC0]; · iexact HC0
    isplitl [HC1]; · iexact HC1
    iempintro
  ihave HS := hS $$ [HC Hps]
  · isplitl [HC] <;> iassumption
  iapply (wp_each 1 (fun c => waitPart (sendT c) c) (fun c => iprop(crd 1 (kST c) (amt (kST c)) ∗ pos 1 (kST c) 0))
    (fun c => iprop(pos 1 (kST c) 1 ∗ ∃ f, tC 1 c f)) (fun _ => iprop(ctx m ρ K ∗ owesE 1 O)) all8 (fun c _ l' Kt' => by
      iintro ⟨⟨#Hc, HO⟩, ⟨Hcr, Hp⟩, HK⟩
      iapply (step_waitPart m ρ K 1 (kST c) (sendT c) rfl c rfl 1 rfl O hO Kt')
      isplitr; · iexact Hc
      isplitl [Hcr]; · iexact Hcr
      isplitl [HO]; · iexact HO
      isplitl [Hp]; · iexact Hp
      iintro ⟨HO, Hp, Hf⟩
      iapply HK
      isplitl [HO]
      · isplitr; · iexact Hc
        iexact HO
      isplitl [Hp]; · iexact Hp
      iapply (Entails.of_eq (pay_ST m ρ 1 1 c)); iexact Hf) Kt)
  isplitl [HO]
  · isplitr; · iexact Hc
    iexact HO
  isplitl [HS]; · iexact HS
  iintro ⟨⟨-, HO⟩, HS⟩
  iapply Hk
  isplitl [HX]; · iexact HX
  isplitl [HW]; · iexact HW
  isplitl [HK]; · iexact HK
  isplitl [HV]; · iexact HV
  isplitl [HO] <;> iassumption

/-! ## Device 0 -/

/-- What device 0 needs for a chunk, -/
def RootC (c : Fin 8) : sProp 𝕄 :=
  iprop((∃ f, fH 0 c 0 fullShare f) ∗ (∃ f, fH 0 c 1 fullShare f) ∗ crd 0 (kRT c) (amt (kRT c)) ∗ pos 0 (kRT c) 0
    ∗ sepL all2 fun h => sepL (children 0) (SB 0 c h))
/-- and what it has after it. -/
def RootD (c : Fin 8) : sProp 𝕄 :=
  iprop(sepL all2 (hD m ρ 0 c) ∗ (pos 0 (kRT c) 1 ∗ ∃ f, tC 0 c f) ∗ sepL all2 fun h => sepL (children 0) (CS 0 c h))

theorem sepL_two (Φ : Fin 2 → sProp 𝕄) : sepL all2 Φ = iprop(Φ 0 ∗ Φ 1 ∗ emp) := rfl

theorem step_rootChunk (K : Fin 8 × Cell → ℕ) (b : Fin 2) (p : Fin 4) (O : CellTallies nD τ sig Unit) (hO : Above 2 O) (Kt : PUnit → sProp 𝕄) :
    iprop(ctx m ρ K ∗ owesE 0 (chunkO 0 (ch b p) all2 + O) ∗ RootC (ch b p) ∗ ((owesE 0 O ∗ RootD m ρ (ch b p)) -∗ Kt ⟨⟩))
      ⊢ WP 0 (rootChunk (qR m ρ b) (kR m ρ b) (vR m ρ b) b p) Kt := by
  have hab : Above (lvl 0 (kRT (ch b p))) (chunkO 0 (ch b p) all2 + O) := (above_chunk 0 (ch b p) all2).add hO
  have h0 (f : S8x512x128.Idx → F .bf16) := (half0_eq (F := F) 0 (ch b p) f).1
  have h1 (f : S8x512x128.Idx → F .bf16) := (half1_eq (F := F) 0 (ch b p) f).1
  have j0 := (half0_eq (F := F) 0 (ch b p) (FV m ρ)).2
  have j1 := (half1_eq (F := F) 0 (ch b p) (FV m ρ)).2
  have e : chunkO 0 (ch b p) all2 + O = halfO (ch b p) 0 (children 0) + (halfO (ch b p) 1 (children 0) + O) := by
    unfold chunkO
    simp only [List.map_cons, List.map_nil, List.sum_cons, List.sum_nil, add_assoc, zero_add]
  rw [e] at hab ⊢
  unfold rootChunk RootC RootD
  iintro ⟨#Hc, HO, ⟨⟨%f, Hf⟩, ⟨%g, Hg⟩, Hcr, Hp, HB⟩, Hk⟩
  ihave Hf := (h0 f) $$ Hf
  icases Hf with ⟨T0, T1⟩
  ihave Hg := (h1 g) $$ Hg
  icases Hg with ⟨⟨M0, B0⟩, M1, B1⟩
  iapply (Entails.of_eq (wp_then 0 (headTop (qR m ρ b) (kR m ρ b) (vR m ρ b) b p 0) _ Kt).symm)
  iapply (step_headTop m ρ b p 0)
  isplitl [T0]; · iexists f; iexact T0
  isplitl [M0]; · iexists g; iexact M0
  iintro ⟨T0, M0⟩
  iapply (Entails.of_eq (wp_then 0 (waitPart (recvT (ch b p)) (ch b p)) _ Kt).symm)
  iapply (step_waitPart m ρ K 0 (kRT (ch b p)) (recvT (ch b p)) rfl (ch b p) rfl 1 rfl _ hab)
  isplitr; · iexact Hc
  isplitl [Hcr]; · iexact Hcr
  isplitl [HO]; · iexact HO
  isplitl [Hp]; · iexact Hp
  iintro ⟨HO, Hp, HT⟩
  ihave HT := (Entails.of_eq (pay_RT m ρ 0 1 (ch b p))) $$ HT
  icases HT with ⟨%t, %ht, HT⟩
  iapply (Entails.of_eq (wp_then 0 (headBot (qR m ρ b) (kR m ρ b) (vR m ρ b) b p 0) _ Kt).symm)
  iapply (step_headBot m ρ b p 0 t ht)
  isplitl [HT]; · iexact HT
  isplitl [B0]; · iexists g; iexact B0
  iintro ⟨HT, B0⟩
  iapply (Entails.of_eq (wp_then 0 (headTop (qR m ρ b) (kR m ρ b) (vR m ρ b) b p 1) _ Kt).symm)
  iapply (step_headTop m ρ b p 1)
  isplitl [T1]; · iexists f; iexact T1
  isplitl [M1]; · iexists g; iexact M1
  iintro ⟨T1, M1⟩
  iapply (Entails.of_eq (wp_then 0 (headBot (qR m ρ b) (kR m ρ b) (vR m ρ b) b p 1) _ Kt).symm)
  iapply (step_headBot m ρ b p 1 t ht)
  isplitl [HT]; · iexact HT
  isplitl [B1]; · iexists g; iexact B1
  iintro ⟨HT, B1⟩
  ihave Hf := j0 $$ [T0 T1]
  · isplitl [T0] <;> iassumption
  ihave Hg := j1 $$ [M0 B0 M1 B1]
  · isplitl [M0 B0]
    · isplitl [M0] <;> iassumption
    · isplitl [M1] <;> iassumption
  ihave HB := (Entails.of_eq (sepL_two fun h => sepL (children 0) (SB 0 (ch b p) h))) $$ HB
  icases HB with ⟨HB0, HB1, -⟩
  iapply (Entails.of_eq (wp_then 0 (seqL (sendHalf (ch b p) 0) (children 0)) (fun _ => seqL (fun h => seqL (sendHalf (ch b p) h) (children 0)) [1]) Kt).symm)
  iapply (step_sends m ρ K 0 (ch b p) 0 (halfO (ch b p) 1 (children 0) + O))
  isplitr; · iexact Hc
  isplitl [HO]; · iexact HO
  isplitl [Hf]; · iexact Hf
  isplitl [HB0]; · iexact HB0
  iintro ⟨HO, Hf, HC0⟩
  iapply (Entails.of_eq (wp_then 0 (seqL (sendHalf (ch b p) 1) (children 0)) (fun _ => seqL (fun h => seqL (sendHalf (ch b p) h) (children 0)) []) Kt).symm)
  iapply (step_sends m ρ K 0 (ch b p) 1 O)
  isplitr; · iexact Hc
  isplitl [HO]; · iexact HO
  isplitl [Hg]; · iexact Hg
  isplitl [HB1]; · iexact HB1
  iintro ⟨HO, Hg, HC1⟩
  iapply (wp_nil _ _ _)
  iapply Hk
  isplitl [HO]; · iexact HO
  isplitl [Hf Hg]
  · iapply (Entails.of_eq (sepL_two (hD m ρ 0 (ch b p))).symm)
    isplitl [Hf]; · iexact Hf
    isplitl [Hg]; · iexact Hg
    iempintro
  isplitl [Hp HT]
  · isplitl [Hp]; · iexact Hp
    iexists t; iexact HT
  iapply (Entails.of_eq (sepL_two fun h => sepL (children 0) (CS 0 (ch b p) h)).symm)
  isplitl [HC0]; · iexact HC0
  isplitl [HC1]; · iexact HC1
  iempintro

/-- What is owed for chunks of a batch. -/
def batchO (b : Fin 2) (l : List (Fin 4)) : CellTallies nD τ sig Unit := (l.map fun p => chunkO 0 (ch b p) all2).sum

theorem above_batch (b : Fin 2) (l : List (Fin 4)) : Above 2 (batchO b l) := Above.sum _ _ fun p _ => above_chunk 0 (ch b p) all2

theorem step_rootBatch (K : Fin 8 × Cell → ℕ) (b : Fin 2) (O : CellTallies nD τ sig Unit) (hO : Above 2 O) (Kt : PUnit → sProp 𝕄) :
    iprop(ctx m ρ K ∗ iX m ρ 0 ∗ iK m ρ 0 ∗ iV m ρ 0 ∗ owesE 0 (batchO b all4 + O) ∗ sepL all4 (fun p => RootC (ch b p))
        ∗ ((iX m ρ 0 ∗ iK m ρ 0 ∗ iV m ρ 0 ∗ owesE 0 O ∗ sepL all4 fun p => RootD m ρ (ch b p)) -∗ Kt ⟨⟩))
      ⊢ WP 0 (rootBatch (k0_pay67 (lWq m ρ 0)) b) Kt := by
  have hz : batchO b [] + O = O := zero_add O
  unfold rootBatch
  iintro ⟨#Hc, HX, HK, HV, HO, HP, Hk⟩
  unfold iX iK iV
  iapply (step_load 0 mX (rX b) (View.loadsAt_vmem h_S1x512x768) Finset.univ (Finset.subset_univ _) fullShare (sX m ρ 0))
  isplitl [HX]; · iexact HX
  iintro HX
  iapply (step_load 0 mK (rK b) (View.loadsAt_vmem h_S1x512x8x64) Finset.univ (Finset.subset_univ _) fullShare (sK m ρ 0))
  isplitl [HK]; · iexact HK
  iintro HK
  iapply (step_load 0 mV (rK b) (View.loadsAt_vmem h_S1x512x8x64) Finset.univ (Finset.subset_univ _) fullShare (sV m ρ 0))
  isplitl [HV]; · iexact HV
  iintro HV
  iapply (wp_each 0 (rootChunk (qR m ρ b) (kR m ρ b) (vR m ρ b) b) (fun p => RootC (ch b p)) (fun p => RootD m ρ (ch b p))
    (fun l => iprop(ctx m ρ K ∗ owesE 0 (batchO b l + O))) all4 (fun p _ l' Kt' => by
      have e : batchO b (p :: l') + O = chunkO 0 (ch b p) all2 + (batchO b l' + O) := by
        unfold batchO; rw [List.map_cons, List.sum_cons, add_assoc]
      rw [e]
      iintro ⟨⟨#Hc, HO⟩, HP, Hk⟩
      iapply (step_rootChunk m ρ K b p (batchO b l' + O) ((above_batch b l').add hO) Kt')
      isplitr; · iexact Hc
      isplitl [HO]; · iexact HO
      isplitl [HP]; · iexact HP
      iintro ⟨HO, HD⟩
      iapply Hk
      isplitl [HO]
      · isplitr; · iexact Hc
        iexact HO
      · iexact HD) Kt)
  isplitl [HO]
  · isplitr; · iexact Hc
    iexact HO
  isplitl [HP]; · iexact HP
  iintro ⟨⟨-, HO⟩, HD⟩
  iapply Hk
  isplitl [HX]; · iexact HX
  isplitl [HK]; · iexact HK
  isplitl [HV]; · iexact HV
  isplitl [HO]; · iapply (Entails.of_eq (congrArg (owesE 0) hz)); iexact HO
  iexact HD

theorem batches_all (O : CellTallies nD τ sig Unit) : sendsO 0 all8 + O = batchO 0 all4 + (batchO 1 all4 + O) := by
  unfold sendsO batchO
  rw [show all8 = all4.map (ch 0) ++ all4.map (ch 1) by decide, List.map_append, List.sum_append, List.map_map, List.map_map, add_assoc]
  rfl

/-- A load of a chunk, from what is kept of it. -/
theorem step_loadK (c : Fin 8) {α : Type} (k : Vec F S1x512x128 .bf16 → Prog (E F) α) (Kt : α → sProp 𝕄) :
    iprop(sepL all2 (hD m ρ 0 c) ∗ (sepL all2 (hD m ρ 0 c) -∗ WP 0 (k (lF m ρ c)) Kt)) ⊢ WP 0 ((loadF c).bind k) Kt := by
  rw [wp_then]
  exact step_loadF0 m ρ 0 c fun x => WP 0 (k x) Kt

theorem step_rootProj (b : Fin 2) (Kt : PUnit → sProp 𝕄) :
    iprop(sepL all4 (fun p => sepL all2 (hD m ρ 0 (ch b p))) ∗ (∃ f, oB2 0 b f)
        ∗ ((sepL all4 (fun p => sepL all2 (hD m ρ 0 (ch b p))) ∗ oB2 0 b (OUT m ρ 0)) -∗ Kt ⟨⟩))
      ⊢ WP 0 (rootProj (woB (lWo m ρ 0)) b) Kt := by
  unfold rootProj
  rw [show sepL all4 (fun p => sepL all2 (hD m ρ 0 (ch b p))) = iprop(sepL all2 (hD m ρ 0 (ch b 0)) ∗ sepL all2 (hD m ρ 0 (ch b 1))
    ∗ sepL all2 (hD m ρ 0 (ch b 2)) ∗ sepL all2 (hD m ρ 0 (ch b 3)) ∗ emp) from rfl]
  iintro ⟨⟨H0, H1, H2, H3, -⟩, Ho, Hk⟩
  iapply (step_loadK m ρ (ch b 0))
  isplitl [H0]; · iexact H0
  iintro H0
  iapply (step_loadK m ρ (ch b 1))
  isplitl [H1]; · iexact H1
  iintro H1
  iapply (step_loadK m ρ (ch b 2))
  isplitl [H2]; · iexact H2
  iintro H2
  iapply (step_loadK m ρ (ch b 3))
  isplitl [H3]; · iexact H3
  iintro H3
  iapply (step_storeOut m ρ 0 b (proj (woB (lWo m ρ 0)) (lF m ρ (ch b 0)) (lF m ρ (ch b 1)) (lF m ρ (ch b 2)) (lF m ρ (ch b 3))) rfl)
  isplitl [Ho]; · iexact Ho
  iintro Ho
  iapply Hk
  isplitr [Ho]
  · isplitl [H0]; · iexact H0
    isplitl [H1]; · iexact H1
    isplitl [H2]; · iexact H2
    isplitl [H3]; · iexact H3
    iempintro
  · iexact Ho

theorem step_root (K : Fin 8 × Cell → ℕ) (O : CellTallies nD τ sig Unit) (hO : Above 2 O) (Kt : PUnit → sProp 𝕄) :
    iprop(ctx m ρ K ∗ iX m ρ 0 ∗ iWq m ρ 0 ∗ iK m ρ 0 ∗ iV m ρ 0 ∗ iWo m ρ 0 ∗ (∃ f, oBuf 0 f) ∗ owesE 0 (sendsO 0 all8 + O)
        ∗ sepL all8 RootC ∗ sepS 0 (fun c h i => pos 0 (kSF i.1 c h) 0)
        ∗ ((iX m ρ 0 ∗ iWq m ρ 0 ∗ iK m ρ 0 ∗ iV m ρ 0 ∗ iWo m ρ 0 ∗ oBuf 0 (OUT m ρ 0) ∗ owesE 0 O
            ∗ sepL all8 (fun c => sepL all2 fun h => fH 0 c h fullShare (FV m ρ))
            ∗ sepL all8 (fun c => iprop(pos 0 (kRT c) 1 ∗ ∃ f, tC 0 c f)) ∗ sepS 0 (fun c h i => pos 0 (kSF i.1 c h) 1)) -∗ Kt ⟨⟩))
      ⊢ WP 0 root Kt := by
  have hP := (sepL_chunks (F := F) RootC).1
  have hD' := (sepL_chunks (RootD m ρ)).2
  have hH := sepL_chunks fun c => sepL all2 (hD m ρ 0 c)
  have hdone : sepL all8 (RootD m ρ) ⊢ (iprop(sepL all8 (fun c => sepL all2 (hD m ρ 0 c))
      ∗ sepL all8 (fun c => iprop(pos 0 (kRT c) 1 ∗ ∃ f, tC 0 c f)) ∗ sepS 0 (CS 0)) : sProp 𝕄) :=
    (sepL_sep all8 _ _).1.trans (Laws.sep_mono_right (sepL_sep all8 _ _).1)
  have hdr : iprop(sepS 0 (CS 0) ∗ sepS 0 (fun c h i => pos 0 (kSF i.1 c h) 0)) ⊢ (sepS 0 (DR 0) : sProp 𝕄) :=
    (sepL_sep all8 _ _).2.trans (sepL_mono all8 fun c _ => (sepL_sep all2 _ _).2.trans (sepL_mono all2 fun h _ => (sepL_sep _ _ _).2))
  have hj := rejoin m ρ 0
  have ho1 (f : S2x512x768.Idx → F .f32) := (oBuf_split (F := F) 0 f).1
  have ho2 := (oBuf_split (F := F) 0 (OUT m ρ 0)).2
  have c2 (Φ : Fin 2 → sProp 𝕄) : sepL all2 Φ = iprop(Φ 0 ∗ Φ 1 ∗ emp) := rfl
  rw [c2 fun b => sepL all4 fun p => RootC (ch b p)] at hP
  rw [c2 fun b => sepL all4 fun p => RootD m ρ (ch b p)] at hD'
  rw [c2 fun b => sepL all4 fun p => sepL all2 (hD m ρ 0 (ch b p))] at hH
  rw [batches_all]
  iintro ⟨#Hc, HX, HW, HK, HV, HWo, ⟨%f, Hout⟩, HO, HP, Hps, Hk⟩
  unfold root
  unfold iWq loadWq
  iapply (step_load 0 mWq (Rect.unit (s := S768x512) ![0, 0] S768x512.size inb_S768x512_S768x512_0_0) (View.loadsAt_vmem h_S768x512)
    Finset.univ (Finset.subset_univ _) fullShare (sWq m ρ 0))
  isplitl [HW]; · iexact HW
  iintro HW
  ihave HP := hP $$ HP
  icases HP with ⟨HP0, HP1, -⟩
  iapply (Entails.of_eq (wp_then 0 (seqL (rootBatch (k0_pay67 (lWq m ρ 0))) all2) _ Kt).symm)
  iapply (Entails.of_eq (wp_then 0 (rootBatch (k0_pay67 (lWq m ρ 0)) 0) (fun _ => seqL (rootBatch (k0_pay67 (lWq m ρ 0))) [1]) _).symm)
  iapply (step_rootBatch m ρ K 0 (batchO 1 all4 + O) ((above_batch 1 all4).add hO))
  isplitr; · iexact Hc
  isplitl [HX]; · iexact HX
  isplitl [HK]; · iexact HK
  isplitl [HV]; · iexact HV
  isplitl [HO]; · iexact HO
  isplitl [HP0]; · iexact HP0
  iintro ⟨HX, HK, HV, HO, HC0⟩
  iapply (Entails.of_eq (wp_then 0 (rootBatch (k0_pay67 (lWq m ρ 0)) 1) (fun _ => seqL (rootBatch (k0_pay67 (lWq m ρ 0))) []) _).symm)
  iapply (step_rootBatch m ρ K 1 O hO)
  isplitr; · iexact Hc
  isplitl [HX]; · iexact HX
  isplitl [HK]; · iexact HK
  isplitl [HV]; · iexact HV
  isplitl [HO]; · iexact HO
  isplitl [HP1]; · iexact HP1
  iintro ⟨HX, HK, HV, HO, HC1⟩
  iapply (wp_nil _ _ _)
  ihave HC := hD' $$ [HC0 HC1]
  · isplitl [HC0]; · iexact HC0
    isplitl [HC1]; · iexact HC1
    iempintro
  ihave HC := hdone $$ HC
  icases HC with ⟨HH, HT, HCS⟩
  ihave HH := hH.1 $$ HH
  icases HH with ⟨HH0, HH1, -⟩
  ihave Hout := (ho1 f) $$ Hout
  icases Hout with ⟨Ho0, Ho1⟩
  unfold iWo loadWo
  iapply (step_load 0 mWo (Rect.unit (s := S512x768) ![0, 0] S512x768.size inb_S512x768_S512x768_0_0) (View.loadsAt_vmem h_S512x768)
    Finset.univ (Finset.subset_univ _) fullShare (sWo m ρ 0))
  isplitl [HWo]; · iexact HWo
  iintro HWo
  iapply (Entails.of_eq (wp_then 0 (seqL (rootProj (woB (lWo m ρ 0))) all2) (fun _ => drain 0) Kt).symm)
  iapply (Entails.of_eq (wp_then 0 (rootProj (woB (lWo m ρ 0)) 0) (fun _ => seqL (rootProj (woB (lWo m ρ 0))) [1]) _).symm)
  iapply (step_rootProj m ρ 0)
  isplitl [HH0]; · iexact HH0
  isplitl [Ho0]; · iexists f; unfold oB2; iexact Ho0
  iintro ⟨HH0, Ho0⟩
  iapply (Entails.of_eq (wp_then 0 (rootProj (woB (lWo m ρ 0)) 1) (fun _ => seqL (rootProj (woB (lWo m ρ 0))) []) _).symm)
  iapply (step_rootProj m ρ 1)
  isplitl [HH1]; · iexact HH1
  isplitl [Ho1]; · iexists f; unfold oB2; iexact Ho1
  iintro ⟨HH1, Ho1⟩
  iapply (wp_nil _ _ _)
  ihave HDR := hdr $$ [HCS Hps]
  · isplitl [HCS] <;> iassumption
  ihave HH := hH.2 $$ [HH0 HH1]
  · isplitl [HH0]; · iexact HH0
    isplitl [HH1]; · iexact HH1
    iempintro
  iapply (step_drain m ρ K 0 O (hO.mono (Nat.zero_le _)) Kt)
  isplitr; · iexact Hc
  isplitl [HO]; · iexact HO
  isplitl [HDR]; · iexact HDR
  iintro ⟨HO, HDD⟩
  ihave HJ := hj $$ [HH HDD]
  · isplitl [HH] <;> iassumption
  icases HJ with ⟨HF, Hps⟩
  iapply Hk
  isplitl [HX]; · iexact HX
  isplitl [HW]; · iexact HW
  isplitl [HK]; · iexact HK
  isplitl [HV]; · iexact HV
  isplitl [HWo]; · iexact HWo
  isplitl [Ho0 Ho1]
  · iapply ho2; unfold oB2
    isplitl [Ho0] <;> iassumption
  isplitl [HO]; · iexact HO
  isplitl [HF]; · iexact HF
  isplitl [HT]; · iexact HT
  iexact Hps

end Cert.KernelIdeal.Mine

end
-- ==== Proof.KI.Body.lean ====
/-
  The whole body of a device: what it starts from and what it leaves.
-/
module

public import proofs.«01_k».proof.Proof.KI.Ends

@[expose] public section

set_option synthInstance.maxSize 4096

noncomputable section

namespace Cert.KernelIdeal.Mine

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Transfers (shareTokN shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Launch credits -/

/-- The credit a cell of device `d` has at launch. -/
def nC (d : Fin 8) (k : Cell) : ℕ := ∑ u : Fin 8, O₀ u (cellAt d k) ()

theorem sum_at {α : Type} (l : List α) (f : α → CellTallies nD τ sig Unit) (g : GSem nD τ sig) :
    (l.map f).sum g () = (l.map fun a => f a g ()).sum := by
  induction l with
  | nil => rfl
  | cons a l ih => rw [List.map_cons, List.sum_cons, List.map_cons, List.sum_cons, Pi.add_apply, Finsupp.add_apply, ih]

theorem tally_cell (p d : Fin 8) (k k' : Cell) (n : ℕ) :
    (tallyAt (cellAt p k) () n : CellTallies nD τ sig Unit) (cellAt d k') () = if p = d ∧ k = k' then n else 0 := by
  rw [tallyAt_apply]
  by_cases h : p = d ∧ k = k'
  · rw [if_pos h, h.1, h.2, if_pos ⟨rfl, rfl⟩]
  · rw [if_neg h, if_neg fun e => h ((cellAt_inj e.1).imp Eq.symm Eq.symm)]

theorem sum_ite {α : Type} [DecidableEq α] (l : List α) (b : α) (n : ℕ) : (l.map fun a => if a = b then n else 0).sum = l.count b * n := by
  induction l with
  | nil => simp
  | cons a l ih =>
    rw [List.map_cons, List.sum_cons, ih, List.count_cons]
    by_cases h : a = b
    · rw [if_pos h]; simp only [h, beq_self_eq_true, if_true]; rw [Nat.add_mul, Nat.one_mul, Nat.add_comm]
    · rw [if_neg h]; simp only [beq_iff_eq, h, if_false]; rw [Nat.zero_add, Nat.add_zero]

theorem sum_zero {α : Type} (l : List α) (f : α → ℕ) (h : ∀ a ∈ l, f a = 0) : (l.map f).sum = 0 := by
  induction l with
  | nil => rfl
  | cons a l ih => rw [List.map_cons, List.sum_cons, h a List.mem_cons_self, ih fun x hx => h x (List.mem_cons_of_mem _ hx)]

theorem sig_same (k : Cell) (l : List (Fin 8)) (d : Fin 8) : sigO k l (cellAt d k) () = l.count d := by
  unfold sigO
  rw [sum_at, List.map_congr_left (g := fun p => if p = d then 1 else 0) fun p _ => by rw [tally_cell]; simp only [and_true], sum_ite, Nat.mul_one]
theorem sig_other (k k' : Cell) (h : k ≠ k') (l : List (Fin 8)) (d : Fin 8) : sigO k l (cellAt d k') () = 0 := by
  unfold sigO
  rw [sum_at]; exact sum_zero _ _ fun p _ => by rw [tally_cell]; exact if_neg fun e => h e.2

theorem half_same (c : Fin 8) (h : Fin 2) (u d : Fin 8) :
    halfO c h (children u) (cellAt d (kRF c h)) () = ((children u).map Prod.snd).count d * amt (kRF c h) := by
  unfold halfO
  rw [sum_at, ← sum_ite, List.map_map]
  exact congrArg List.sum (List.map_congr_left fun i _ => by rw [tally_cell]; simp only [and_true]; rfl)
theorem half_other (c : Fin 8) (h : Fin 2) (k : Cell) (hk : kRF c h ≠ k) (l : List (Fin 3 × Fin 8)) (d : Fin 8) :
    halfO c h l (cellAt d k) () = 0 := by
  unfold halfO
  rw [sum_at]; exact sum_zero _ _ fun p _ => by rw [tally_cell]; exact if_neg fun e => hk e.2

theorem count8 (c : Fin 8) : all8.count c = 1 := by revert c; decide
theorem count2 (h : Fin 2) : all2.count h = 1 := by revert h; decide

theorem sends_same (u d c : Fin 8) (h : Fin 2) :
    sendsO u all8 (cellAt d (kRF c h)) () = ((children u).map Prod.snd).count d * amt (kRF c h) := by
  have h2 (c' : Fin 8) : chunkO u c' all2 (cellAt d (kRF c h)) () = if c' = c then ((children u).map Prod.snd).count d * amt (kRF c h) else 0 := by
    unfold chunkO
    rw [sum_at]
    by_cases e : c' = c
    · subst e
      rw [if_pos rfl, List.map_congr_left (g := fun h' => if h' = h then ((children u).map Prod.snd).count d * amt (kRF c' h) else 0) fun h' _ => by
        by_cases e' : h' = h
        · subst e'; rw [if_pos rfl, half_same]
        · rw [if_neg e', half_other]; intro e; cases e; exact e' rfl, sum_ite, count2 h, Nat.one_mul]
    · rw [if_neg e]
      exact sum_zero _ _ fun h' _ => half_other _ _ _ (by intro e'; cases e'; exact e rfl) _ _
  unfold sendsO
  rw [sum_at, List.map_congr_left fun c' _ => h2 c', sum_ite, count8 c, Nat.one_mul]
theorem sends_other (u d : Fin 8) (k : Cell) (hk : ∀ c h, kRF c h ≠ k) : sendsO u all8 (cellAt d k) () = 0 := by
  unfold sendsO chunkO
  rw [sum_at]
  refine sum_zero _ _ fun c _ => ?_
  rw [sum_at]
  exact sum_zero _ _ fun h _ => half_other _ _ _ (hk c h) _ _

theorem parts_same (c : Fin 8) : partsO all8 (cellAt 0 (kRT c)) () = amt (kRT c) := by
  unfold partsO
  rw [sum_at, List.map_congr_left (g := fun c' => if c' = c then amt (kRT c) else 0) fun c' _ => by
    rw [tally_cell]
    by_cases e : c' = c
    · subst e; rw [if_pos ⟨rfl, rfl⟩, if_pos rfl]
    · rw [if_neg (fun h => e (by have := h.2; cases this; rfl)), if_neg e], sum_ite, count8 c, Nat.one_mul]
theorem parts_other (d : Fin 8) (k : Cell) (hk : ∀ c, kRT c ≠ k) : partsO all8 (cellAt d k) () = 0 := by
  unfold partsO
  rw [sum_at]; exact sum_zero _ _ fun c _ => by rw [tally_cell]; exact if_neg fun e => hk c e.2

theorem O₀_at (u : Fin 8) (g : GSem nD τ sig) : O₀ u g () = sigO kBar (partners u) g ()
    + ((if u = 1 then partsO all8 g () else 0) + sendsO u all8 g () + sigO kClo (partners u) g ()) := by
  unfold O₀ workO
  rw [Pi.add_apply, Finsupp.add_apply, Pi.add_apply, Finsupp.add_apply, Pi.add_apply, Finsupp.add_apply]
  split <;> rfl

theorem nC_bar (d : Fin 8) : nC d kBar = (partners d).length := by
  unfold nC
  rw [Finset.sum_congr rfl (g := fun u => (partners u).count d) fun u _ => by
    rw [O₀_at, sig_same, sig_other kClo kBar (by intro e; cases e), sends_other _ _ _ (by intro c h e; cases e), parts_other _ _ (by intro c e; cases e), ite_self, Nat.add_zero]]
  revert d; decide
theorem nC_clo (d : Fin 8) : nC d kClo = (partners d).length := by
  unfold nC
  rw [Finset.sum_congr rfl (g := fun u => (partners u).count d) fun u _ => by
    rw [O₀_at, sig_same, sig_other kBar kClo (by intro e; cases e), sends_other _ _ _ (by intro c h e; cases e), parts_other _ _ (by intro c e; cases e), ite_self,
      Nat.zero_add, Nat.zero_add]]
  revert d; decide
theorem nC_RF (d u : Fin 8) (hu : parent d = some u) (c : Fin 8) (h : Fin 2) : nC d (kRF c h) = amt (kRF c h) := by
  unfold nC
  rw [Finset.sum_congr rfl (g := fun u => ((children u).map Prod.snd).count d * amt (kRF c h)) fun u _ => by
    rw [O₀_at, sends_same, sig_other kBar _ (by intro e; cases e), sig_other kClo _ (by intro e; cases e), parts_other _ _ (by intro c e; cases e), ite_self,
      Nat.zero_add, Nat.zero_add, Nat.add_zero], ← Finset.sum_mul]
  rw [show (∑ u : Fin 8, ((children u).map Prod.snd).count d) = 1 by revert d u; decide, Nat.one_mul]
theorem nC_RT (c : Fin 8) : nC 0 (kRT c) = amt (kRT c) := by
  unfold nC
  rw [Finset.sum_congr rfl (g := fun u => if u = 1 then amt (kRT c) else 0) fun u _ => by
    rw [O₀_at, sends_other _ _ _ (by intro c h e; cases e), sig_other kBar _ (by intro e; cases e), sig_other kClo _ (by intro e; cases e), parts_same]; simp]
  rw [Finset.sum_ite_eq' Finset.univ (1 : Fin 8) fun _ => amt (kRT c), if_pos (Finset.mem_univ _)]

/-! ## Every cell of a device, listed -/

abbrev all3 : List (Fin 3) := [0, 1, 2]

theorem univ8 (Φ : Fin 8 → sProp 𝕄) : bigSep Finset.univ Φ ⊣⊢ sepL all8 Φ := by
  rw [show (Finset.univ : Finset (Fin 8)) = all8.toFinset by decide]; exact bigSep_list all8 (by decide) Φ
theorem univ2 (Φ : Fin 2 → sProp 𝕄) : bigSep Finset.univ Φ ⊣⊢ sepL all2 Φ := by
  rw [show (Finset.univ : Finset (Fin 2)) = all2.toFinset by decide]; exact bigSep_list all2 (by decide) Φ
theorem univ3 (Φ : Fin 3 → sProp 𝕄) : bigSep Finset.univ Φ ⊣⊢ sepL all3 Φ := by
  rw [show (Finset.univ : Finset (Fin 3)) = all3.toFinset by decide]; exact bigSep_list all3 (by decide) Φ
theorem univ82 (Φ : Fin 8 × Fin 2 → sProp 𝕄) : bigSep Finset.univ Φ ⊣⊢ sepL all8 fun c => sepL all2 fun h => Φ (c, h) := by
  rw [bigSep_univ_prod]
  exact ⟨(univ8 _).1.trans (sepL_mono _ fun c _ => (univ2 _).1), (sepL_mono _ fun c _ => (univ2 _).2).trans (univ8 _).2⟩
theorem univ382 (Φ : Fin 3 × Fin 8 × Fin 2 → sProp 𝕄) :
    bigSep Finset.univ Φ ⊣⊢ sepL all8 fun c => sepL all2 fun h => sepL all3 fun i => Φ (i, c, h) := by
  rw [bigSep_univ_prod]
  constructor
  · exact (((univ3 _).1.trans (sepL_mono _ fun i _ => (univ82 _).1)).trans (sepL_comm _ _ _)).trans (sepL_mono _ fun c _ => sepL_comm _ _ _)
  · exact (((sepL_mono _ fun c _ => sepL_comm _ _ _).trans (sepL_comm _ _ _)).trans (sepL_mono _ fun i _ => (univ82 fun ch => Φ (i, ch)).2)).trans (univ3 _).2

/-- Something of every cell but the barriers', -/
def inner (Φ : Cell → sProp 𝕄) : sProp 𝕄 :=
  iprop((sepL all8 fun c => sepL all2 fun h => Φ (kRF c h)) ∗ (sepL all8 fun c => sepL all2 fun h => sepL all3 fun i => Φ (kSF i c h))
    ∗ sepL all8 (fun c => Φ (kST c)) ∗ sepL all8 fun c => Φ (kRT c))

theorem cells_eq (Φ : Cell → sProp 𝕄) : bigSep Finset.univ Φ ⊣⊢ iprop(Φ kBar ∗ Φ kClo ∗ inner Φ) := by
  unfold inner
  rw [bigSep_univ_sum, bigSep_univ_sum, bigSep_univ_sum, bigSep_univ_sum, bigSep_univ_sum]
  rw [show (Finset.univ : Finset Unit) = {()} from rfl, bigSep_singleton, bigSep_singleton]
  exact ⟨Laws.sep_mono_right (Laws.sep_mono_right (Laws.sep_mono (univ82 fun p => Φ (kRF p.1 p.2)).1 (Laws.sep_mono (univ382 fun p => Φ (kSF p.1 p.2.1 p.2.2)).1 (Laws.sep_mono (univ8 _).1 (univ8 _).1)))),
    Laws.sep_mono_right (Laws.sep_mono_right (Laws.sep_mono (univ82 fun p => Φ (kRF p.1 p.2)).2 (Laws.sep_mono (univ382 fun p => Φ (kSF p.1 p.2.1 p.2.2)).2 (Laws.sep_mono (univ8 _).2 (univ8 _).2))))⟩

/-- A position past which a cell has no more duties. -/
def endP (d : Fin 8) (k : Cell) : sProp 𝕄 := iprop(∃ r, ⌜∀ r', r ≤ r' → (Rd m ρ).duties (cellAt d k) r' = ∅⌝ ∗ pos d k r)

theorem endP_one (d : Fin 8) (k : Cell) : pos d k 1 ⊢ endP m ρ d k := by
  unfold endP
  iintro H
  iexists 1
  isplitr; · ipureintro; exact fun r h => duties_later m ρ _ r h
  iexact H
theorem endP_unused (d : Fin 8) (k : Cell) (h : dut d k = ∅) : pos d k 0 ⊢ endP m ρ d k := by
  unfold endP
  iintro H
  iexists 0
  isplitr
  · ipureintro
    intro r _
    rcases Nat.eq_zero_or_pos r with e | e
    · subst e; rw [duties_at, h]
    · exact duties_later m ρ _ r e
  iexact H

theorem close (K : Fin 8 × Cell → ℕ) (d : Fin 8) (k : Cell) :
    iprop(ctx m ρ K ∗ endP m ρ d k) ⊢ |={Set.univ}=> (semVal (cellAt d k) 0 : sProp 𝕄) := by
  have hI := ctx_inv m ρ K d k
  unfold endP
  iintro ⟨#Hc, ⟨%r, %hr, Hp⟩⟩
  ihave #HI := hI $$ Hc
  imod (Rounds.cell_close ER (Rd m ρ) (Set.mem_univ (K (d, k))) (fun h => h) (R := r) hr) $$ [Hp] with Hz
  · isplitr; · iexact HI
    iexact Hp
  imodintro; iexact Hz

theorem dut_RT (d c : Fin 8) (h : d ≠ 0) : dut d (kRT c) = ∅ := if_neg h
theorem dut_ST (d c : Fin 8) (h : d ≠ 1) : dut d (kST c) = ∅ := if_neg h

/-- The positions on a device's send cells: those it sends on, and the rest. -/
theorem posSF (d : Fin 8) : (sepL all8 fun c => sepL all2 fun h => sepL all3 fun i => pos (F := F) d (kSF i c h) 0)
    ⊢ iprop(sepS d (fun c h i => pos d (kSF i.1 c h) 0)
      ∗ (sepS d (fun c h i => pos d (kSF i.1 c h) 1) -∗ sepL all8 fun c => sepL all2 fun h => sepL all3 fun i => endP m ρ d (kSF i c h))) := by
  have hl : all3 = (children d).map Prod.fst ++ all3.drop (children d).length := by revert d; decide
  have hr : ∀ i ∈ all3.drop (children d).length, ¬ i.1 < (children d).length := by revert d; decide
  have hu (c : Fin 8) (h : Fin 2) : (sepL (all3.drop (children d).length) fun i => pos (F := F) d (kSF i c h) 0)
      ⊢ sepL (all3.drop (children d).length) fun i => endP m ρ d (kSF i c h) :=
    sepL_mono _ fun i hi => endP_unused m ρ d _ (if_neg (hr i hi))
  have h1 (c : Fin 8) (h : Fin 2) : (sepL all3 fun i => pos (F := F) d (kSF i c h) 0)
      ⊢ iprop(sepL (children d) (fun i => pos d (kSF i.1 c h) 0) ∗ sepL (all3.drop (children d).length) fun i => endP m ρ d (kSF i c h)) := by
    have := (sepL_append ((children d).map Prod.fst) (all3.drop (children d).length) fun i => pos (F := F) d (kSF i c h) 0).1
    rw [← hl, sepL_map] at this
    exact this.trans (Laws.sep_mono_right (hu c h))
  have h2 (c : Fin 8) (h : Fin 2) : iprop(sepL (children d) (fun i => pos (F := F) d (kSF i.1 c h) 1) ∗ sepL (all3.drop (children d).length) fun i => endP m ρ d (kSF i c h))
      ⊢ sepL all3 fun i => endP m ρ d (kSF i c h) := by
    have := (sepL_append ((children d).map Prod.fst) (all3.drop (children d).length) fun i => endP m ρ d (kSF i c h)).2
    rw [← hl, sepL_map] at this
    exact (Laws.sep_mono_left (sepL_mono _ fun i _ => endP_one m ρ d _)).trans this
  have H1 := (sepL_mono all8 fun c _ => (sepL_mono all2 fun h _ => h1 c h).trans (sepL_sep all2 _ _).1).trans (sepL_sep all8 _ _).1
  have H2 := (sepL_sep all8 _ _).2.trans (sepL_mono all8 fun c _ => (sepL_sep all2 _ _).2.trans (sepL_mono all2 fun h _ => h2 c h))
  iintro H
  ihave H := H1 $$ H
  icases H with ⟨Hu, Hr⟩
  isplitl [Hu]; · iexact Hu
  iintro Hd
  iapply H2
  isplitl [Hd] <;> iassumption

/-! ## The work between the barriers -/

/-- A device's inputs. -/
def ins (d : Fin 8) : sProp 𝕄 := iprop(iX m ρ d ∗ iWq m ρ d ∗ iK m ρ d ∗ iV m ρ d ∗ iWo m ρ d)
/-- A context buffer and a buffer of partials, block by block. -/
def halves (d : Fin 8) : sProp 𝕄 := sepL all8 fun c => sepL all2 fun h => iprop(∃ f, fH d c h fullShare f)
def chunks (d : Fin 8) : sProp 𝕄 := sepL all8 fun c => iprop(∃ f, tC d c f)

/-- What a device works with. -/
def WPre (d : Fin 8) : sProp 𝕄 :=
  iprop(ins m ρ d ∗ (∃ f, oBuf d f) ∗ sepS d (fun c h i => iprop(∃ f, fH i.2 c h fullShare f)) ∗ (if d = 1 then chunks 0 else iprop(emp))
    ∗ sepS d (fun c h i => iprop(tok d (kSF i.1 c h) d ∗ tok i.2 (kRF c h) d)) ∗ sepL all8 (fun c => iprop(tok d (kST c) d ∗ tok 0 (kRT c) d))
    ∗ inner (fun k => crd d k (nC d k)) ∗ inner (fun k => pos d k 0) ∗ if d = 0 then halves 0 else chunks d)
/-- What it has after. -/
def WPost (d : Fin 8) : sProp 𝕄 :=
  iprop(ins m ρ d ∗ oBuf d (OUT m ρ d) ∗ halves d ∗ chunks d ∗ inner (endP m ρ d))

theorem halves_of (d : Fin 8) (f : S8x512x128.Idx → F .bf16) : (sepL all8 fun c => sepL all2 fun h => fH d c h fullShare f) ⊢ halves d :=
  sepL_mono _ fun c _ => sepL_mono _ fun h _ => by iintro H; iexists f; iexact H

theorem SB_all (d : Fin 8) : iprop(sepS d (fun c h i => iprop(∃ f, fH i.2 c h fullShare f)) ∗ sepS d (fun c h i => iprop(tok d (kSF i.1 c h) d ∗ tok i.2 (kRF c h) d)))
    ⊢ (sepS d (SB d) : sProp 𝕄) :=
  (sepL_sep all8 _ _).2.trans (sepL_mono all8 fun c _ => (sepL_sep all2 _ _).2.trans (sepL_mono all2 fun h _ => (sepL_sep _ _ _).2))

/-- A relay's resources. -/
theorem RelC_all (d u : Fin 8) (hu : parent d = some u) :
    iprop((sepL all8 fun c => sepL all2 fun h => crd d (kRF c h) (nC d (kRF c h))) ∗ (sepL all8 fun c => sepL all2 fun h => pos d (kRF c h) 0) ∗ sepS d (SB d))
      ⊢ (sepL all8 fun c => sepL all2 (RelC d c) : sProp 𝕄) := by
  refine ((Laws.sep_mono_right (sepL_sep all8 _ _).2).trans (sepL_sep all8 _ _).2).trans (sepL_mono all8 fun c _ => ?_)
  refine ((Laws.sep_mono_right (sepL_sep all2 _ _).2).trans (sepL_sep all2 _ _).2).trans (sepL_mono all2 fun h _ => ?_)
  rw [nC_RF d u hu]
  exact BI.Entails.refl _

theorem work_relay (K : Fin 8 × Cell → ℕ) (d u : Fin 8) (hu : parent d = some u) (h0 : d ≠ 0) (h1 : d ≠ 1) (O : CellTallies nD τ sig Unit)
    (hO : Above 9 O) (Kt : PUnit → sProp 𝕄) :
    iprop(ctx m ρ K ∗ owesE d (workO d + O) ∗ WPre m ρ d ∗ ((owesE d O ∗ WPost m ρ d) -∗ Kt ⟨⟩)) ⊢ WP d (relay d) Kt := by
  have hd : 2 + depth d ≤ 9 := by clear h0 h1 hu; revert d; decide
  have eW : workO d = sendsO d all8 := by unfold workO; rw [if_neg h1, zero_add]
  have hsf := posSF m ρ d
  have hsb := SB_all (F := F) d
  have hrel := RelC_all (F := F) d u hu
  have hf := halves_of d (FV m ρ)
  have hRF : (sepL all8 fun c => sepL all2 fun h => pos (F := F) d (kRF c h) 1) ⊢ sepL all8 fun c => sepL all2 fun h => endP m ρ d (kRF c h) :=
    sepL_mono _ fun c _ => sepL_mono _ fun h _ => endP_one m ρ d _
  have hST : (sepL all8 fun c => pos (F := F) d (kST c) 0) ⊢ sepL all8 fun c => endP m ρ d (kST c) :=
    sepL_mono _ fun c _ => endP_unused m ρ d _ (if_neg h1)
  have hRT : (sepL all8 fun c => pos (F := F) d (kRT c) 0) ⊢ sepL all8 fun c => endP m ρ d (kRT c) :=
    sepL_mono _ fun c _ => endP_unused m ρ d _ (if_neg h0)
  rw [eW]
  unfold WPre WPost ins inner
  rw [if_neg h0, if_neg h1]
  iintro ⟨#Hc, HO, ⟨⟨HX, HW, HK, HV, HWo⟩, Hout, Hrm, -, Htk, -, ⟨HcF, -, -, -⟩, ⟨HpF, HpS, HpT, HpR⟩, Hch⟩, Hk⟩
  ihave HpS := hsf $$ HpS
  icases HpS with ⟨HpS, HpS'⟩
  ihave HB := hsb $$ [Hrm Htk]
  · isplitl [Hrm] <;> iassumption
  ihave HR := hrel $$ [HcF HpF HB]
  · isplitl [HcF]; · iexact HcF
    isplitl [HpF] <;> iassumption
  iapply (step_relay m ρ K d u hu O (hO.mono hd) Kt)
  isplitr; · iexact Hc
  isplitl [HWo]; · iexact HWo
  isplitl [Hout]; · iexact Hout
  isplitl [HO]; · iexact HO
  isplitl [HR]; · iexact HR
  isplitl [HpS]; · iexact HpS
  iintro ⟨HWo, Hout, HO, HF, HpF, HpS⟩
  iapply Hk
  isplitl [HO]; · iexact HO
  isplitl [HX HW HK HV HWo]
  · isplitl [HX]; · iexact HX
    isplitl [HW]; · iexact HW
    isplitl [HK]; · iexact HK
    isplitl [HV] <;> iassumption
  isplitl [Hout]; · iexact Hout
  isplitl [HF]; · iapply hf; iexact HF
  isplitl [Hch]; · iexact Hch
  isplitl [HpF]; · iapply hRF; iexact HpF
  isplitl [HpS HpS']; · iapply HpS'; iexact HpS
  isplitl [HpT]; · iapply hST; iexact HpT
  iapply hRT; iexact HpR

theorem PC_all : iprop((chunks 1 ∗ chunks 0) ∗ sepL all8 fun c => iprop(tok 1 (kST c) 1 ∗ tok 0 (kRT c) 1)) ⊢ (sepL all8 PC : sProp 𝕄) := by
  refine ((Laws.sep_mono_left (sepL_sep all8 _ _).2).trans (sepL_sep all8 _ _).2).trans (sepL_mono all8 fun c _ => ?_)
  unfold PC
  iintro ⟨⟨H1, H0⟩, Ht⟩
  isplitl [H1]; · iexact H1
  isplitl [H0] <;> iassumption

theorem work_one (K : Fin 8 × Cell → ℕ) (O : CellTallies nD τ sig Unit) (hO : Above 9 O) (Kt : PUnit → sProp 𝕄) :
    iprop(ctx m ρ K ∗ owesE 1 (workO 1 + O) ∗ WPre m ρ 1 ∗ ((owesE 1 O ∗ WPost m ρ 1) -∗ Kt ⟨⟩)) ⊢ WP 1 (parts.bind fun _ => relay 1) Kt := by
  have eW : workO 1 + O = partsO all8 + (sendsO 1 all8 + O) := by unfold workO; rw [if_pos rfl, add_assoc]
  have hsf := posSF m ρ 1
  have hsb := SB_all (F := F) 1
  have hrel := RelC_all (F := F) 1 0 rfl
  have hpc := PC_all (F := F)
  have hf := halves_of 1 (FV m ρ)
  have hRF : (sepL all8 fun c => sepL all2 fun h => pos (F := F) 1 (kRF c h) 1) ⊢ sepL all8 fun c => sepL all2 fun h => endP m ρ 1 (kRF c h) :=
    sepL_mono _ fun c _ => sepL_mono _ fun h _ => endP_one m ρ 1 _
  have hST : (sepL all8 fun c => pos (F := F) 1 (kST c) 1) ⊢ sepL all8 fun c => endP m ρ 1 (kST c) :=
    sepL_mono _ fun c _ => endP_one m ρ 1 _
  have hT := (sepL_sep (F := F) all8 (fun c => pos 1 (kST c) 1) fun c => iprop(∃ f, tC 1 c f)).1
  have hRT : (sepL all8 fun c => pos (F := F) 1 (kRT c) 0) ⊢ sepL all8 fun c => endP m ρ 1 (kRT c) :=
    sepL_mono _ fun c _ => endP_unused m ρ 1 _ (dut_RT 1 c (by decide))
  have hOs : Above 0 (sendsO 1 all8 + O) := ((above_sends 1 all8).mono (Nat.zero_le _)).add (hO.mono (Nat.zero_le _))
  rw [eW, wp_then]
  unfold WPre WPost ins inner
  rw [if_neg (by decide : ¬ (1 : Fin 8) = 0), if_pos rfl]
  iintro ⟨#Hc, HO, ⟨⟨HX, HW, HK, HV, HWo⟩, Hout, Hrm, Hrt, Htk, Htt, ⟨HcF, -, -, -⟩, ⟨HpF, HpS, HpT, HpR⟩, Hch⟩, Hk⟩
  ihave HpS := hsf $$ HpS
  icases HpS with ⟨HpS, HpS'⟩
  ihave HB := hsb $$ [Hrm Htk]
  · isplitl [Hrm] <;> iassumption
  ihave HR := hrel $$ [HcF HpF HB]
  · isplitl [HcF]; · iexact HcF
    isplitl [HpF] <;> iassumption
  ihave HP := hpc $$ [Hch Hrt Htt]
  · isplitr [Htt]
    · isplitl [Hch] <;> iassumption
    · iexact Htt
  iapply (step_parts m ρ K (sendsO 1 all8 + O) hOs)
  isplitr; · iexact Hc
  isplitl [HX]; · iexact HX
  isplitl [HW]; · iexact HW
  isplitl [HK]; · iexact HK
  isplitl [HV]; · iexact HV
  isplitl [HO]; · iexact HO
  isplitl [HP]; · iexact HP
  isplitl [HpT]; · iexact HpT
  iintro ⟨HX, HW, HK, HV, HO, HT⟩
  ihave HT := hT $$ HT
  icases HT with ⟨HpT, Hch⟩
  iapply (step_relay m ρ K 1 0 rfl O (hO.mono (by decide)) Kt)
  isplitr; · iexact Hc
  isplitl [HWo]; · iexact HWo
  isplitl [Hout]; · iexact Hout
  isplitl [HO]; · iexact HO
  isplitl [HR]; · iexact HR
  isplitl [HpS]; · iexact HpS
  iintro ⟨HWo, Hout, HO, HF, HpF, HpS⟩
  iapply Hk
  isplitl [HO]; · iexact HO
  isplitl [HX HW HK HV HWo]
  · isplitl [HX]; · iexact HX
    isplitl [HW]; · iexact HW
    isplitl [HK]; · iexact HK
    isplitl [HV] <;> iassumption
  isplitl [Hout]; · iexact Hout
  isplitl [HF]; · iapply hf; iexact HF
  isplitl [Hch]; · unfold chunks; iexact Hch
  isplitl [HpF]; · iapply hRF; iexact HpF
  isplitl [HpS HpS']; · iapply HpS'; iexact HpS
  isplitl [HpT]; · iapply hST; iexact HpT
  iapply hRT; iexact HpR

theorem RootC_all : iprop(halves 0 ∗ (sepL all8 fun c => crd 0 (kRT c) (nC 0 (kRT c))) ∗ (sepL all8 fun c => pos 0 (kRT c) 0) ∗ sepS 0 (SB 0))
    ⊢ (sepL all8 RootC : sProp 𝕄) := by
  refine ((Laws.sep_mono_right ((Laws.sep_mono_right (sepL_sep all8 _ _).2).trans (sepL_sep all8 _ _).2)).trans (sepL_sep all8 _ _).2).trans
    (sepL_mono all8 fun c _ => ?_)
  have e := sepL_two (F := F) fun h => iprop(∃ f, fH 0 c h fullShare f)
  rw [nC_RT, e]
  unfold RootC
  iintro ⟨⟨H0, H1, -⟩, Hcr, Hp, HB⟩
  isplitl [H0]; · iexact H0
  isplitl [H1]; · iexact H1
  isplitl [Hcr]; · iexact Hcr
  isplitl [Hp] <;> iassumption

theorem work_zero (K : Fin 8 × Cell → ℕ) (O : CellTallies nD τ sig Unit) (hO : Above 9 O) (Kt : PUnit → sProp 𝕄) :
    iprop(ctx m ρ K ∗ owesE 0 (workO 0 + O) ∗ WPre m ρ 0 ∗ ((owesE 0 O ∗ WPost m ρ 0) -∗ Kt ⟨⟩)) ⊢ WP 0 root Kt := by
  have eW : workO 0 = sendsO 0 all8 := by unfold workO; rw [if_neg (by decide), zero_add]
  have hsf := posSF m ρ 0
  have hsb := SB_all (F := F) 0
  have hrc := RootC_all (F := F)
  have hf := halves_of 0 (FV m ρ)
  have hRF : (sepL all8 fun c => sepL all2 fun h => pos (F := F) 0 (kRF c h) 0) ⊢ sepL all8 fun c => sepL all2 fun h => endP m ρ 0 (kRF c h) :=
    sepL_mono _ fun c _ => sepL_mono _ fun h _ => endP_unused m ρ 0 _ rfl
  have hST : (sepL all8 fun c => pos (F := F) 0 (kST c) 0) ⊢ sepL all8 fun c => endP m ρ 0 (kST c) :=
    sepL_mono _ fun c _ => endP_unused m ρ 0 _ (dut_ST 0 c (by decide))
  have hT := (sepL_sep (F := F) all8 (fun c => pos 0 (kRT c) 1) fun c => iprop(∃ f, tC 0 c f)).1
  have hRT : (sepL all8 fun c => pos (F := F) 0 (kRT c) 1) ⊢ sepL all8 fun c => endP m ρ 0 (kRT c) :=
    sepL_mono _ fun c _ => endP_one m ρ 0 _
  rw [eW]
  unfold WPre WPost ins inner
  rw [if_pos rfl]
  iintro ⟨#Hc, HO, ⟨⟨HX, HW, HK, HV, HWo⟩, Hout, Hrm, -, Htk, -, ⟨-, -, -, HcT⟩, ⟨HpF, HpS, HpT, HpR⟩, Hha⟩, Hk⟩
  ihave HpS := hsf $$ HpS
  icases HpS with ⟨HpS, HpS'⟩
  ihave HB := hsb $$ [Hrm Htk]
  · isplitl [Hrm] <;> iassumption
  ihave HR := hrc $$ [Hha HcT HpR HB]
  · isplitl [Hha]; · iexact Hha
    isplitl [HcT]; · iexact HcT
    isplitl [HpR] <;> iassumption
  iapply (step_root m ρ K O (hO.mono (by decide)) Kt)
  isplitr; · iexact Hc
  isplitl [HX]; · iexact HX
  isplitl [HW]; · iexact HW
  isplitl [HK]; · iexact HK
  isplitl [HV]; · iexact HV
  isplitl [HWo]; · iexact HWo
  isplitl [Hout]; · iexact Hout
  isplitl [HO]; · iexact HO
  isplitl [HR]; · iexact HR
  isplitl [HpS]; · iexact HpS
  iintro ⟨HX, HW, HK, HV, HWo, Hout, HO, HF, HT, HpS⟩
  ihave HT := hT $$ HT
  icases HT with ⟨HpR, Hch⟩
  iapply Hk
  isplitl [HO]; · iexact HO
  isplitl [HX HW HK HV HWo]
  · isplitl [HX]; · iexact HX
    isplitl [HW]; · iexact HW
    isplitl [HK]; · iexact HK
    isplitl [HV] <;> iassumption
  isplitl [Hout]; · iexact Hout
  isplitl [HF]; · iapply hf; iexact HF
  isplitl [Hch]; · unfold chunks; iexact Hch
  isplitl [HpF]; · iapply hRF; iexact HpF
  isplitl [HpS HpS']; · iapply HpS'; iexact HpS
  isplitl [HpT]; · iapply hST; iexact HpT
  iapply hRT; iexact HpR

theorem work_eq (d : Fin 8) (h0 : d ≠ 0) (h1 : d ≠ 1) : work (F := F) d = relay d := by
  unfold work
  split
  · exact absurd rfl h0
  · exact absurd rfl h1
  · rfl

theorem work_at0 : work (F := F) 0 = root := by simp only [work]
theorem work_at1 : work (F := F) 1 = parts.bind fun _ => relay 1 := by simp only [work]

theorem step_work (K : Fin 8 × Cell → ℕ) (d : Fin 8) (O : CellTallies nD τ sig Unit) (hO : Above 9 O) (Kt : PUnit → sProp 𝕄) :
    iprop(ctx m ρ K ∗ owesE d (workO d + O) ∗ WPre m ρ d ∗ ((owesE d O ∗ WPost m ρ d) -∗ Kt ⟨⟩)) ⊢ WP d (work d) Kt := by
  by_cases h0 : d = 0
  · subst h0; rw [work_at0]; exact work_zero m ρ K O hO Kt
  by_cases h1 : d = 1
  · subst h1; rw [work_at1]; exact work_one m ρ K O hO Kt
  obtain ⟨u, hu⟩ : ∃ u, parent d = some u := by clear h1; revert d; decide
  rw [work_eq d h0 h1]
  exact work_relay m ρ K d u hu h0 h1 O hO Kt

end Cert.KernelIdeal.Mine

end
-- ==== Proof.KI.Whole.lean ====
/-
  The whole body of a device, from its share of the launch to its cells closed.
-/
module

public import proofs.«01_k».proof.Proof.KI.Body
public import Idealize.ShloMosaic.Lib.Ring

@[expose] public section

set_option synthInstance.maxSize 4096

noncomputable section

namespace Cert.KernelIdeal.Mine

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Transfers (shareTokN shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Sharing out -/

theorem pick8 (l : List (Fin 8)) (hl : l.Nodup) (Φ : Fin 8 → sProp 𝕄) : sepL all8 Φ ⊢ sepL l Φ :=
  ((univ8 Φ).2.trans (bigSep_subset (Finset.subset_univ _))).trans (bigSep_list l hl Φ).1
theorem pick3 (l : List (Fin 3)) (hl : l.Nodup) (Φ : Fin 3 → sProp 𝕄) : sepL all3 Φ ⊢ sepL l Φ :=
  ((univ3 Φ).2.trans (bigSep_subset (Finset.subset_univ _))).trans (bigSep_list l hl Φ).1
theorem pick1 (d : Fin 8) (Φ : Fin 8 → sProp 𝕄) : sepL all8 Φ ⊢ Φ d :=
  (univ8 Φ).2.trans (bigSep_elim (Finset.mem_univ d))

/-- One thing, given to the one member of a list that is to have it. -/
theorem give_one (H : sProp 𝕄) {α : Type} (P : α → Prop) [DecidablePred P] :
    ∀ l : List α, (l.filter P).length ≤ 1 → H ⊢ sepL l fun p => if P p then H else iprop(emp)
  | [], _ => by rw [sepL_nil]; iintro -; iempintro
  | a :: l, h => by
    rw [sepL_cons]
    by_cases ha : P a
    · rw [List.filter_cons_of_pos (by simpa using ha), List.length_cons] at h
      have hz (x) (hx : x ∈ l) : ¬ P x := fun hp => by
        have : x ∈ l.filter P := List.mem_filter.mpr ⟨hx, by simpa using hp⟩
        have := List.length_pos_of_mem this
        omega
      have he : (iprop(emp) : sProp 𝕄) ⊢ sepL l fun p => if P p then H else iprop(emp) :=
        (sepL_emp l).trans (sepL_mono l fun x hx => by rw [if_neg (hz x hx)])
      rw [if_pos ha]
      iintro HH
      isplitl [HH]; · iexact HH
      iapply he; iempintro
    · rw [List.filter_cons_of_neg (by simpa using ha)] at h
      have ih := give_one H P l h
      rw [if_neg ha]
      iintro HH
      isplitr; · iempintro
      iapply ih; iexact HH

/-- What the members of a list hold that are to hold something. -/
theorem keep {α : Type} (P : α → Prop) [DecidablePred P] (Φ : α → sProp 𝕄) :
    ∀ l : List α, (sepL l fun p => if P p then Φ p else iprop(emp)) ⊢ sepL (l.filter P) Φ
  | [] => BI.Entails.refl _
  | a :: l => by
    have ih := keep P Φ l
    rw [sepL_cons]
    by_cases ha : P a
    · rw [if_pos ha, List.filter_cons_of_pos (by simpa using ha), sepL_cons]
      exact Laws.sep_mono_right ih
    · rw [if_neg ha, List.filter_cons_of_neg (by simpa using ha)]
      iintro ⟨-, H⟩
      iapply ih; iexact H

/-- What a device gives away when it enters, and what it keeps. -/
def gift (d : Fin 8) : sProp 𝕄 := if d = 0 then chunks 0 else halves d

theorem gift_out (d : Fin 8) : gift (F := F) d ⊢ sepL (partners d) fun p => barPay p d := by
  unfold gift
  by_cases h0 : d = 0
  · subst h0
    rw [if_pos rfl]
    refine (give_one (chunks (F := F) 0) (fun p : Fin 8 => p = 1) (partners 0) (by decide)).trans (sepL_mono _ fun p _ => ?_)
    unfold barPay chunks
    rw [if_neg (show ¬ parent 0 = some p by rw [show parent 0 = none from rfl]; exact fun h => by cases h)]
    by_cases hp : p = 1
    · rw [if_pos hp, if_pos ⟨rfl, hp⟩]
      iintro H
      isplitr; · iempintro
      iexact H
    · rw [if_neg hp, if_neg fun h => hp h.2]
      iintro H
      isplitr <;> iempintro
  · rw [if_neg h0]
    have hl : ((partners d).filter fun p => parent d = some p).length ≤ 1 := by clear h0; revert d; decide
    refine (give_one (halves (F := F) d) (fun p : Fin 8 => parent d = some p) (partners d) hl).trans (sepL_mono _ fun p _ => ?_)
    unfold barPay halves
    rw [if_neg (show ¬ (d = 0 ∧ p = 1) from fun h => h0 h.1)]
    iintro H
    isplitl [H]; · iexact H
    iempintro

/-- What a device has of its partners once they have entered. -/
theorem rooms_in (d : Fin 8) : (sepL (partners d) fun u => barPay (F := F) d u)
    ⊢ iprop(sepS d (fun c h i => iprop(∃ f, fH i.2 c h fullShare f)) ∗ if d = 1 then chunks 0 else iprop(emp)) := by
  unfold barPay
  refine (sepL_sep _ _ _).1.trans (Laws.sep_mono ?_ ?_)
  · have hc : (partners d).filter (fun u => parent u = some d) = (children d).map Prod.snd := by revert d; decide
    have := keep (F := F) (fun u : Fin 8 => parent u = some d) halves (partners d)
    rw [hc, sepL_map] at this
    exact (this.trans (sepL_comm _ _ _)).trans (sepL_mono _ fun c _ => sepL_comm _ _ _)
  · by_cases h1 : d = 1
    · subst h1
      rw [if_pos rfl]
      have := keep (F := F) (fun u : Fin 8 => u = 0 ∧ (1 : Fin 8) = 1) (fun _ => chunks 0) (partners 1)
      rw [show (partners 1).filter (fun u : Fin 8 => u = 0 ∧ (1 : Fin 8) = 1) = [0] by decide, sepL_cons] at this
      unfold chunks at this ⊢
      exact this.trans (by iintro ⟨H, -⟩; iexact H)
    · rw [if_neg h1]; iintro -; iempintro

/-- Every right a device may have, and those it uses. -/
theorem toks_used (d : Fin 8) : (bigSep Finset.univ fun p : Fin 8 => bigSep Finset.univ fun k : Cell => tok (F := F) p k d)
    ⊢ iprop(sepL (partners d) (fun p => tok p kBar d) ∗ sepL (partners d) (fun p => tok p kClo d)
      ∗ sepS d (fun c h i => iprop(tok d (kSF i.1 c h) d ∗ tok i.2 (kRF c h) d)) ∗ sepL all8 (fun c => iprop(tok d (kST c) d ∗ tok 0 (kRT c) d))) := by
  have hn := (partners_facts d).2.2
  have hn3 : ((children d).map Prod.fst).Nodup := by revert d; decide
  have hn8 : ((children d).map Prod.snd).Nodup := by revert d; decide
  have hF := pick8 (F := F) _ hn8 fun p => sepL all8 fun c => sepL all2 fun h => tok p (kRF c h) d
  rw [sepL_map] at hF
  have hF' := (hF.trans (sepL_comm _ _ _)).trans (sepL_mono _ fun c _ => sepL_comm _ _ _)
  have hS := pick1 (F := F) d fun p => sepL all8 fun c => sepL all2 fun h => sepL all3 fun i => tok p (kSF i c h) d
  have hS' : (sepL all8 fun p => sepL all8 fun c => sepL all2 fun h => sepL all3 fun i => tok (F := F) p (kSF i c h) d)
      ⊢ sepS d fun c h i => tok d (kSF i.1 c h) d := hS.trans (sepL_mono _ fun c _ => sepL_mono _ fun h _ => by
    have := pick3 (F := F) _ hn3 fun i => tok d (kSF i c h) d
    rwa [sepL_map] at this)
  have hSF : iprop(sepS d (fun c h i => tok (F := F) d (kSF i.1 c h) d) ∗ sepS d fun c h i => tok i.2 (kRF c h) d)
      ⊢ sepS d fun c h i => iprop(tok d (kSF i.1 c h) d ∗ tok i.2 (kRF c h) d) :=
    (sepL_sep all8 _ _).2.trans (sepL_mono all8 fun c _ => (sepL_sep all2 _ _).2.trans (sepL_mono all2 fun h _ => (sepL_sep _ _ _).2))
  have hT := pick1 (F := F) d fun p => sepL all8 fun c => tok p (kST c) d
  have hR := pick1 (F := F) 0 fun p => sepL all8 fun c => tok p (kRT c) d
  have hTR := (sepL_sep (F := F) all8 (fun c => tok d (kST c) d) fun c => tok 0 (kRT c) d).2
  have hB := pick8 (F := F) _ hn fun p => tok p kBar d
  have hC := pick8 (F := F) _ hn fun p => tok p kClo d
  have h6 : (sepL all8 fun p => iprop(tok (F := F) p kBar d ∗ tok p kClo d ∗ inner fun k => tok p k d))
      ⊢ iprop(sepL all8 (fun p => tok p kBar d) ∗ sepL all8 (fun p => tok p kClo d)
        ∗ (sepL all8 fun p => sepL all8 fun c => sepL all2 fun h => tok p (kRF c h) d)
        ∗ (sepL all8 fun p => sepL all8 fun c => sepL all2 fun h => sepL all3 fun i => tok p (kSF i c h) d)
        ∗ (sepL all8 fun p => sepL all8 fun c => tok p (kST c) d) ∗ sepL all8 fun p => sepL all8 fun c => tok p (kRT c) d) := by
    unfold inner
    exact (sepL_sep _ _ _).1.trans (Laws.sep_mono_right ((sepL_sep _ _ _).1.trans (Laws.sep_mono_right ((sepL_sep _ _ _).1.trans
      (Laws.sep_mono_right ((sepL_sep _ _ _).1.trans (Laws.sep_mono_right (sepL_sep _ _ _).1)))))))
  refine (((univ8 _).1.trans (sepL_mono _ fun p _ => (cells_eq _).1)).trans h6).trans ?_
  iintro ⟨HB, HC, HF, HS, HT, HR⟩
  isplitl [HB]; · iapply hB; iexact HB
  isplitl [HC]; · iapply hC; iexact HC
  isplitl [HF HS]
  · iapply hSF
    isplitl [HS]; · iapply hS'; iexact HS
    iapply hF'; iexact HF
  iapply hTR
  isplitl [HT]; · iapply hT; iexact HT
  iapply hR; iexact HR

/-! ## The scratch buffers and their blocks -/

include m in
theorem halves_whole (d : Fin 8) : iprop(∃ f, fLoc d ↦{fullShare} f) ⊣⊢ (halves d : sProp 𝕄) := by
  have hd : ∀ a b : Fin 8 × Fin 2, a ≠ b → Disjoint (SFh a.1 a.2) (SFh b.1 b.2) := fun a b hab => by
    rw [Finset.disjoint_left]
    intro i ha hb
    have h1 := (inFh _ _ i).mp ha
    have h2 := (inFh _ _ i).mp hb
    exact hab (Prod.ext (Fin.ext (h1.1.symm.trans h2.1)) (Fin.ext (h1.2.symm.trans h2.2)))
  have hc : (Finset.univ.biUnion fun a : Fin 8 × Fin 2 => SFh a.1 a.2) = Finset.univ := by
    ext i
    have e1 : (i 1).1 < 512 := (i 1).2
    simp only [Finset.mem_biUnion, Finset.mem_univ, true_and, iff_true]
    exact ⟨(i 0, ⟨(i 1).1 / 256, by omega⟩), (inFh _ _ i).mpr ⟨rfl, rfl⟩⟩
  have hw (f) := Ring.pointsTo_blocks (Ix := Unit) (Name := ℕ) (U := UU) (Lvl := ℕ) (Val := Elt F) (ℓ := fLoc d) (fun a : Fin 8 × Fin 2 => SFh a.1 a.2) hd hc (q := fullShare) f
  have hj := fun f₀ => Ring.pointsTo_blocks_join_exists (Ix := Unit) (Name := ℕ) (U := UU) (Lvl := ℕ) (Val := Elt F) (ℓ := fLoc d) (fun a : Fin 8 × Fin 2 => SFh a.1 a.2) hd hc (q := fullShare) f₀
  have hu := univ82 (F := F) fun a => iprop(∃ f, fLoc d ↦[SFh a.1 a.2]{fullShare} f)
  unfold halves
  simp only [fH_eq]
  constructor
  · have hx (f : Buf (Elt F) (fLoc d)) (a : Fin 8 × Fin 2) : (fLoc d ↦[SFh a.1 a.2]{fullShare} f : sProp 𝕄) ⊢ iprop(∃ f, fLoc d ↦[SFh a.1 a.2]{fullShare} f) := by
      iintro H; iexists f; iexact H
    have hx' (f : Buf (Elt F) (fLoc d)) : (fLoc d ↦{fullShare} f : sProp 𝕄) ⊢ _ := ((Entails.of_eq (hw f)).trans (bigSep_mono fun a _ => hx f a)).trans hu.1
    iintro ⟨%f, H⟩
    iapply (hx' f); iexact H
  · exact hu.2.trans (hj (m (fLoc d)))

include m in
theorem chunks_whole (d : Fin 8) : iprop(∃ f, tLoc d ↦{fullShare} f) ⊣⊢ (chunks d : sProp 𝕄) := by
  have hd : ∀ a b : Fin 8, a ≠ b → Disjoint (STc a) (STc b) := fun a b hab => by
    rw [Finset.disjoint_left]
    intro i ha hb
    exact hab (Fin.ext (((inT _ i).mp ha).symm.trans ((inT _ i).mp hb)))
  have hc : (Finset.univ.biUnion fun a : Fin 8 => STc a) = Finset.univ := by
    ext i
    simp only [Finset.mem_biUnion, Finset.mem_univ, true_and, iff_true]
    exact ⟨i 0, (inT _ i).mpr rfl⟩
  have hw (f) := Ring.pointsTo_blocks (Ix := Unit) (Name := ℕ) (U := UU) (Lvl := ℕ) (Val := Elt F) (ℓ := tLoc d) STc hd hc (q := fullShare) f
  have hj := fun f₀ => Ring.pointsTo_blocks_join_exists (Ix := Unit) (Name := ℕ) (U := UU) (Lvl := ℕ) (Val := Elt F) (ℓ := tLoc d) STc hd hc (q := fullShare) f₀
  have hu := univ8 (F := F) fun a => iprop(∃ f, tLoc d ↦[STc a]{fullShare} f)
  unfold chunks
  simp only [tC_eq]
  constructor
  · have hx (f : Buf (Elt F) (tLoc d)) (a : Fin 8) : (tLoc d ↦[STc a]{fullShare} f : sProp 𝕄) ⊢ iprop(∃ f, tLoc d ↦[STc a]{fullShare} f) := by
      iintro H; iexists f; iexact H
    have hx' (f : Buf (Elt F) (tLoc d)) : (tLoc d ↦{fullShare} f : sProp 𝕄) ⊢ _ := ((Entails.of_eq (hw f)).trans (bigSep_mono fun a _ => hx f a)).trans hu.1
    iintro ⟨%f, H⟩
    iapply (hx' f); iexact H
  · exact hu.2.trans (hj (m (tLoc d)))

/-! ## The body -/

/-- A device's share of the launch. -/
def share (d : Fin 8) : sProp 𝕄 :=
  iprop((bigSep Finset.univ fun k : Cell => pos d k 0) ∗ (bigSep Finset.univ fun p : Fin 8 => bigSep Finset.univ fun k : Cell => tok p k d)
    ∗ bigSep Finset.univ fun k : Cell => crd d k (nC d k))

theorem gift_split (d : Fin 8) : iprop(halves (F := F) d ∗ chunks d) ⊢ iprop(gift d ∗ if d = 0 then halves 0 else chunks d) := by
  unfold gift
  by_cases h0 : d = 0
  · subst h0
    rw [if_pos rfl, if_pos rfl]; iintro ⟨H, H'⟩; isplitl [H'] <;> iassumption
  · rw [if_neg h0, if_neg h0]

theorem bar_gives (d : Fin 8) : iprop(sepL (partners d) (fun p => tok p kBar d) ∗ gift d) ⊢ sepL (partners d) fun p => iprop(tok p kBar d ∗ pay m ρ p kBar d) :=
  (Laws.sep_mono_right (gift_out d)).trans (sepL_sep _ _ _).2
theorem clo_gives (d : Fin 8) : (sepL (partners d) fun p => tok (F := F) p kClo d) ⊢ sepL (partners d) fun p => iprop(tok p kClo d ∗ pay m ρ p kClo d) :=
  sepL_mono _ fun p _ => by
    have : (iprop(emp) : sProp 𝕄) ⊢ pay m ρ p kClo d := BI.Entails.refl _
    iintro H
    isplitl [H]; · iexact H
    iapply this; iempintro

theorem step_body (K : Fin 8 × Cell → ℕ) (d : Fin 8) (Kt : PUnit → sProp 𝕄) :
    iprop(ctx m ρ K ∗ share d ∗ ins m ρ d ∗ (∃ f, oBuf d f) ∗ halves d ∗ chunks d ∗ owesE d (O₀ d)
        ∗ ((owesE d 0 ∗ ins m ρ d ∗ oBuf d (OUT m ρ d) ∗ halves d ∗ chunks d ∗ bigSep Finset.univ fun k : Cell => semVal (cellAt d k) 0) -∗ Kt ⟨⟩))
      ⊢ WP d (body d) Kt := by
  have hclose : iprop(ctx m ρ K ∗ bigSep Finset.univ (endP m ρ d)) ⊢ |={Set.univ}=> (bigSep Finset.univ fun k : Cell => semVal (cellAt d k) 0 : sProp 𝕄) :=
    ((Laws.sep_mono_left (BI.bigSep_of_persistent Finset.univ (ctx m ρ K))).trans
      (by rw [← bigSep_sep']; exact bigSep_mono fun k _ => close m ρ K d k)).trans (bigSep_fupd _ _)
  have htk := toks_used (F := F) d
  have hcp := (cells_eq (F := F) fun k => pos d k 0).1
  have hcc := (cells_eq (F := F) fun k => crd d k (nC d k)).1
  have hce := (cells_eq (F := F) (endP m ρ d)).2
  have hgs := gift_split (F := F) d
  have hbg := bar_gives m ρ d
  have hcg := clo_gives m ρ d
  have hrm : (sepL (partners d) (pay m ρ d kBar)) ⊢ _ := rooms_in (F := F) d
  have heB := endP_one m ρ d kBar
  have heC := endP_one m ρ d kClo
  have h9 : Above 9 (sigO kClo (partners d)) := above_clo _
  have h1 : Above (lvl d kBar) (workO d + sigO kClo (partners d)) := (above_work d).add ((above_clo _).mono (by omega))
  have hO : O₀ d = sigO kBar (partners d) + (workO d + sigO kClo (partners d)) := rfl
  have hO' : sigO kClo (partners d) = sigO kClo (partners d) + 0 := (add_zero _).symm
  have e : body (F := F) d = (exchange barS d).bind fun _ => (work d).bind fun _ => exchange cloS d := rfl
  have ebar : csem kBar = .reg barS := rfl
  have eclo : csem kClo = .reg cloS := rfl
  have hfin := wp_fupd (M := 𝕄) frame (wpE (defs₀ (F := F)) 𝒱₀ ((d : Dev nD) : Thread nD τ) none) Set.univ (exchange (F := F) cloS d) Kt
  rw [e, wp_then, hO]
  unfold share
  iintro ⟨#Hc, ⟨Hp, Ht, Hcr⟩, Hin, Hout, Hha, Hch, HO, Hk⟩
  ihave Ht := htk $$ Ht
  icases Ht with ⟨HtB, HtC, HtS, HtT⟩
  ihave Hp := hcp $$ Hp
  icases Hp with ⟨HpB, HpC, HpI⟩
  ihave Hcr := hcc $$ Hcr
  icases Hcr with ⟨HcB, HcC, HcI⟩
  ihave Hg := hgs $$ [Hha Hch]
  · isplitl [Hha] <;> iassumption
  icases Hg with ⟨Hg, Hown⟩
  ihave HtB := hbg $$ [HtB Hg]
  · isplitl [HtB] <;> iassumption
  iapply (step_exchange m ρ K d kBar barS ebar (fun _ => rfl) rfl _ h1)
  isplitr; · iexact Hc
  isplitl [HO]; · iexact HO
  isplitl [HtB]; · iexact HtB
  isplitl [HcB]; · rw [nC_bar]; iexact HcB
  isplitl [HpB]; · iexact HpB
  iintro ⟨HO, HpB, Hrm⟩
  ihave Hrm := hrm $$ Hrm
  icases Hrm with ⟨Hrm, Hrt⟩
  rw [wp_then]
  iapply (step_work m ρ K d _ h9)
  isplitr; · iexact Hc
  isplitl [HO]; · iexact HO
  isplitr [HtC HcC HpC HpB Hk]
  · unfold WPre
    isplitl [Hin]; · iexact Hin
    isplitl [Hout]; · iexact Hout
    isplitl [Hrm]; · iexact Hrm
    isplitl [Hrt]; · iexact Hrt
    isplitl [HtS]; · iexact HtS
    isplitl [HtT]; · iexact HtT
    isplitl [HcI]; · iexact HcI
    isplitl [HpI]; · iexact HpI
    iexact Hown
  iintro ⟨HO, Hpost⟩
  unfold WPost
  icases Hpost with ⟨Hin, Hout, Hha, Hch, HpI⟩
  ihave HtC := hcg $$ HtC
  ihave HpB := heB $$ HpB
  iapply hfin
  iapply (step_exchange m ρ K d kClo cloS eclo (fun _ => rfl) rfl 0 (Above.zero _))
  isplitr; · iexact Hc
  isplitl [HO]; · rw [← hO']; iexact HO
  isplitl [HtC]; · iexact HtC
  isplitl [HcC]; · rw [nC_clo]; iexact HcC
  isplitl [HpC]; · iexact HpC
  iintro ⟨HO, HpC, -⟩
  ihave HpC := heC $$ HpC
  ihave He := hce $$ [HpB HpC HpI]
  · isplitl [HpB]; · iexact HpB
    isplitl [HpC] <;> iassumption
  imod hclose $$ [He] with Hz
  · isplitr; · iexact Hc
    iexact He
  imodintro
  iapply Hk
  isplitl [HO]; · iexact HO
  isplitl [Hin]; · iexact Hin
  isplitl [Hout]; · iexact Hout
  isplitl [Hha]; · iexact Hha
  isplitl [Hch]; · iexact Hch
  iexact Hz

end Cert.KernelIdeal.Mine

end
-- ==== Proof.KI.Refold.lean ====
/-
  The printed body is the loop program of `Prog.lean`: on each device, the two are the same
  sequence of operations.
-/
module

public import proofs.«01_k».proof.Proof.KI.Prog
public import Idealize.ShloMosaic.Lib.Pipeline.Regions

@[expose] public section

noncomputable section

namespace Cert.KernelIdeal.Mine

open Idealize.ShloMosaic Idealize.SL.Sem Cert.KernelIdeal.Gen

variable {F : FTy → Type} [FloatOps F] [Named F]

/-- The printed body on the kernel's own buffers. -/
abbrev printed (F : FTy → Type) [FloatOps F] [Named F] : Prog (E F) PUnit :=
  cc0_body (F := F) mX (Memref.isWhole_whole _) mWq (Memref.isWhole_whole _) mK (Memref.isWhole_whole _)
    mV (Memref.isWhole_whole _) mWo (Memref.isWhole_whole _) mOut (Memref.isWhole_whole _)
    mF (Memref.isWhole_whole _) mT (Memref.isWhole_whole _)
    cc0_scratch2 cc0_scratch3 cc0_scratch4 cc0_scratch5 cc0_scratch6

/-- What the printed body runs once it has read its device. -/
def after (p : Prog (E F) PUnit) (d : Dev nD) : Prog (E F) PUnit :=
  match p with
  | .op .deviceId k => k d
  | p => p

theorem refold0 : after (printed F) 0 = body 0 := by chain_rfl
theorem refold1 : after (printed F) 1 = body 1 := by chain_rfl
theorem refold2 : after (printed F) 2 = body 2 := by chain_rfl
theorem refold3 : after (printed F) 3 = body 3 := by chain_rfl
theorem refold4 : after (printed F) 4 = body 4 := by chain_rfl
theorem refold5 : after (printed F) 5 = body 5 := by chain_rfl
theorem refold6 : after (printed F) 6 = body 6 := by chain_rfl
theorem refold7 : after (printed F) 7 = body 7 := by chain_rfl

theorem refold_dev : printed F = .op .deviceId (after (printed F)) := by chain_rfl

theorem refold : printed F = .op .deviceId body := by
  refine refold_dev.trans (congrArg _ (funext fun d => ?_))
  match d with
  | 0 => exact refold0
  | 1 => exact refold1
  | 2 => exact refold2
  | 3 => exact refold3
  | 4 => exact refold4
  | 5 => exact refold5
  | 6 => exact refold6
  | 7 => exact refold7

end Cert.KernelIdeal.Mine

end
-- ==== Proof.KI.Run.lean ====
/-
  The launch: every device's share of it, and what every run of the program ends in.
-/
module

public import proofs.«01_k».proof.Proof.KI.Whole
public import proofs.«01_k».proof.Proof.KI.Refold
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs

@[expose] public section

set_option synthInstance.maxSize 4096

noncomputable section

namespace Cert.KernelIdeal.Mine

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Transfers (shareTokN shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-! ## The data of the launch -/

/-- What a device starts from, -/
def start (c : Dev nD) : sProp 𝕄 := iprop(∃ K, ctx m ρ K ∗ share c)
def Φ₀ (c : Dev nD) : sProp 𝕄 := iprop(start m ρ c ∗ (∃ f, fLoc c ↦{fullShare} f) ∗ ∃ f, tLoc c ↦{fullShare} f)
/-- and what it ends with: its scratch buffers, and its semaphores at zero. -/
def Φ₁ (c : Dev nD) : sProp 𝕄 :=
  iprop(((∃ f, fLoc c ↦{fullShare} f) ∗ ∃ f, tLoc c ↦{fullShare} f) ∗ bigSep Finset.univ fun k : Cell => semVal (cellAt c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sX m ρ c
    | ⟨1, _⟩ => sWq m ρ c
    | ⟨2, _⟩ => sK m ρ c
    | ⟨3, _⟩ => sV m ρ c
    | ⟨4, _⟩ => sWo m ρ c
    | ⟨5, _⟩ => OUT m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyIn (c : Dev nD) : sProp 𝕄 :=
  iprop(Φ₀ m ρ c ∗ (dats m ρ 0 c).owesAt () t0_0.castSucc
    ∗ (∃ d, held c cc0_stg0_0 ((dats m ρ 0 c).before (0 : Fin 6) t0_0 d))
    ∗ (∃ d, held c cc0_stg1_0 ((dats m ρ 0 c).before (1 : Fin 6) t0_0 d))
    ∗ (∃ d, held c cc0_stg2_0 ((dats m ρ 0 c).before (2 : Fin 6) t0_0 d))
    ∗ (∃ d, held c cc0_stg3_0 ((dats m ρ 0 c).before (3 : Fin 6) t0_0 d))
    ∗ (∃ d, held c cc0_stg4_0 ((dats m ρ 0 c).before (4 : Fin 6) t0_0 d))
    ∗ (∃ d, held c cc0_stg5_0 ((dats m ρ 0 c).before (5 : Fin 6) t0_0 d)))

def bodyOut (c : Dev nD) : sProp 𝕄 :=
  iprop(Φ₁ c ∗ (dats m ρ 0 c).owesAt () t0_0.succ ∗ held c cc0_stg0_0 (sX m ρ c) ∗ held c cc0_stg1_0 (sWq m ρ c)
    ∗ held c cc0_stg2_0 (sK m ρ c) ∗ held c cc0_stg3_0 (sV m ρ c) ∗ held c cc0_stg4_0 (sWo m ρ c) ∗ held c cc0_stg5_0 (OUT m ρ c))

theorem staged (c : Dev nD) (w : Fin 6) (hf : (cfg0.win w).fetch t0_0 = true) (d) :
    (dats m ρ 0 c).before w t0_0 d = (dats m ρ 0 c).fetched w t0_0 d := by
  unfold Dat.before; rw [if_pos hf]

theorem owed_in (c : Dev nD) : (dats m ρ 0 c).owesAt () t0_0.castSucc ⊢ owesE c (O₀ c) := by
  unfold Dat.owesAt Pipeline.owesWithin owesE
  rw [show (dats m ρ 0 c).owed t0_0.castSucc = O₀ c from rfl]
  iintro ⟨%W, -, H⟩
  iexists W; iexact H
theorem owed_out (c : Dev nD) : owesE c 0 ⊢ (dats m ρ 0 c).owesAt () t0_0.succ := by
  unfold Dat.owesAt Pipeline.owesWithin owesE
  rw [show (dats m ρ 0 c).owed t0_0.succ = 0 from rfl]
  iintro ⟨%W, H⟩
  iexists W
  isplitr; · ipureintro; exact fun _ _ => Or.inl trivial
  iexact H

theorem stage_in (c : Dev nD) (b : Ref sig .tc) (X : b.ty.Contents (Elt F)) {D : Type} (B : D → b.ty.Contents (Elt F)) (h : ∀ d, B d = X) :
    iprop(∃ d, held c b (B d)) ⊢ (((c : Dev nD) : Thread nD τ).loc b ↦{fullShare} X : sProp 𝕄) := by
  iintro ⟨%d, %f, %hf, H⟩
  rw [← h d, ← hf]
  iexact H
theorem stage_any (c : Dev nD) (b : Ref sig .tc) {D : Type} (B : D → b.ty.Contents (Elt F)) :
    iprop(∃ d, held c b (B d)) ⊢ (iprop(∃ f, ((c : Dev nD) : Thread nD τ).loc b ↦{fullShare} f) : sProp 𝕄) := by
  iintro ⟨%d, %f, -, H⟩
  iexists f; iexact H
theorem stage_out (c : Dev nD) (b : Ref sig .tc) (X : b.ty.Contents (Elt F)) :
    (((c : Dev nD) : Thread nD τ).loc b ↦{fullShare} X : sProp 𝕄) ⊢ held c b X := by
  iintro H
  iexists X
  isplitr; · ipureintro; rfl
  iexact H

theorem body_runs (c : Dev nD) : bodyIn m ρ c ⊢ wp frame (wpE (defs₀ (F := F)) 𝒱₀ c none) Set.univ (printed F) (fun _ => bodyOut m ρ c) := by
  have h0 := stage_in c cc0_stg0_0 (sX m ρ c) (fun d => (dats m ρ 0 c).before (0 : Fin 6) t0_0 d) fun d => (staged m ρ c 0 (fetch0_0 t0_0) d).trans rfl
  have h1 := stage_in c cc0_stg1_0 (sWq m ρ c) (fun d => (dats m ρ 0 c).before (1 : Fin 6) t0_0 d) fun d => (staged m ρ c 1 (fetch0_1 t0_0) d).trans rfl
  have h2 := stage_in c cc0_stg2_0 (sK m ρ c) (fun d => (dats m ρ 0 c).before (2 : Fin 6) t0_0 d) fun d => (staged m ρ c 2 (fetch0_2 t0_0) d).trans rfl
  have h3 := stage_in c cc0_stg3_0 (sV m ρ c) (fun d => (dats m ρ 0 c).before (3 : Fin 6) t0_0 d) fun d => (staged m ρ c 3 (fetch0_3 t0_0) d).trans rfl
  have h4 := stage_in c cc0_stg4_0 (sWo m ρ c) (fun d => (dats m ρ 0 c).before (4 : Fin 6) t0_0 d) fun d => (staged m ρ c 4 (fetch0_4 t0_0) d).trans rfl
  have h5 := stage_any c cc0_stg5_0 fun d => (dats m ρ 0 c).before (5 : Fin 6) t0_0 d
  have g0 := stage_out c cc0_stg0_0 (sX m ρ c)
  have g1 := stage_out c cc0_stg1_0 (sWq m ρ c)
  have g2 := stage_out c cc0_stg2_0 (sK m ρ c)
  have g3 := stage_out c cc0_stg3_0 (sV m ρ c)
  have g4 := stage_out c cc0_stg4_0 (sWo m ρ c)
  have g5 := stage_out c cc0_stg5_0 (OUT m ρ c)
  have hi := owed_in m ρ c
  have ho := owed_out m ρ c
  have hF := (halves_whole m c).1
  have hT := (chunks_whole m c).1
  have hF' := (halves_whole m c).2
  have hT' := (chunks_whole m c).2
  have hb (K) := step_body m ρ K c fun _ => bodyOut m ρ c
  unfold ins iX iWq iK iV iWo oBuf at hb
  rw [refold, wp_deviceId]
  show bodyIn m ρ c ⊢ WP c (body c) fun _ => bodyOut m ρ c
  unfold bodyIn bodyOut Φ₀ Φ₁ start
  iintro ⟨⟨⟨%K, #Hc, Hs⟩, Hf, Ht⟩, HO, H0, H1, H2, H3, H4, H5⟩
  ihave Hf := hF $$ Hf
  ihave Ht := hT $$ Ht
  ihave HO := hi $$ HO
  ihave H0 := h0 $$ H0
  ihave H1 := h1 $$ H1
  ihave H2 := h2 $$ H2
  ihave H3 := h3 $$ H3
  ihave H4 := h4 $$ H4
  ihave H5 := h5 $$ H5
  iapply (hb K)
  isplitr; · iexact Hc
  isplitl [Hs]; · iexact Hs
  isplitl [H0 H1 H2 H3 H4]
  · isplitl [H0]; · iexact H0
    isplitl [H1]; · iexact H1
    isplitl [H2]; · iexact H2
    isplitl [H3] <;> iassumption
  isplitl [H5]; · iexact H5
  isplitl [Hf]; · iexact Hf
  isplitl [Ht]; · iexact Ht
  isplitl [HO]; · iexact HO
  iintro ⟨HO, ⟨H0, H1, H2, H3, H4⟩, H5, Hf, Ht, Hz⟩
  unfold bodyOut Φ₁
  isplitl [Hf Ht Hz]
  · isplitl [Hf Ht]
    · isplitl [Hf]; · iapply hF'; iexact Hf
      iapply hT'; iexact Ht
    · iexact Hz
  isplitl [HO]; · iapply ho; iexact HO
  isplitl [H0]; · iapply g0; iexact H0
  isplitl [H1]; · iapply g1; iexact H1
  isplitl [H2]; · iapply g2; iexact H2
  isplitl [H3]; · iapply g3; iexact H3
  isplitl [H4]; · iapply g4; iexact H4
  iapply g5; iexact H5

set_option maxRecDepth 4000 in
/-- What the launch asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_buf]
  show bodyIn m ρ c ⊢ wp frame (wpE (defs₀ (F := F)) 𝒱₀ c none) Set.univ (printed F) (fun _ => bodyOut m ρ c)
  exact body_runs m ρ c

/-! ## The launch -/

theorem ownSemFacts : Pipeline.OwnSemFacts cfg0.spec osem where
  isScoped k := by
    revert k; decide
  inj k k' h := Sum.inr.inj (csem_injective h)
  disj k w s h := by
    have h1 : ∀ (w : Fin 6) (s : Fin (cfg0.spec w).nbuf), semNum (SemLoc.dma ((cfg0.spec w).sem s)) < 6 := by decide
    have h2 := h1 w s
    rw [← h] at h2
    have h3 := semNum_csem (.inr k)
    change semNum (csem (.inr k)) < 6 at h2
    rw [h3] at h2
    rcases k with (⟨⟩ | ⟨c, h⟩ | ⟨i, c, h⟩ | c | c) <;> simp only [] at h2 <;> omega

theorem share_eq (c : Dev nD) (w : Fin cfg0.W) : (dats m ρ 0 c).share w = fullShare := by unfold Dat.share; split <;> rfl

/-- All cells, and all duties. -/
def allCells : Finset (GSem nD τ sig) := Finset.univ.map ⟨fun ck : Fin 8 × Cell => cellAt ck.1 ck.2, fun _ _ h => Prod.ext (cellAt_inj h).1 (cellAt_inj h).2⟩
def allToks : Finset (GSem nD τ sig × ℕ × Fin 8) :=
  Finset.univ.map ⟨fun cku : Fin 8 × Cell × Fin 8 => (cellAt cku.1 cku.2.1, 0, cku.2.2), fun a b h => by
    have h1 := cellAt_inj (congrArg Prod.fst h)
    have h2 : a.2.2 = b.2.2 := congrArg (fun x : GSem nD τ sig × ℕ × Fin 8 => x.2.2) h
    exact Prod.ext h1.1 (Prod.ext h1.2 h2)⟩

def u₀ : UU := (initOf (Pipeline.cells cfgs cellOf_inj) (Pipeline.launchToks cfgs cellOf_inj), initOf allCells allToks)

/-- What a device is dealt. -/
def G (c : Dev nD) : sProp 𝕄 :=
  iprop((bigSep Finset.univ fun k : Cell => roundState ER (Rd m ρ) (cellAt c k) 0)
    ∗ ((bigSep Finset.univ fun k : Cell => pos c k 0) ∗ bigSep Finset.univ fun k : Cell => reached ER (cellAt c k) 0)
    ∗ bigSep Finset.univ fun k : Cell => bigSep Finset.univ fun u : Fin 8 => tok c k u)
/-- What that becomes. -/
def G' (c : Dev nD) : sProp 𝕄 :=
  iprop(∃ K, records m ρ K ∗ (bigSep Finset.univ fun k : Cell => pos c k 0) ∗ bigSep Finset.univ fun p : Fin 8 => bigSep Finset.univ fun k : Cell => tok p k c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (cellAt c k) := by
    unfold allCells; rw [bigSep_map, bigSep_univ_prod]; rfl
  have hT : bigSep allToks (fun x => (dutyTok ER x.1 x.2.1 x.2.2 : sProp 𝕄))
      = bigSep Finset.univ fun c : Dev nD => bigSep Finset.univ fun k : Cell => bigSep Finset.univ fun u : Fin 8 => tok c k u := by
    unfold allToks
    rw [bigSep_map, bigSep_univ_prod]
    exact bigSep_congr fun c _ => bigSep_univ_prod _
  have h1 := Entails.of_eq (hX fun g => roundState ER (Rd m ρ) g 0)
  have h2 := Entails.of_eq (hX fun g => atPos ER g 0 ∅ 0)
  have h3 := Entails.of_eq (hX fun g => reached ER g 0)
  have h4 := Entails.of_eq hT
  unfold G; simp only [bigSep_sep']
  iintro HX
  imod (Rounds.fund ER (Rd m ρ) allCells allToks) $$ HX with ⟨Hst, Hr, Hat, Htok⟩
  imodintro
  ihave Hst := h1 $$ Hst
  ihave Hat := h2 $$ Hat
  ihave Hr := h3 $$ Hr
  ihave Htok := h4 $$ Htok
  isplitl [Hst]; · iexact Hst
  isplitl [Hat Hr]
  · isplitl [Hat] <;> iassumption
  iexact Htok

/-- The kernel's own semaphores, -/
abbrev own0 (c : Dev nD) : sProp 𝕄 := Pipeline.ownSems0 (Ix := Unit) (Name := ℕ) (U := UU) (Lvl := ℕ) (Val := Elt F) (τ := τ) osem c

theorem own0_eq (c : Dev nD) : (own0 c : sProp 𝕄) = bigSep Finset.univ fun k : Own => semVal (cellAt c (.inr k)) 0 := rfl
/-- the opening barrier's, -/
theorem bar0_eq (c : Dev nD) : (unscopedSems0 c : sProp 𝕄) = semVal (cellAt c kBar) 0 := by
  unfold unscopedSems0; rw [bigSep_eq_bigSepL_of_eq [SemLoc.reg barS] (by decide) (by decide)]; rfl
/-- and all of them. -/
theorem sems_eq (c : Dev nD) : (bigSep Finset.univ fun k : Cell => (semVal (cellAt c k) 0 : sProp 𝕄)) = iprop(unscopedSems0 c ∗ own0 c) := by
  rw [bigSep_univ_sum, bar0_eq, own0_eq, show (Finset.univ : Finset Unit) = {()} from rfl, bigSep_singleton]; rfl

theorem alloc_one (c : Dev nD) : iprop(own0 c ∗ unscopedSems0 c ∗ G m ρ c)
    ⊢ |={Set.univ}=> iprop((bigSep Finset.univ fun k : Cell => iprop(∃ κ : ℕ, cellInv ER (Rd m ρ) κ (cellAt c k)))
        ∗ ((bigSep Finset.univ fun k : Cell => pos c k 0) ∗ bigSep Finset.univ fun k : Cell => reached ER (cellAt c k) 0)
        ∗ bigSep Finset.univ fun k : Cell => bigSep Finset.univ fun u : Fin 8 => tok c k u) := by
  have hv := Entails.of_eq (sems_eq (F := F) c).symm
  have ha : iprop((bigSep Finset.univ fun k : Cell => semVal (cellAt c k) 0) ∗ bigSep Finset.univ fun k : Cell => roundState ER (Rd m ρ) (cellAt c k) 0)
      ⊢ (|={Set.univ}=> bigSep Finset.univ fun k => iprop(∃ κ : ℕ, cellInv ER (Rd m ρ) κ (cellAt c k)) : sProp 𝕄) := by
    rw [← bigSep_sep']
    exact (bigSep_mono fun k _ => (Rounds.body_intro ER (Rd m ρ) (cellAt c k)).trans inv_alloc).trans (bigSep_fupd _ _)
  unfold G
  iintro ⟨Hos, Hus, Hst, Hat, Htok⟩
  ihave Hv := hv $$ [Hos Hus]
  · isplitl [Hus] <;> iassumption
  imod ha $$ [Hv Hst] with Hinv
  · isplitl [Hv] <;> iassumption
  imodintro
  isplitl [Hinv]; · iexact Hinv
  isplitl [Hat]; · iexact Hat
  iexact Htok

/-- The rights, from the cells' devices to those who use them. -/
theorem toks_dealt : (bigSep Finset.univ fun c : Fin 8 => bigSep Finset.univ fun k : Cell => bigSep Finset.univ fun u : Fin 8 => tok (F := F) c k u)
    ⊢ bigSep Finset.univ fun u : Fin 8 => bigSep Finset.univ fun c : Fin 8 => bigSep Finset.univ fun k : Cell => tok c k u := by
  rw [bigSep_univ_comm (fun (u : Fin 8) (c : Fin 8) => bigSep Finset.univ fun k : Cell => tok (F := F) c k u)]
  exact bigSep_mono fun c _ => by rw [bigSep_univ_comm]; exact BI.Entails.refl _

theorem regroup :
    (bigSep Finset.univ fun c : Dev nD => iprop((bigSep Finset.univ fun k : Cell => iprop(∃ κ : ℕ, cellInv ER (Rd m ρ) κ (cellAt c k)))
        ∗ ((bigSep Finset.univ fun k : Cell => pos c k 0) ∗ bigSep Finset.univ fun k : Cell => reached ER (cellAt c k) 0)
        ∗ bigSep Finset.univ fun k : Cell => bigSep Finset.univ fun u : Fin 8 => tok c k u) : sProp 𝕄)
      ⊢ bigSep Finset.univ (G' m ρ) := by
  have hI : (bigSep Finset.univ fun c : Dev nD => bigSep Finset.univ fun k : Cell => iprop(∃ κ : ℕ, cellInv ER (Rd m ρ) κ (cellAt c k)) : sProp 𝕄)
      ⊢ iprop(∃ K : Fin 8 × Cell → ℕ, bigSep Finset.univ fun ck : Fin 8 × Cell => cellInv ER (Rd m ρ) (K ck) (cellAt ck.1 ck.2)) := by
    rw [← bigSep_univ_prod (fun ck : Dev nD × Cell => iprop(∃ κ : ℕ, cellInv ER (Rd m ρ) κ (cellAt ck.1 ck.2)))]
    exact BI.bigSep_exists_pi Finset.univ (fun (ck : Dev nD × Cell) (κ : ℕ) => (cellInv ER (Rd m ρ) κ (cellAt ck.1 ck.2) : sProp 𝕄))
  have hR : (bigSep Finset.univ fun c : Dev nD => bigSep Finset.univ fun k : Cell => reached ER (cellAt c k) 0 : sProp 𝕄)
      ⊢ bigSep Finset.univ fun ck : Fin 8 × Cell => reached ER (cellAt ck.1 ck.2) 0 :=
    Entails.of_eq (bigSep_univ_prod (fun ck : Dev nD × Cell => (reached ER (cellAt ck.1 ck.2) 0 : sProp 𝕄))).symm
  have ht := toks_dealt (F := F)
  have hk (K : Fin 8 × Cell → ℕ) (c : Dev nD) : iprop(records m ρ K ∗ (bigSep Finset.univ fun k : Cell => pos c k 0)
      ∗ bigSep Finset.univ fun p : Fin 8 => bigSep Finset.univ fun k : Cell => tok p k c) ⊢ (G' m ρ c : sProp 𝕄) := by
    unfold G'
    iintro H
    iexists K
    iexact H
  have hg (K : Fin 8 × Cell → ℕ) : iprop(records m ρ K ∗ bigSep Finset.univ fun c : Dev nD =>
      iprop((bigSep Finset.univ fun k : Cell => pos c k 0) ∗ bigSep Finset.univ fun p : Fin 8 => bigSep Finset.univ fun k : Cell => tok p k c))
      ⊢ bigSep Finset.univ (G' m ρ) :=
    (Laws.sep_mono_left (BI.bigSep_of_persistent Finset.univ (records m ρ K))).trans (by
      rw [← bigSep_sep']
      exact bigSep_mono fun c _ => hk K c)
  have hs : iprop((bigSep Finset.univ fun c : Dev nD => bigSep Finset.univ fun k : Cell => pos c k 0)
      ∗ bigSep Finset.univ fun c : Dev nD => bigSep Finset.univ fun p : Fin 8 => bigSep Finset.univ fun k : Cell => tok p k c)
      ⊢ bigSep Finset.univ fun c : Dev nD =>
      (iprop((bigSep Finset.univ fun k : Cell => pos c k 0) ∗ bigSep Finset.univ fun p : Fin 8 => bigSep Finset.univ fun k : Cell => tok p k c) : sProp 𝕄) :=
    Entails.of_eq (bigSep_sep' _ _ _).symm
  unfold records at hg
  rw [bigSep_sep', bigSep_sep', bigSep_sep']
  iintro ⟨HI, ⟨Hat, #HR⟩, Htok⟩
  ihave HK := hI $$ HI
  icases HK with ⟨%K, #HI⟩
  ihave Htk := ht $$ Htok
  iapply (hg K)
  isplitr
  · isplitl; · iexact HI
    iapply hR; iexact HR
  · iapply hs
    isplitl [Hat] <;> iassumption

theorem glob : (bigSep Finset.univ fun c => iprop(own0 c ∗ unscopedSems0 c ∗ G m ρ c) : sProp 𝕄) ⊢ |={Set.univ}=> bigSep Finset.univ (G' m ρ) :=
  ((bigSep_mono fun c _ => alloc_one m ρ c).trans (bigSep_fupd _ _)).trans (BI.fupd_mono (regroup m ρ))

theorem credits (c : Dev nD) : (Pipeline.launchCred O₀ c : sProp 𝕄) ⊢ bigSep Finset.univ fun k : Cell => crd c k (nC c k) := by
  have h (k : Cell) : tallyOn (cellAt c k) (launchCredit (Pipeline.owing O₀) 0 (cellAt c k)) = (tallyAt (cellAt c k) () (nC c k) : CellTallies nD τ sig Unit) := by
    unfold tallyAt
    refine congrArg _ (Finsupp.ext fun u => ?_)
    cases u
    rw [Pipeline.launchCredit_owing, Finsupp.single_eq_same]; rfl
  have hm : (bigSep Finset.univ fun k : Cell => crd (F := F) c k (nC c k))
      = bigSep (Finset.univ.map ⟨csem, csem_injective⟩) fun sm => cred (tallyOn ((c : Thread nD τ), sm) (launchCredit (Pipeline.owing O₀) 0 ((c : Thread nD τ), sm))) := by
    rw [bigSep_map]
    exact bigSep_congr fun k _ => congrArg cred (h k).symm
  rw [hm]
  unfold Pipeline.launchCred
  exact bigSep_subset (Finset.subset_univ _)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hc := credits (F := F) c
  unfold start G' ctx share
  iintro ⟨-, #Hlev, Hcr, -, ⟨%K, #HR, Hp, Ht⟩⟩
  ihave Hc := hc $$ Hcr
  imodintro
  isplitl
  · iexists K
    isplitr
    · isplitl; · iexact HR
      iexact Hlev
    isplitl [Hp]; · iexact Hp
    isplitl [Ht] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have h1 : ∀ (w : Fin 6) (s : Fin (cfg0.spec w).nbuf), semNum (SemLoc.dma ((cfg0.spec w).sem s)) < 6 := by decide
    have h2 := h1 w s
    have hk : kindOf (SemLoc.dma ((cfg0.spec w).sem s)) = none := by
      unfold kindOf
      refine dif_neg fun ⟨k, hk⟩ => ?_
      rw [← hk, semNum_csem] at h2
      rcases k with (⟨⟩ | ⟨⟩ | ⟨c, h⟩ | ⟨i, c, h⟩ | c | c) <;> simp only [] at h2 <;> omega
    have hO : Above 0 ((dats m ρ 0 c).owed t) := by
      rcases t with ⟨_ | _, ht⟩
      · exact above_O₀ c
      · exact Above.zero 0
    exact MayOwe.of_cut (L := L) (lev := lv) 0
      (fun p hp => by rw [Finset.mem_singleton.mp hp]; exact Finset.mem_singleton_self _)
      (fun g u hg => by unfold L; rw [if_pos (hO g u hg).1]; exact Finset.mem_singleton_self _)
      (fun p hp => by rw [Finset.mem_singleton.mp hp]; unfold lv; exact (congrArg (fun o : Option Cell => o.elim 0 (lvl c)) hk).le)
      (fun g u hg => (hO g u hg).2)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the eight devices ends, with each array at what
    the proof's data say and every semaphore counter at zero. -/
theorem runs : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mine

end
-- ==== Proof.KI.Post.lean ====
/-
  What every run of the program leaves: the arguments as they were, the result computed, every semaphore at zero.
-/
module

public import proofs.«01_k».proof.Proof.KI.Run
public import Idealize.ShloMosaic.Lib.Pipeline.Value

@[expose] public section

set_option synthInstance.maxSize 4096

noncomputable section

namespace Cert.KernelIdeal.Mine

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Transfers (shareTokN shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-- Each window is the whole of its array. -/
theorem read_blk0 (X : S2x512x768.Idx → Elt F _) : (win0_0.blk t0_0).view.read (Elt F) X = X :=
  funext fun i => congrArg X (funext fun a => Fin.ext (Window.rect_emb_val_of_index_zero win0_0 t0_0 a (by fin_cases a <;> rfl) i))
theorem read_blk1 (X : S768x512.Idx → Elt F _) : (win0_1.blk t0_0).view.read (Elt F) X = X :=
  funext fun i => congrArg X (funext fun a => Fin.ext (Window.rect_emb_val_of_index_zero win0_1 t0_0 a (by fin_cases a <;> rfl) i))
theorem read_blk2 (X : S2x512x8x64.Idx → Elt F _) : (win0_2.blk t0_0).view.read (Elt F) X = X :=
  funext fun i => congrArg X (funext fun a => Fin.ext (Window.rect_emb_val_of_index_zero win0_2 t0_0 a (by fin_cases a <;> rfl) i))
theorem read_blk3 (X : S2x512x8x64.Idx → Elt F _) : (win0_3.blk t0_0).view.read (Elt F) X = X :=
  funext fun i => congrArg X (funext fun a => Fin.ext (Window.rect_emb_val_of_index_zero win0_3 t0_0 a (by fin_cases a <;> rfl) i))
theorem read_blk4 (X : S512x768.Idx → Elt F _) : (win0_4.blk t0_0).view.read (Elt F) X = X :=
  funext fun i => congrArg X (funext fun a => Fin.ext (Window.rect_emb_val_of_index_zero win0_4 t0_0 a (by fin_cases a <;> rfl) i))
theorem read_blk5 (X : S2x512x768.Idx → Elt F _) : (win0_5.blk t0_0).view.read (Elt F) X = X :=
  funext fun i => congrArg X (funext fun a => Fin.ext (Window.rect_emb_val_of_index_zero win0_5 t0_0 a (by fin_cases a <;> rfl) i))

theorem box5 : ∀ a : Fin 3, win0_5.kind.off (win0_5.index t0_0 a) (win0_5.size a) = 0
    ∧ S2x512x768.size a ≤ win0_5.kind.off (win0_5.index t0_0 a) (win0_5.size a) + win0_5.xsize (grid0.coords t0_0) a := by decide +kernel

theorem out_cover (c : Dev nD) : finalA m ρ c (5 : Fin 6) = OUT m ρ c := by
  refine (dats m ρ 0 c).arrAt_eq_of_cover 5 (OUT m ρ c) (fun t _ => ?_) fun i => ⟨t0_0, flush0_5 _, ?_⟩
  · obtain rfl := fin_N0 t
    unfold Dat.flushed
    rw [show (dats m ρ 0 c).after (5 : Fin 6) t0_0 = OUT m ρ c from rfl]
    exact (read_blk5 (OUT m ρ c)).symm
  · show i ∈ ((View.whole main_v1).slice (win0_5.rect t0_0)).set
    rw [View.set_slice_whole, Rect.mem_set_unit]
    exact fun a => ⟨(box5 a).1 ▸ Nat.zero_le _, lt_of_lt_of_le (i a).isLt (box5 a).2⟩

/-- The arguments of every device are as they were, -/
def Kept : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

theorem kept (r : PUnit × MemSt nD τ sig (Elt F)) (h : QC m ρ r) : Kept m r := fun c =>
  ⟨(h c 0).trans (((dats m ρ 0 c).arrAt_in 0 rfl _).trans (V_main_arg0 m c)),
    (h c 1).trans (((dats m ρ 0 c).arrAt_in 1 rfl _).trans (V_main_arg1 m c)),
    (h c 2).trans (((dats m ρ 0 c).arrAt_in 2 rfl _).trans (V_main_arg2 m c)),
    (h c 3).trans (((dats m ρ 0 c).arrAt_in 3 rfl _).trans (V_main_arg3 m c)),
    (h c 4).trans (((dats m ρ 0 c).arrAt_in 4 rfl _).trans (V_main_arg4 m c))⟩

/-- and the program ends with every semaphore at zero. -/
theorem frame_runs : θ_run defs (onTc (τ := τ) (main (F := F))) ⟨m, fun _ => 0, ρ⟩ (fun r => Kept m r ∧ r.2.sem = fun _ => 0) :=
  (θ_run defs _ _).mono (fun r h => ⟨kept m ρ r h.1, h.2⟩) (runs m ρ)

/-- Every device's result is what the proof's data say. -/
theorem value_runs : θ_run defs (onTc (τ := τ) (main (F := F))) ⟨m, fun _ => 0, ρ⟩
    (fun r => ∀ c : Dev nD, r.2.mem ((c.tc : Thread nD τ).loc main_v1) = OUT m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c 5).trans (out_cover m ρ c)), kept m ρ r h.1 c⟩) (runs m ρ)

end Cert.KernelIdeal.Mine

end
-- ==== Proof.Spec.lean ====
/-
  The function both programs compute, over the extended reals, and the two facts about it that need an argument: a
  sum over the keys is a sum over the keys a row can see, and weights normalized before or after the sum agree.
-/
module

public import Idealize.ShloMosaic.PureOps.Ideal.Laws
public import Idealize.ShloMosaic.Lib.FinSumWindow

@[expose] public section

noncomputable section

namespace Cert.Attn

open Idealize.ShloMosaic

/-- Row `i` sees key `j`: at most 128 positions apart. -/
def Near (i : Fin 512) (j : Fin 4096) : Prop := i.val ≤ j.val + 128 ∧ j.val ≤ i.val + 128

instance (i : Fin 512) (j : Fin 4096) : Decidable (Near i j) := by unfold Near; infer_instance

/-- Column `k` of head `h` in the heads laid side by side. -/
def col (h : Fin 8) (k : Fin 64) : Fin 512 := ⟨64 * h.val + k.val, by omega⟩

section

variable (X : Fin 2 → Fin 512 → Fin 768 → EReal) (W : Fin 768 → Fin 512 → EReal)
variable (K V : Fin 2 → Fin 4096 → Fin 8 → Fin 64 → EReal) (O : Fin 512 → Fin 768 → EReal)

/-- The queries. -/
def qry (b : Fin 2) (i e : Fin 512) : EReal := ∑ k : Fin 768, X b i k * W k e
/-- The scaled scores. -/
def scr (b : Fin 2) (h : Fin 8) (i : Fin 512) (j : Fin 4096) : EReal :=
  (∑ k : Fin 64, qry X W b i (col h k) * K b j h k) * Ideal.ofBits .f32 0x3E000000#32
/-- The weights, not normalized. -/
def wgt (b : Fin 2) (h : Fin 8) (i : Fin 512) (j : Fin 4096) : EReal :=
  if Near i j then Ideal.exp (scr X W K b h i j) else 0
/-- A row's sum of weights. -/
def tot (b : Fin 2) (h : Fin 8) (i : Fin 512) : EReal := ∑ j : Fin 4096, wgt X W K b h i j
/-- The attention output. -/
def ctx (b : Fin 2) (h : Fin 8) (i : Fin 512) (d : Fin 64) : EReal :=
  (∑ j : Fin 4096, wgt X W K b h i j * V b j h d) * Ideal.div 1 (tot X W K b h i)
/-- The result. -/
def out (b : Fin 2) (i : Fin 512) (n : Fin 768) : EReal :=
  ∑ e : Fin 512, ctx X W K V b ⟨e.val / 64, by omega⟩ i ⟨e.val % 64, by omega⟩ * O e n

end

/-! ## Sums over the keys a row sees -/

/-- A function of the keys that vanishes on the keys row `i` does not see. -/
def Seen (i : Fin 512) (f : Fin 4096 → EReal) : Prop := ∀ j, ¬ Near i j → f j = 0

/-- Rows below 256 see keys below 384 only. -/
theorem sum_top {i : Fin 512} (hi : i.val < 256) {f : Fin 4096 → EReal} (hf : Seen i f) :
    ∑ j, f j = ∑ j : Fin 384, f ⟨0 + j.val, by omega⟩ :=
  FinSumWindow.sum_window 0 (by omega) f fun j hj => hf j fun hn => hj (by unfold Near at hn; omega)

/-- Rows from 256 to 383 see keys from 128 to 511 only. -/
theorem sum_mid {i : Fin 512} (h1 : 256 ≤ i.val) (h2 : i.val < 384) {f : Fin 4096 → EReal} (hf : Seen i f) :
    ∑ j, f j = ∑ j : Fin 384, f ⟨128 + j.val, by omega⟩ :=
  FinSumWindow.sum_window 128 (by omega) f fun j hj => hf j fun hn => hj (by unfold Near at hn; omega)

/-- Rows from 384 see keys from 256 to 639: those up to 511 are the first block's, the rest the next block's. -/
theorem sum_bot {i : Fin 512} (h1 : 384 ≤ i.val) {f : Fin 4096 → EReal} (hf : Seen i f) :
    ∑ j, f j = (∑ j : Fin 384, f ⟨128 + j.val, by omega⟩) + ∑ j : Fin 128, f ⟨512 + j.val, by omega⟩ := by
  rw [FinSumWindow.sum_window (W := 384 + 128) 128 (by omega) f fun j hj => hf j fun hn => hj (by unfold Near at hn; omega),
    Fin.sum_univ_add]
  refine congrArg₂ (· + ·) (Finset.sum_congr rfl fun j _ => rfl) (Finset.sum_congr rfl fun j _ => congrArg f (Fin.ext ?_))
  show 128 + (384 + j.val) = 512 + j.val
  omega

/-! ## Normalizing before or after the sum -/

/-- Multiplying by a nonnegative real passes through a finite sum of extended reals. -/
theorem sum_mul_coe {ι : Type} (s : Finset ι) (f : ι → EReal) {t : ℝ} (ht : 0 ≤ t) :
    (∑ j ∈ s, f j) * (t : EReal) = ∑ j ∈ s, f j * (t : EReal) := by
  classical
  induction s using Finset.induction_on with
  | empty => rw [Finset.sum_empty, Finset.sum_empty, zero_mul]
  | insert a s ha ih =>
    rw [Finset.sum_insert ha, Finset.sum_insert ha,
      EReal.right_distrib_of_nonneg_of_ne_top (EReal.coe_nonneg.2 ht) (EReal.coe_ne_top t), ih]

/-- A sum of reals, taken among the extended reals. -/
theorem sum_coe {ι : Type} (s : Finset ι) (f : ι → ℝ) : ∑ j ∈ s, (f j : EReal) = ((∑ j ∈ s, f j : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- Weights scaled by a positive real and normalized before the sum are the weights normalized after it. -/
theorem normalize {n : ℕ} (e : Fin n → ℝ) (he : 0 < ∑ l, e l) {c : ℝ} (hc : c ≠ 0) (v : Fin n → EReal) :
    ∑ j, v j * Ideal.div ((e j * c : ℝ) : EReal) (0 + ∑ l, ((e l * c : ℝ) : EReal))
      = (∑ j, (e j : EReal) * v j) * Ideal.div 1 (∑ l, (e l : EReal)) := by
  have h1 : (∑ l, e l * c) = (∑ l, e l) * c := (Finset.sum_mul ..).symm
  have h2 : (∑ l, e l) * c ≠ 0 := mul_ne_zero he.ne' hc
  rw [zero_add, sum_coe, sum_coe, h1, Ideal.div_coe he.ne', one_mul, sum_mul_coe _ _ (one_div_nonneg.2 he.le)]
  refine Finset.sum_congr rfl fun j _ => ?_
  rw [Ideal.div_coe h2, ← EReal.coe_mul, show e j * c * (1 / ((∑ l, e l) * c)) = e j * (1 / ∑ l, e l) by field_simp,
    EReal.coe_mul, ← mul_assoc, mul_comm (v j)]

/-- The softmax with a shift `M` and weights normalized before the sum is the plain one normalized after it. -/
theorem softmax_shift {n : ℕ} (P : Fin n → Prop) [DecidablePred P] (r : Fin n → ℝ) (v : Fin n → EReal) (M : ℝ)
    (j₀ : Fin n) (h₀ : P j₀) :
    ∑ j, v j * Ideal.div (Ideal.exp ((if P j then (r j : EReal) else ⊥) - (M : EReal)))
        (0 + ∑ l, Ideal.exp ((if P l then (r l : EReal) else ⊥) - (M : EReal)))
      = (∑ j, (if P j then Ideal.exp (r j : EReal) else 0) * v j)
          * Ideal.div 1 (∑ l, if P l then Ideal.exp (r l : EReal) else 0) := by
  have hE : ∀ l, (if P l then Ideal.exp (r l : EReal) else 0) = (((if P l then Real.exp (r l) else 0 : ℝ)) : EReal) := by
    intro l; split <;> simp
  have hS : ∀ l, Ideal.exp ((if P l then (r l : EReal) else ⊥) - (M : EReal))
      = (((if P l then Real.exp (r l) else 0) * Real.exp (-M) : ℝ) : EReal) := by
    intro l
    split
    · rw [← EReal.coe_sub, Ideal.exp_coe, ← Real.exp_add, sub_eq_add_neg]
    · rw [EReal.bot_sub, Ideal.exp_bot, zero_mul, EReal.coe_zero]
  have hT : 0 < ∑ l, (if P l then Real.exp (r l) else 0) :=
    Finset.sum_pos' (fun l _ => by split; exacts [(Real.exp_pos _).le, le_rfl])
      ⟨j₀, Finset.mem_univ _, by rw [if_pos h₀]; exact Real.exp_pos _⟩
  simp only [hE, hS]
  exact normalize _ hT (Real.exp_pos _).ne' v

/-! ## The mask, as the programs compute it on words -/

/-- The signed comparison of the distance of two positions with 128. -/
theorem near_word (I J : ℕ) (hI : I < 4096) (hJ : J < 4096) :
    IntOp.cmpi .sle (IntOp.absi (IntOp.subi (BitVec.ofNat 32 I) (BitVec.ofNat 32 J))) 128#32
      = if I ≤ J + 128 ∧ J ≤ I + 128 then 1#1 else 0#1 := by
  have habs : IntOp.absi (IntOp.subi (BitVec.ofNat 32 I) (BitVec.ofNat 32 J)) = BitVec.ofNat 32 (I - J + (J - I)) := by
    unfold IntOp.absi IntOp.subi
    by_cases h : J ≤ I
    · have e : BitVec.ofNat 32 I - BitVec.ofNat 32 J = BitVec.ofNat 32 (I - J + (J - I)) := by
        apply BitVec.eq_of_toNat_eq
        simp only [BitVec.toNat_sub, BitVec.toNat_ofNat]
        omega
      rw [e, if_neg]
      rw [BitVec.msb_eq_decide, decide_eq_true_iff, BitVec.toNat_ofNat]
      omega
    · rw [if_pos]
      · apply BitVec.eq_of_toNat_eq
        simp only [BitVec.toNat_neg, BitVec.toNat_sub, BitVec.toNat_ofNat]
        omega
      · rw [BitVec.msb_eq_decide, decide_eq_true_iff]
        simp only [BitVec.toNat_sub, BitVec.toNat_ofNat]
        omega
  rw [habs]
  unfold IntOp.cmpi
  have hs : (BitVec.ofNat 32 (I - J + (J - I))).sle 128#32 = decide (I ≤ J + 128 ∧ J ≤ I + 128) := by
    rw [BitVec.sle_eq_decide]
    refine decide_eq_decide.2 ?_
    rw [BitVec.toInt_eq_toNat_cond, BitVec.toNat_ofNat, if_pos (by omega)]
    show ((_ : ℕ) : ℤ) ≤ 128 ↔ _
    omega
  show BitVec.ofBool ((BitVec.ofNat 32 (I - J + (J - I))).sle 128#32) = _
  rw [hs]
  by_cases h : I ≤ J + 128 ∧ J ≤ I + 128
  · rw [decide_eq_true h, if_pos h]; rfl
  · rw [decide_eq_false h, if_neg h]; rfl

/-- Choosing by that comparison. -/
theorem select_near (I J : ℕ) (hI : I < 4096) (hJ : J < 4096) {α : Type} (x y : α) :
    Scalar.select (IntOp.cmpi .sle (IntOp.absi (IntOp.subi (BitVec.ofNat 32 I) (BitVec.ofNat 32 J))) 128#32) x y
      = if I ≤ J + 128 ∧ J ≤ I + 128 then x else y := by
  rw [near_word I J hI hJ]
  split <;> rfl

end Cert.Attn

end
-- ==== Proof.KI.Pieces.lean ====
/-
  The pieces of the kernel's computation, read at an index over the extended reals: queries, exponentials, sums,
  contexts, the stored pieces and the projection, each from whatever its operands are.
-/
module

public import proofs.«01_k».proof.Proof.KI.Prog
public import proofs.«01_k».proof.Proof.Spec
public import Idealize.ShloMosaic.Lib.MatmulPlain
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.IdealHost

@[expose] public section

noncomputable section

namespace Cert.KernelIdeal.Mine

open Cert.KernelIdeal.Gen
open Idealize.ShloMosaic Idealize.ShloMosaic.ValueIdx
open Cert.Attn (select_near)

/-- A column broadcast over a block reads the column's row. -/
theorem bcol_apply {a b : ℕ} {α : Type} (hb : b ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matmul into the zero splat, read at an index. -/
theorem mm {M K N : ℕ} {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ k : Fin K, l (ix2 i k) * r (ix2 k j) := by
  refine (Ideal.matmul_plain_apply none l r _ i j).trans ?_
  rw [constant_apply, Ideal.ofBits_zero_f32, zero_add]
/-- The same with the right operand's rows contracted. -/
theorem mmT {M K N : ℕ} {φ₁ φ₂ : FTy} (l : FVec Ideal ⟨2, ![M, K]⟩ φ₁) (r : FVec Ideal ⟨2, ![N, K]⟩ φ₂) (i : Fin M) (j : Fin N) :
    matmul (DotDims.transposedRhs M K N) none l r (constant ⟨2, ![M, N]⟩ .f32 0x00000000#32) (ix2 i j)
      = ∑ k : Fin K, l (ix2 i k) * r (ix2 j k) := by
  refine (Ideal.matmul_transposedRhs_apply none l r _ i j).trans ?_
  rw [constant_apply, Ideal.ofBits_zero_f32, zero_add]

/-! ## The masks -/

theorem named_mask : Named.named (F := Ideal) κ "mask" (φ := .f32) 0xCE6E6B28#32 = ⊥ := rfl

theorem pay2_apply (r j : Fin 128) :
    (k0_pay2 (F := Ideal)) (ix2 r j) = if 384 + r.val ≤ 512 + j.val + 128 ∧ 512 + j.val ≤ 384 + r.val + 128 then 0 else ⊥ := by
  rw [← select_near (384 + r.val) (512 + j.val) (by omega) (by omega) (0 : EReal) ⊥, BitVec.ofNat_add, BitVec.ofNat_add]
  show Scalar.select (IntOp.cmpi .sle (IntOp.absi (IntOp.subi (384#32 + BitVec.ofNat 32 (0 * 128 + r.val))
    (512#32 + BitVec.ofNat 32 (0 * 128 + j.val)))) 128#32) (Ideal.ofBits .f32 0x00000000#32) (⊥ : EReal) = _
  rw [Ideal.ofBits_zero_f32, Nat.zero_mul, Nat.zero_add, Nat.zero_add]

theorem pay68_apply (r : Fin 256) (j : Fin 384) :
    (k0_pay68 (F := Ideal)) (ix2 r j) = if 0 + r.val ≤ 0 + j.val + 128 ∧ 0 + j.val ≤ 0 + r.val + 128 then 0 else ⊥ := by
  rw [← select_near (0 + r.val) (0 + j.val) (by omega) (by omega) (0 : EReal) ⊥, BitVec.ofNat_add, BitVec.ofNat_add]
  show Scalar.select (IntOp.cmpi .sle (IntOp.absi (IntOp.subi (0#32 + BitVec.ofNat 32 (0 * 256 + r.val))
    (0#32 + BitVec.ofNat 32 (0 * 384 + j.val)))) 128#32) (Ideal.ofBits .f32 0x00000000#32) (⊥ : EReal) = _
  rw [Ideal.ofBits_zero_f32, Nat.zero_mul, Nat.zero_add, Nat.zero_add]

theorem pay69_apply (r : Fin 256) (j : Fin 384) :
    (k0_pay69 (F := Ideal)) (ix2 r j) = if 256 + r.val ≤ 128 + j.val + 128 ∧ 128 + j.val ≤ 256 + r.val + 128 then 0 else ⊥ := by
  rw [← select_near (256 + r.val) (128 + j.val) (by omega) (by omega) (0 : EReal) ⊥, BitVec.ofNat_add, BitVec.ofNat_add]
  show Scalar.select (IntOp.cmpi .sle (IntOp.absi (IntOp.subi (256#32 + BitVec.ofNat 32 (0 * 256 + r.val))
    (128#32 + BitVec.ofNat 32 (0 * 384 + j.val)))) 128#32) (Ideal.ofBits .f32 0x00000000#32) (⊥ : EReal) = _
  rw [Ideal.ofBits_zero_f32, Nat.zero_mul, Nat.zero_add, Nat.zero_add]

/-- Adding the mask before the exponential. -/
theorem exp_mask (P : Prop) [Decidable P] (z : EReal) : Ideal.exp (z + if P then 0 else ⊥) = if P then Ideal.exp z else 0 := by
  split
  · rw [add_zero]
  · rw [EReal.add_bot, Ideal.exp_bot]

/-! ## Queries, keys and values -/

theorem pay1_apply (w : Vec Ideal S768x512 .f32) (k : Fin 768) (e : Fin 512) : k0_pay1 w (ix2 k e) = w (ix2 k e) :=
  shapeCast_apply w _ _ _ rfl
theorem pay67_apply (w : Vec Ideal S768x512 .f32) (k : Fin 768) (e : Fin 512) : k0_pay67 w (ix2 k e) = w (ix2 k e) :=
  shapeCast_apply w _ _ _ rfl

theorem q0_apply (w : FVec Ideal S768x512 .bf16) (x : Vec Ideal S1x512x768 .f32) (i e : Fin 512) :
    q0 w x (ix2 i e) = ∑ k : Fin 768, x (ix3 (0 : Fin 1) i k) * w (ix2 k e) :=
  (mm _ w i e).trans (Finset.sum_congr rfl fun k _ => congrArg (· * w (ix2 k e)) (shapeCast_1ab_ab_apply x _ i k))

theorem q1_apply (w : FVec Ideal S768x512 .bf16) (x : Vec Ideal S1x128x768 .f32) (i : Fin 128) (e : Fin 512) :
    q1 w x (ix2 i e) = ∑ k : Fin 768, x (ix3 (0 : Fin 1) i k) * w (ix2 k e) :=
  (mm _ w i e).trans (Finset.sum_congr rfl fun k _ => congrArg (· * w (ix2 k e)) (shapeCast_1ab_ab_apply x _ i k))

theorem qh_apply (q : FVec Ideal S512x512 .f32) (h : Fin 8) (i : Fin 512) (k : Fin 64) :
    qh q h (ix2 i k) = q (ix2 i (Attn.col h k)) :=
  slice2_axis1_apply (64 * h.val) q (slQ h) i k _ rfl
theorem kh_apply (q : FVec Ideal S512x512 .bf16) (h : Fin 8) (i : Fin 512) (k : Fin 64) :
    kh q h (ix2 i k) = q (ix2 i (Attn.col h k)) :=
  slice2_axis1_apply (64 * h.val) q (slQ h) i k _ rfl

theorem flat_apply (x : Vec Ideal S1x512x8x64 .f32) (i : Fin 512) (h : Fin 8) (k : Fin 64) :
    flat x (ix2 i (Attn.col h k)) = x (ix4 (0 : Fin 1) i h k) := by
  show shapeCast S512x512 (shapeCast S512x8x64 x shapeCasts_S1x512x8x64_S512x8x64) shapeCasts_S512x8x64_S512x512 (ix2 i (Attn.col h k)) = _
  rw [← shapeCast_1abc_abc_apply x shapeCasts_S1x512x8x64_S512x8x64 i h k]
  generalize shapeCast S512x8x64 x shapeCasts_S1x512x8x64_S512x8x64 = y
  refine shapeCast_apply y shapeCasts_S512x8x64_S512x512 (ix2 i (Attn.col h k)) (ix3 i h k) ?_
  rw [Shape.rowMajor_val_three, Shape.rowMajor_val_two]
  show (i.val * 8 + h.val) * 64 + k.val = i.val * 512 + (64 * h.val + k.val)
  omega

/-- One head's rows of a four-axis load. -/
theorem head_apply (x : Vec Ideal S1x128x1x64 .f32) (i : Fin 128) (k : Fin 64) :
    shapeCast S128x64 x shapeCasts_S1x128x1x64_S128x64 (ix2 i k) = x (ix4 (0 : Fin 1) i (0 : Fin 1) k) := by
  refine shapeCast_apply x _ _ _ ?_
  rw [Shape.rowMajor_val_four, Shape.rowMajor_val_two]
  show ((0 * 128 + i.val) * 1 + 0) * 64 + k.val = i.val * 64 + k.val
  omega

/-! ## Exponentials -/

theorem exT_apply (q k : FVec Ideal S512x64 .bf16) (r : Fin 256) (j : Fin 384) :
    exT q k (ix2 r j) = if 0 + r.val ≤ 0 + j.val + 128 ∧ 0 + j.val ≤ 0 + r.val + 128 then
      Ideal.exp ((∑ e : Fin 64, q (ix2 ⟨0 + r.val, by omega⟩ e) * k (ix2 ⟨0 + j.val, by omega⟩ e)) * Ideal.ofBits .f32 0x3E000000#32) else 0 := by
  rw [← exp_mask, ← pay68_apply]
  refine congrArg (fun z => Ideal.exp (z * _ + _)) ((mmT _ _ r j).trans (Finset.sum_congr rfl fun e _ => ?_))
  exact congrArg₂ (· * ·) (slice2_axis0_apply 0 q _ r e _ rfl) (slice2_axis0_apply 0 k _ j e _ rfl)

theorem exB_apply (q k : FVec Ideal S512x64 .bf16) (r : Fin 256) (j : Fin 384) :
    exB q k (ix2 r j) = if 256 + r.val ≤ 128 + j.val + 128 ∧ 128 + j.val ≤ 256 + r.val + 128 then
      Ideal.exp ((∑ e : Fin 64, q (ix2 ⟨256 + r.val, by omega⟩ e) * k (ix2 ⟨128 + j.val, by omega⟩ e)) * Ideal.ofBits .f32 0x3E000000#32) else 0 := by
  rw [← exp_mask, ← pay69_apply]
  refine congrArg (fun z => Ideal.exp (z * _ + _)) ((mmT _ _ r j).trans (Finset.sum_congr rfl fun e _ => ?_))
  exact congrArg₂ (· * ·) (slice2_axis0_apply 256 q _ r e _ rfl) (slice2_axis0_apply 128 k _ j e _ rfl)

theorem ex1_apply (q : FVec Ideal S128x512 .f32) (h : Fin 8) (k : Vec Ideal S1x128x1x64 .f32) (r j : Fin 128) :
    ex1 q h k (ix2 r j) = if 384 + r.val ≤ 512 + j.val + 128 ∧ 512 + j.val ≤ 384 + r.val + 128 then
      Ideal.exp ((∑ e : Fin 64, q (ix2 r (Attn.col h e)) * k (ix4 (0 : Fin 1) j (0 : Fin 1) e)) * Ideal.ofBits .f32 0x3E000000#32) else 0 := by
  rw [← exp_mask, ← pay2_apply]
  refine congrArg (fun z => Ideal.exp (z * _ + _)) ((mmT _ _ r j).trans (Finset.sum_congr rfl fun e _ => ?_))
  exact congrArg₂ (· * ·) (slice2_axis1_apply (64 * h.val) q (slQ1 h) r e (Attn.col h e) rfl) (head_apply k j e)

/-! ## Sums and contexts -/

theorem rowsum {a b : ℕ} (e : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ e 0x00000000#32 hr hφ hacc (ix1 r) = ∑ j : Fin b, e (ix2 r j) := by
  refine (Ideal.multiReduction_add_single e _ hr hφ hacc (ix1 r)).trans (Finset.sum_congr rfl fun j _ => congrArg e (funext fun x => Fin.ext ?_))
  match x with
  | ⟨0, _⟩ => rfl
  | ⟨1, _⟩ => rfl

theorem sumR_apply (e : FVec Ideal S256x384 .f32) (r : Fin 256) : sumR e (ix2 r (0 : Fin 1)) = ∑ j : Fin 384, e (ix2 r j) :=
  (shapeCast_a_a1_apply _ _ r 0).trans (rowsum e reduces_S256x384_S256 (.inl rfl) rfl r)

theorem sum1_apply (e : FVec Ideal S128x128 .f32) (r : Fin 128) :
    sum1 e (ix3 (0 : Fin 1) r (0 : Fin 1)) = ∑ j : Fin 128, e (ix2 r j) :=
  (shapeCast_ab_1ab_apply _ _ 0 r 0).trans ((shapeCast_a_a1_apply (multiReduction .add [1] S128 e 0x00000000#32
    reduces_S128x128_S128 (.inl rfl) rfl) shapeCasts_S128_S128x1 r 0).trans (rowsum e reduces_S128x128_S128 (.inl rfl) rfl r))

theorem ctxT_apply (e : FVec Ideal S256x384 .f32) (v : FVec Ideal S512x64 .bf16) (r : Fin 256) (d : Fin 64) :
    ctxT e v (ix2 r d) = ∑ j : Fin 384, e (ix2 r j) * v (ix2 ⟨0 + j.val, by omega⟩ d) :=
  (mm _ _ r d).trans (Finset.sum_congr rfl fun j _ => congrArg (e (ix2 r j) * ·) (slice2_axis0_apply 0 v _ j d _ rfl))

theorem ctxB_apply (e : FVec Ideal S256x384 .f32) (v : FVec Ideal S512x64 .bf16) (r : Fin 256) (d : Fin 64) :
    ctxB e v (ix2 r d) = ∑ j : Fin 384, e (ix2 r j) * v (ix2 ⟨128 + j.val, by omega⟩ d) :=
  (mm _ _ r d).trans (Finset.sum_congr rfl fun j _ => congrArg (e (ix2 r j) * ·) (slice2_axis0_apply 128 v _ j d _ rfl))

theorem ctx1_apply (e : FVec Ideal S128x128 .f32) (v : Vec Ideal S1x128x1x64 .f32) (r : Fin 128) (d : Fin 64) :
    ctx1 e v (ix3 (0 : Fin 1) r d) = ∑ j : Fin 128, e (ix2 r j) * v (ix4 (0 : Fin 1) j (0 : Fin 1) d) :=
  (shapeCast_ab_1ab_apply _ _ 0 r d).trans ((mm _ _ r d).trans
    (Finset.sum_congr rfl fun j _ => congrArg (e (ix2 r j) * ·) (head_apply v j d)))

/-! ## The stored pieces -/

theorem outT_apply (s : FVec Ideal S256x1 .f32) (c : FVec Ideal S256x64 .f32) (r : Fin 256) (d : Fin 64) :
    outT s c (ix3 (0 : Fin 1) r d) = c (ix2 r d) * Ideal.div 1 (s (ix2 r (0 : Fin 1))) := by
  refine (shapeCast_ab_1ab_apply _ _ 0 r d).trans (congrArg (c (ix2 r d) * ·) ((bcol_apply (by decide) _ _ r d).trans ?_))
  show Ideal.div (Ideal.ofBits .f32 0x3F800000#32) _ = _
  rw [Ideal.ofBits_one_f32]

theorem outM_apply (s : FVec Ideal S256x1 .f32) (c : FVec Ideal S256x64 .f32) (r : Fin 128) (d : Fin 64) :
    outM s c (ix3 (0 : Fin 1) r d) = c (ix2 ⟨0 + r.val, by omega⟩ d) * Ideal.div 1 (s (ix2 ⟨0 + r.val, by omega⟩ (0 : Fin 1))) := by
  refine (shapeCast_ab_1ab_apply _ _ 0 r d).trans (congrArg₂ (· * ·) (slice2_axis0_apply 0 c _ r d _ rfl) ((bcol_apply (by decide) _ _ r d).trans ?_))
  show Ideal.div (Ideal.ofBits .f32 0x3F800000#32) _ = _
  rw [Ideal.ofBits_one_f32]
  exact congrArg _ (slice2_axis0_apply 0 s _ r 0 _ rfl)

theorem outB_apply (s : FVec Ideal S256x1 .f32) (c : FVec Ideal S256x64 .f32) (s1 : Vec Ideal S1x128x1 .bf16)
    (c1 : Vec Ideal S1x128x64 .bf16) (r : Fin 128) (d : Fin 64) :
    outB s c s1 c1 (ix3 (0 : Fin 1) r d)
      = (c (ix2 ⟨128 + r.val, by omega⟩ d) + c1 (ix3 (0 : Fin 1) r d))
          * Ideal.div 1 (s (ix2 ⟨128 + r.val, by omega⟩ (0 : Fin 1)) + s1 (ix3 (0 : Fin 1) r (0 : Fin 1))) := by
  refine (shapeCast_ab_1ab_apply _ _ 0 r d).trans (congrArg₂ (· * ·) (congrArg₂ (· + ·) (slice2_axis0_apply 128 c _ r d _ rfl)
    (shapeCast_1ab_ab_apply c1 _ r d)) ((bcol_apply (by decide) _ _ r d).trans ?_))
  show Ideal.div (Ideal.ofBits .f32 0x3F800000#32) _ = _
  rw [Ideal.ofBits_one_f32]
  exact congrArg _ (congrArg₂ (· + ·) (slice2_axis0_apply 128 s _ r 0 _ rfl) (shapeCast_1ab_ab_apply s1 _ r 0))

/-! ## The projection -/

theorem projC_apply (wo : Vec Ideal S512x768 .f32) (p : Fin 4) (f : Vec Ideal S1x512x128 .bf16) (i : Fin 512) (n : Fin 768) :
    projC (woB wo) p f (ix2 i n) = ∑ e : Fin 128, f (ix3 (0 : Fin 1) i e) * wo (ix2 ⟨128 * p.val + e.val, by omega⟩ n) :=
  (mm _ _ i n).trans (Finset.sum_congr rfl fun e _ => congrArg₂ (· * ·) (shapeCast_1ab_ab_apply f _ i e)
    ((slice2_axis0_apply (128 * p.val) _ _ e n _ rfl).trans (shapeCast_apply wo _ _ _ rfl)))

/-- The sum over the columns by chunks of 128. -/
theorem sum_chunks (g : Fin 512 → EReal) :
    ∑ e, g e = (((∑ e : Fin 128, g ⟨128 * (0 : Fin 4).val + e.val, by omega⟩) + ∑ e : Fin 128, g ⟨128 * (1 : Fin 4).val + e.val, by omega⟩)
      + ∑ e : Fin 128, g ⟨128 * (2 : Fin 4).val + e.val, by omega⟩) + ∑ e : Fin 128, g ⟨128 * (3 : Fin 4).val + e.val, by omega⟩ := by
  rw [show (∑ e, g e) = ∑ e : Fin (128 + 128 + 128 + 128), g e from rfl, Fin.sum_univ_add, Fin.sum_univ_add, Fin.sum_univ_add]
  refine congrArg₂ (· + ·) (congrArg₂ (· + ·) (congrArg₂ (· + ·) ?_ ?_) ?_) ?_ <;>
    exact Finset.sum_congr rfl fun e _ => congrArg g (Fin.ext (by simp; try omega))

theorem proj_apply (wo : Vec Ideal S512x768 .f32) (f : Fin 4 → Vec Ideal S1x512x128 .bf16) (g : Fin 512 → EReal) (i : Fin 512) (n : Fin 768)
    (hg : ∀ (p : Fin 4) (e : Fin 128), f p (ix3 (0 : Fin 1) i e) = g ⟨128 * p.val + e.val, by omega⟩) :
    proj (woB wo) (f 0) (f 1) (f 2) (f 3) (ix3 (0 : Fin 1) i n) = ∑ e : Fin 512, g e * wo (ix2 e n) := by
  have h (p : Fin 4) : projC (woB wo) p (f p) (ix2 i n)
      = ∑ e : Fin 128, g ⟨128 * p.val + e.val, by omega⟩ * wo (ix2 ⟨128 * p.val + e.val, by omega⟩ n) :=
    (projC_apply wo p (f p) i n).trans (Finset.sum_congr rfl fun e _ => by rw [hg])
  refine (shapeCast_ab_1ab_apply _ _ 0 i n).trans ?_
  rw [sum_chunks]
  exact congrArg₂ (· + ·) (congrArg₂ (· + ·) (congrArg₂ (· + ·) (h 0) (h 1)) (h 2)) (h 3)

end Cert.KernelIdeal.Mine

end
-- ==== Proof.KI.Value.lean ====
/-
  What every device's result is, as a function of the whole arrays, over the extended reals.
-/
module

public import proofs.«01_k».proof.Proof.KI.Post
public import proofs.«01_k».proof.Proof.KI.Pieces

@[expose] public section

noncomputable section

namespace Cert.KernelIdeal.Mine

open Cert.KernelIdeal.Gen
open Idealize.ShloMosaic Idealize.ShloMosaic.ValueIdx
open Idealize.ShloMosaic.TcCoe
open Cert.Attn (Near qry scr wgt tot out col Seen)

variable (m : (ℓ : Loc nD τ sig) → Buf (Elt Ideal) ℓ) (ρ : Dev nD → PrngReg)

/-! ## The loads -/

theorem rdX (f : S2x512x768.Idx → Ideal .f32) (b : Fin 2) (i : Fin 512) (k : Fin 768) :
    mX.view.readAt (Elt Ideal) (rX b).toLoadRect f (ix3 (0 : Fin 1) i k) = f (ix3 b i k) := by
  refine congrArg f (funext fun a => Fin.ext ?_)
  match a with
  | ⟨0, _⟩ => show b.val + 1 * 0 = b.val; omega
  | ⟨1, _⟩ => show 0 + 1 * i.val = i.val; omega
  | ⟨2, _⟩ => show 0 + 1 * k.val = k.val; omega

theorem rdX1 (f : S2x512x768.Idx → Ideal .f32) (b : Fin 2) (i : Fin 128) (k : Fin 768) :
    mX.view.readAt (Elt Ideal) (rX1 b).toLoadRect f (ix3 (0 : Fin 1) i k) = f (ix3 b (⟨384 + i.val, by omega⟩ : Fin 512) k) := by
  refine congrArg f (funext fun a => Fin.ext ?_)
  match a with
  | ⟨0, _⟩ => show b.val + 1 * 0 = b.val; omega
  | ⟨1, _⟩ => show 384 + 1 * i.val = 384 + i.val; omega
  | ⟨2, _⟩ => show 0 + 1 * k.val = k.val; omega

theorem rdK (f : S2x512x8x64.Idx → Ideal .f32) (b : Fin 2) (j : Fin 512) (h : Fin 8) (k : Fin 64) :
    mK.view.readAt (Elt Ideal) (rK b).toLoadRect f (ix4 (0 : Fin 1) j h k) = f (ix4 b j h k) := by
  refine congrArg f (funext fun a => Fin.ext ?_)
  match a with
  | ⟨0, _⟩ => show b.val + 1 * 0 = b.val; omega
  | ⟨1, _⟩ => show 0 + 1 * j.val = j.val; omega
  | ⟨2, _⟩ => show 0 + 1 * h.val = h.val; omega
  | ⟨3, _⟩ => show 0 + 1 * k.val = k.val; omega

theorem rdV (f : S2x512x8x64.Idx → Ideal .f32) (b : Fin 2) (j : Fin 512) (h : Fin 8) (k : Fin 64) :
    mV.view.readAt (Elt Ideal) (rK b).toLoadRect f (ix4 (0 : Fin 1) j h k) = f (ix4 b j h k) := by
  refine congrArg f (funext fun a => Fin.ext ?_)
  match a with
  | ⟨0, _⟩ => show b.val + 1 * 0 = b.val; omega
  | ⟨1, _⟩ => show 0 + 1 * j.val = j.val; omega
  | ⟨2, _⟩ => show 0 + 1 * h.val = h.val; omega
  | ⟨3, _⟩ => show 0 + 1 * k.val = k.val; omega

theorem rdK1 (f : S2x512x8x64.Idx → Ideal .f32) (b : Fin 2) (j : Fin 128) (h : Fin 8) (k : Fin 64) :
    mK.view.readAt (Elt Ideal) (rK1 b h).toLoadRect f (ix4 (0 : Fin 1) j (0 : Fin 1) k) = f (ix4 b (⟨j.val, by omega⟩ : Fin 512) h k) := by
  refine congrArg f (funext fun a => Fin.ext ?_)
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * k.val = k.val; omega

theorem rdV1 (f : S2x512x8x64.Idx → Ideal .f32) (b : Fin 2) (j : Fin 128) (h : Fin 8) (k : Fin 64) :
    mV.view.readAt (Elt Ideal) (rK1 b h).toLoadRect f (ix4 (0 : Fin 1) j (0 : Fin 1) k) = f (ix4 b (⟨j.val, by omega⟩ : Fin 512) h k) := by
  refine congrArg f (funext fun a => Fin.ext ?_)
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * k.val = k.val; omega

theorem rdF (f : S8x512x128.Idx → Ideal .bf16) (c : Fin 8) (i : Fin 512) (e : Fin 128) :
    mF.view.readAt (Elt Ideal) (rFc c).toLoadRect f (ix3 (0 : Fin 1) i e) = f (ix3 c i e) := by
  refine congrArg f (funext fun a => Fin.ext ?_)
  match a with
  | ⟨0, _⟩ => show c.val + 1 * 0 = c.val; omega
  | ⟨1, _⟩ => show 0 + 1 * i.val = i.val; omega
  | ⟨2, _⟩ => show 0 + 1 * e.val = e.val; omega

theorem rdWq (f : S768x512.Idx → Ideal .f32) : mWq.view.readAt (Elt Ideal)
    (Rect.unit (s := S768x512) ![0, 0] S768x512.size inb_S768x512_S768x512_0_0).toLoadRect f = f := by
  refine funext fun i => congrArg f (funext fun a => Fin.ext ?_)
  match a with
  | ⟨0, _⟩ => show 0 + 1 * (i 0).val = (i 0).val; omega
  | ⟨1, _⟩ => show 0 + 1 * (i 1).val = (i 1).val; omega

theorem rdWo (f : S512x768.Idx → Ideal .f32) : mWo.view.readAt (Elt Ideal)
    (Rect.unit (s := S512x768) ![0, 0] S512x768.size inb_S512x768_S512x768_0_0).toLoadRect f = f := by
  refine funext fun i => congrArg f (funext fun a => Fin.ext ?_)
  match a with
  | ⟨0, _⟩ => show 0 + 1 * (i 0).val = (i 0).val; omega
  | ⟨1, _⟩ => show 0 + 1 * (i 1).val = (i 1).val; omega

/-! ## The whole arrays -/

section

variable {X : Fin 2 → Fin 512 → Fin 768 → EReal} {W : Fin 768 → Fin 512 → EReal}
variable {K V : Fin 2 → Fin 4096 → Fin 8 → Fin 64 → EReal} {O : Fin 512 → Fin 768 → EReal}

/-- Every device's arguments are its parts of the whole arrays. -/
structure Held (X : Fin 2 → Fin 512 → Fin 768 → EReal) (W : Fin 768 → Fin 512 → EReal)
    (K V : Fin 2 → Fin 4096 → Fin 8 → Fin 64 → EReal) (O : Fin 512 → Fin 768 → EReal) : Prop where
  x : ∀ (c : Fin 8) b i k, (m (((c : Dev nD) : Thread nD τ).loc main_arg0) : S2x512x768.Idx → Ideal .f32) (ix3 b i k) = X b i k
  w : ∀ (c : Fin 8) k e, (m (((c : Dev nD) : Thread nD τ).loc main_arg1) : S768x512.Idx → Ideal .f32) (ix2 k e) = W k e
  k : ∀ (c : Fin 8) b (j : Fin 512) h k, (m (((c : Dev nD) : Thread nD τ).loc main_arg2) : S2x512x8x64.Idx → Ideal .f32) (ix4 b j h k)
    = K b ⟨512 * c.val + j.val, by omega⟩ h k
  v : ∀ (c : Fin 8) b (j : Fin 512) h k, (m (((c : Dev nD) : Thread nD τ).loc main_arg3) : S2x512x8x64.Idx → Ideal .f32) (ix4 b j h k)
    = V b ⟨512 * c.val + j.val, by omega⟩ h k
  o : ∀ (c : Fin 8) e n, (m (((c : Dev nD) : Thread nD τ).loc main_arg4) : S512x768.Idx → Ideal .f32) (ix2 e n) = O e n

variable (H : Held m X W K V O)
include H

theorem lX_apply (b : Fin 2) (i : Fin 512) (k : Fin 768) : lX m ρ 0 b (ix3 (0 : Fin 1) i k) = X b i k :=
  (rdX _ b i k).trans ((congrFun (read_blk0 _) _).trans (H.x 0 b i k))
theorem lX1_apply (b : Fin 2) (i : Fin 128) (k : Fin 768) :
    lX1 m ρ 1 b (ix3 (0 : Fin 1) i k) = X b ⟨384 + i.val, by omega⟩ k :=
  (rdX1 _ b i k).trans ((congrFun (read_blk0 _) _).trans (H.x 1 b _ k))
theorem lWq_apply (c : Fin 8) (k : Fin 768) (e : Fin 512) : lWq m ρ c (ix2 k e) = W k e :=
  (congrFun (rdWq _) _).trans ((congrFun (read_blk1 _) _).trans (H.w c k e))
theorem lWo_apply (c : Fin 8) (e : Fin 512) (n : Fin 768) : lWo m ρ c (ix2 e n) = O e n :=
  (congrFun (rdWo _) _).trans ((congrFun (read_blk4 _) _).trans (H.o c e n))
theorem lK_apply (b : Fin 2) (j : Fin 512) (h : Fin 8) (k : Fin 64) :
    lK m ρ 0 b (ix4 (0 : Fin 1) j h k) = K b ⟨j.val, by omega⟩ h k :=
  (rdK _ b j h k).trans ((congrFun (read_blk2 _) _).trans ((H.k 0 b j h k).trans
    (congrArg (K b · h k) (Fin.ext (by show 512 * 0 + j.val = j.val; omega)))))
theorem lV_apply (b : Fin 2) (j : Fin 512) (h : Fin 8) (k : Fin 64) :
    lV m ρ 0 b (ix4 (0 : Fin 1) j h k) = V b ⟨j.val, by omega⟩ h k :=
  (rdV _ b j h k).trans ((congrFun (read_blk3 _) _).trans ((H.v 0 b j h k).trans
    (congrArg (V b · h k) (Fin.ext (by show 512 * 0 + j.val = j.val; omega)))))
theorem lK1_apply (b : Fin 2) (j : Fin 128) (h : Fin 8) (k : Fin 64) :
    lK1 m ρ 1 b h (ix4 (0 : Fin 1) j (0 : Fin 1) k) = K b ⟨512 + j.val, by omega⟩ h k :=
  (rdK1 _ b j h k).trans ((congrFun (read_blk2 _) _).trans ((H.k 1 b _ h k).trans
    (congrArg (K b · h k) (Fin.ext (by show 512 * 1 + j.val = 512 + j.val; omega)))))
theorem lV1_apply (b : Fin 2) (j : Fin 128) (h : Fin 8) (k : Fin 64) :
    lV1 m ρ 1 b h (ix4 (0 : Fin 1) j (0 : Fin 1) k) = V b ⟨512 + j.val, by omega⟩ h k :=
  (rdV1 _ b j h k).trans ((congrFun (read_blk3 _) _).trans ((H.v 1 b _ h k).trans
    (congrArg (V b · h k) (Fin.ext (by show 512 * 1 + j.val = 512 + j.val; omega)))))

/-! ## The pieces -/

theorem q1v (b : Fin 2) (i : Fin 128) (e : Fin 512) :
    q1 (k0_pay1 (lWq m ρ 1)) (lX1 m ρ 1 b) (ix2 i e) = qry X W b ⟨384 + i.val, by omega⟩ e :=
  (q1_apply _ _ i e).trans (Finset.sum_congr rfl fun k _ => by
    rw [lX1_apply m ρ H, pay1_apply, lWq_apply m ρ H])

theorem qRv (b : Fin 2) (i e : Fin 512) : qR m ρ b (ix2 i e) = qry X W b i e :=
  (q0_apply _ _ i e).trans (Finset.sum_congr rfl fun k _ => by
    rw [lX_apply m ρ H, pay67_apply, lWq_apply m ρ H])

theorem kRv (b : Fin 2) (h : Fin 8) (j : Fin 512) (k : Fin 64) :
    kh (kR m ρ b) h (ix2 j k) = K b ⟨j.val, by omega⟩ h k :=
  (kh_apply _ h j k).trans ((flat_apply _ j h k).trans (lK_apply m ρ H b j h k))
theorem vRv (b : Fin 2) (h : Fin 8) (j : Fin 512) (k : Fin 64) :
    kh (vR m ρ b) h (ix2 j k) = V b ⟨j.val, by omega⟩ h k :=
  (kh_apply _ h j k).trans ((flat_apply _ j h k).trans (lV_apply m ρ H b j h k))

theorem ePv (b : Fin 2) (p : Fin 4) (s : Fin 2) (r j : Fin 128) :
    eP m ρ b p s (ix2 r j) = wgt X W K b (hd p s) ⟨384 + r.val, by omega⟩ ⟨512 + j.val, by omega⟩ := by
  refine (ex1_apply _ _ _ r j).trans ?_
  unfold wgt scr Near
  refine congrArg (ite _ · 0) (congrArg (fun z => Ideal.exp (z * _)) (Finset.sum_congr rfl fun e _ => ?_))
  rw [q1v m ρ H, lK1_apply m ρ H]

theorem eTv (b : Fin 2) (p : Fin 4) (s : Fin 2) (r : Fin 256) (j : Fin 384) :
    eT m ρ b p s (ix2 r j) = wgt X W K b (hd p s) ⟨0 + r.val, by omega⟩ ⟨0 + j.val, by omega⟩ := by
  refine (exT_apply _ _ r j).trans ?_
  unfold wgt scr Near
  refine congrArg (ite _ · 0) (congrArg (fun z => Ideal.exp (z * _)) (Finset.sum_congr rfl fun e _ => ?_))
  rw [qh_apply, qRv m ρ H, kRv m ρ H]

theorem eBv (b : Fin 2) (p : Fin 4) (s : Fin 2) (r : Fin 256) (j : Fin 384) :
    eB m ρ b p s (ix2 r j) = wgt X W K b (hd p s) ⟨256 + r.val, by omega⟩ ⟨128 + j.val, by omega⟩ := by
  refine (exB_apply _ _ r j).trans ?_
  unfold wgt scr Near
  refine congrArg (ite _ · 0) (congrArg (fun z => Ideal.exp (z * _)) (Finset.sum_congr rfl fun e _ => ?_))
  rw [qh_apply, qRv m ρ H, kRv m ρ H]

omit H in
/-- The weights, and the weights times anything, vanish on the keys a row does not see. -/
theorem seen_wgt (b : Fin 2) (h : Fin 8) (i : Fin 512) : Seen i (wgt X W K b h i) := fun j hj => if_neg hj
omit H in
theorem seen_ctx (b : Fin 2) (h : Fin 8) (i : Fin 512) (d : Fin 64) : Seen i (fun j => wgt X W K b h i j * V b j h d) :=
  fun j hj => (congrArg (· * V b j h d) (seen_wgt b h i j hj)).trans (zero_mul _)

theorem oTv (b : Fin 2) (p : Fin 4) (s : Fin 2) (r : Fin 256) (d : Fin 64) (i : Fin 512) (hi : i.val = r.val) :
    oT m ρ b p s (ix3 (0 : Fin 1) r d) = Attn.ctx X W K V b (hd p s) i d := by
  have e : i = ⟨0 + r.val, by omega⟩ := Fin.ext (by show i.val = 0 + r.val; omega)
  refine (outT_apply _ _ r d).trans ?_
  unfold Attn.ctx tot
  rw [Attn.sum_top (by omega) (seen_wgt b _ _), Attn.sum_top (by omega) (seen_ctx b _ _ d), sumR_apply, ctxT_apply]
  refine congrArg₂ (fun x y => x * Ideal.div 1 y) ?_ ?_
  · exact Finset.sum_congr rfl fun j _ => by rw [eTv m ρ H, vRv m ρ H, e]
  · exact Finset.sum_congr rfl fun j _ => by rw [eTv m ρ H, e]

theorem oMv (b : Fin 2) (p : Fin 4) (s : Fin 2) (r : Fin 128) (d : Fin 64) (i : Fin 512) (hi : i.val = 256 + r.val) :
    oM m ρ b p s (ix3 (0 : Fin 1) r d) = Attn.ctx X W K V b (hd p s) i d := by
  have e : i = ⟨256 + (⟨0 + r.val, by omega⟩ : Fin 256).val, by show 256 + (0 + r.val) < 512; omega⟩ := Fin.ext (by show i.val = 256 + (0 + r.val); omega)
  refine (outM_apply _ _ r d).trans ?_
  unfold Attn.ctx tot
  rw [Attn.sum_mid (by omega) (by omega) (seen_wgt b _ _), Attn.sum_mid (by omega) (by omega) (seen_ctx b _ _ d), sumR_apply, ctxB_apply]
  refine congrArg₂ (fun x y => x * Ideal.div 1 y) ?_ ?_
  · exact Finset.sum_congr rfl fun j _ => by rw [eBv m ρ H, vRv m ρ H, e]
  · exact Finset.sum_congr rfl fun j _ => by rw [eBv m ρ H, e]

theorem oBv (b : Fin 2) (p : Fin 4) (s : Fin 2) (r : Fin 128) (d : Fin 64) (i : Fin 512) (hi : i.val = 384 + r.val) :
    oB m ρ b p s (ix3 (0 : Fin 1) r d) = Attn.ctx X W K V b (hd p s) i d := by
  have e : i = ⟨256 + (⟨128 + r.val, by omega⟩ : Fin 256).val, by show 256 + (128 + r.val) < 512; omega⟩ := Fin.ext (by show i.val = 256 + (128 + r.val); omega)
  have e' : i = ⟨384 + r.val, by omega⟩ := Fin.ext hi
  refine (outB_apply _ _ _ _ r d).trans ?_
  unfold Attn.ctx tot
  rw [Attn.sum_bot (by omega) (seen_wgt b _ _), Attn.sum_bot (by omega) (seen_ctx b _ _ d), sumR_apply, ctxB_apply]
  refine congrArg₂ (fun x y => x * Ideal.div 1 y) (congrArg₂ (· + ·) ?_ ((ctx1_apply _ _ r d).trans ?_)) (congrArg₂ (· + ·) ?_ ((sum1_apply _ r).trans ?_))
  · exact Finset.sum_congr rfl fun j _ => by rw [eBv m ρ H, vRv m ρ H, e]
  · exact Finset.sum_congr rfl fun j _ => by rw [ePv m ρ H, lV1_apply m ρ H, e']
  · exact Finset.sum_congr rfl fun j _ => by rw [eBv m ρ H, e]
  · exact Finset.sum_congr rfl fun j _ => by rw [ePv m ρ H, e']

/-- The forwarded context. -/
theorem FVv (c : Fin 8) (i : Fin 512) (e : Fin 128) :
    FV m ρ (ix3 c i e) = Attn.ctx X W K V (bOf c) (hd (pOf c) ⟨e.val / 64, by omega⟩) i ⟨e.val % 64, by omega⟩ := by
  show (if ht : i.val < 256 then oT m ρ (bOf c) (pOf c) _ (ix3 (0 : Fin 1) (⟨i.val, ht⟩ : Fin 256) _)
    else if hm : i.val < 384 then oM m ρ (bOf c) (pOf c) _ (ix3 (0 : Fin 1) (⟨i.val - 256, by omega⟩ : Fin 128) _)
    else oB m ρ (bOf c) (pOf c) _ (ix3 (0 : Fin 1) (⟨i.val - 384, by omega⟩ : Fin 128) _)) = _
  split
  · exact oTv m ρ H _ _ _ _ _ i rfl
  · split
    · exact oMv m ρ H _ _ _ _ _ i (by show i.val = 256 + (i.val - 256); omega)
    · exact oBv m ρ H _ _ _ _ _ i (by show i.val = 384 + (i.val - 384); omega)

/-- Every device's result. -/
theorem OUTv (d : Fin 8) (b : Fin 2) (i : Fin 512) (n : Fin 768) : OUT m ρ d (ix3 b i n) = out X W K V O b i n := by
  refine (proj_apply (lWo m ρ d) (fun p => lF m ρ (ch b p))
    (fun e => Attn.ctx X W K V b ⟨e.val / 64, by omega⟩ i ⟨e.val % 64, by omega⟩) i n fun p e => ?_).trans
    (Finset.sum_congr rfl fun e _ => by rw [lWo_apply m ρ H])
  refine (rdF _ _ i e).trans ((FVv m ρ H _ i e).trans ?_)
  rw [bOf_ch, pOf_ch]
  refine congrArg₂ (fun h k => Attn.ctx X W K V b h i k) (Fin.ext ?_) (Fin.ext ?_)
  · show 2 * p.val + e.val / 64 = (128 * p.val + e.val) / 64; omega
  · show e.val % 64 = (128 * p.val + e.val) % 64; omega

end

end Cert.KernelIdeal.Mine

end
-- ==== Proof.Ref.Value.lean ====
/-
  What the reference computes, as a function of its arrays, over the extended reals: the same function, where the
  inputs, the query weights and the keys are real.
-/
module

public import proofs.«01_k».proof.Proof.Gen.ReferenceIdeal.Read
public import proofs.«01_k».proof.Proof.Spec
public import Idealize.ShloMosaic.Lib.IdealHost
public import Mathlib.Tactic.NormNum

@[expose] public section

noncomputable section

namespace Cert.ReferenceIdeal.Mine

open Cert.ReferenceIdeal Cert.ReferenceIdeal.Gen Cert.ReferenceIdeal.Read
open Idealize.ShloMosaic Idealize.ShloMosaic.ValueIdx
open Cert.Attn (Near qry scr wgt tot col)

/-- An extended real that is a real. -/
def Real' (x : EReal) : Prop := ∃ r : ℝ, x = (r : EReal)

theorem real_mul {x y : EReal} (hx : Real' x) (hy : Real' y) : Real' (x * y) := by
  obtain ⟨r, rfl⟩ := hx
  obtain ⟨s, rfl⟩ := hy
  exact ⟨r * s, (EReal.coe_mul r s).symm⟩

theorem real_sum {n : ℕ} (f : Fin n → EReal) (h : ∀ k, Real' (f k)) : Real' (∑ k, f k) := by
  choose r hr using h
  exact ⟨∑ k, r k, (Finset.sum_congr rfl fun k _ => hr k).trans (Attn.sum_coe _ r)⟩

/-- The scale is a real. -/
theorem real_scale : Real' (Ideal.ofBits .f32 0x3E000000#32) := by
  refine ⟨1 / 8, ?_⟩
  simp [Ideal.ofBits, Ideal.ieee, -EReal.coe_mul]
  norm_num

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

/-- The maximum of some reals and otherwise −∞, at least one of them real, is real. -/
theorem real_max {n : ℕ} (f : Fin n → EReal) (h : ∀ k, f k < ⊤) (k₀ : Fin n) (h₀ : Real' (f k₀)) :
    Real' (Finset.univ.fold max ⊥ f) := by
  obtain ⟨r, hr⟩ := h₀
  have h1 : Finset.univ.fold max ⊥ f < ⊤ := (Finset.fold_max_lt _).2 ⟨bot_lt_top, fun k _ => h k⟩
  have h2 : ⊥ < Finset.univ.fold max ⊥ f :=
    (Finset.lt_fold_max _).2 (.inr ⟨k₀, Finset.mem_univ _, by rw [hr]; exact EReal.bot_lt_coe r⟩)
  exact ⟨_, (EReal.coe_toReal h1.ne h2.ne').symm⟩

/-- A left fold by `or` with a 1 among its terms is 1. -/
theorem foldl_or {ι : Type} (f : ι → BitVec 1) : ∀ (l : List ι) (a : BitVec 1), (a = 1#1 ∨ ∃ i ∈ l, f i = 1#1) →
    l.foldl (fun r i => IntOp.ori r (f i)) a = 1#1
  | [], a, h => by
    rcases h with h | ⟨i, hi, _⟩
    · exact h
    · exact absurd hi (List.not_mem_nil)
  | b :: l, a, h => by
    refine foldl_or f l _ ?_
    rcases h with h | ⟨i, hi, e⟩
    · exact .inl (by show IntOp.ori a (f b) = 1#1; rw [h]; generalize f b = y; revert y; decide)
    · rcases List.mem_cons.1 hi with rfl | hi
      · exact .inl (by show IntOp.ori a (f i) = 1#1; rw [e]; clear e; revert a; decide)
      · exact .inr ⟨i, hi, e⟩

section

variable (x0 : S2x512x768.Idx → EReal) (x1 : S768x512.Idx → EReal) (x2 x3 : S2x4096x8x64.Idx → EReal) (x4 : S512x768.Idx → EReal)

/-- The arrays by their coordinates. -/
abbrev aX : Fin 2 → Fin 512 → Fin 768 → EReal := fun b i k => x0 (ix3 b i k)
abbrev aW : Fin 768 → Fin 512 → EReal := fun k e => x1 (ix2 k e)
abbrev aK : Fin 2 → Fin 4096 → Fin 8 → Fin 64 → EReal := fun b j h k => x2 (ix4 b j h k)
abbrev aO : Fin 512 → Fin 768 → EReal := fun e n => x4 (ix2 e n)

/-! ## The mask -/

theorem v11 (i : Fin 512) (j : Fin 4096) : val_main_v11 (F := Ideal) (ix2 i j) = if Near i j then 1#1 else 0#1 := by
  rw [val_main_v11_apply, val_main_v9_apply, val_main_v8_apply, val_main_v6_apply, val_main_v3_apply, val_main_v2_apply,
    val_main_v7_apply, val_main_v5_apply, val_main_v4_apply, val_main_v10_apply, val_main_c_apply]
  exact Attn.near_word i.val j.val (by omega) j.isLt

theorem self_near (i : Fin 512) : Near i ⟨i.val, by omega⟩ := by unfold Near; exact ⟨by simp, by simp⟩

/-- Every row sees a key. -/
theorem v22 (i : S512.Idx) : val_main_v22 (F := Ideal) i = 1#1 := by
  unfold val_main_v22
  rw [Host.reduce_eq_foldl]
  refine foldl_or _ _ _ (.inr ⟨ix2 (i 0) (⟨(i 0).val, (i 0).isLt.trans (by decide)⟩ : Fin 4096), ?_, ?_⟩)
  · rw [List.mem_filter]
    refine ⟨List.mem_map.2 ⟨S512x4096.rowMajor _, List.mem_finRange _, Equiv.symm_apply_apply _ _⟩, decide_eq_true ?_⟩
    funext a
    match a with
    | ⟨0, _⟩ => rfl
  · exact (v11 (i 0) _).trans (if_pos (self_near (i 0)))

/-! ## The scores -/

theorem v0 (b : Fin 2) (i e : Fin 512) : val_main_v0 (F := Ideal) x0 x1 (ix3 b i e) = qry (aX x0) (aW x1) b i e :=
  (val_main_v0_apply x0 x1 _).trans (Finset.sum_congr rfl fun k _ => congrArg₂ (· * ·)
    (congrArg x0 (eq_ix3 _)) (congrArg x1 (eq_ix2 _)))

theorem v1 (b : Fin 2) (i : Fin 512) (h : Fin 8) (k : Fin 64) :
    val_main_v1 (F := Ideal) x0 x1 (ix4 b i h k) = qry (aX x0) (aW x1) b i (col h k) := by
  have e : idx_main_v1 (ix4 b i h k) = ix3 b i (col h k) := by
    funext a
    match a with
    | ⟨0, _⟩ => refine Fin.ext ?_; show (((b.val * 512 + i.val) * 8 + h.val) * 64 + k.val) / 262144 = b.val; omega
    | ⟨1, _⟩ => refine Fin.ext ?_; show (((b.val * 512 + i.val) * 8 + h.val) * 64 + k.val) / 512 % 512 = i.val; omega
    | ⟨2, _⟩ => refine Fin.ext ?_; show (((b.val * 512 + i.val) * 8 + h.val) * 64 + k.val) % 512 = 64 * h.val + k.val; omega
  rw [val_main_v1_apply, e]
  exact v0 x0 x1 b i _

theorem v14 (b : Fin 2) (h : Fin 8) (i : Fin 512) (j : Fin 4096) :
    val_main_v14 (F := Ideal) x0 x1 x2 (ix4 b h i j) = scr (aX x0) (aW x1) (aK x2) b h i j := by
  rw [val_main_v14_apply, val_main_v12_apply, val_main_v13_apply, val_main_cst_apply]
  refine congrArg (· * Ideal.ofBits .f32 0x3E000000#32) (Finset.sum_congr rfl fun k _ => congrArg₂ (· * ·) ?_ (congrArg x2 (eq_ix4 _)))
  exact (congrArg (val_main_v1 (F := Ideal) x0 x1) (eq_ix4 _)).trans (v1 x0 x1 b i h k)

theorem v16 (b : Fin 2) (h : Fin 8) (i : Fin 512) (j : Fin 4096) :
    val_main_v16 (F := Ideal) x0 x1 x2 (ix4 b h i j) = if Near i j then scr (aX x0) (aW x1) (aK x2) b h i j else ⊥ := by
  rw [val_main_v16_apply, val_main_call0_v1_apply, val_main_v15_apply, v14, val_main_call0_v2_apply, val_main_call0_v0_apply,
    val_main_cst_0_apply, show idx_main_v15 (idx_main_call0_v1 (ix4 b h i j)) = ix2 i j from eq_ix2 _, v11]
  show Scalar.select _ _ (Ideal.ofBits .f32 0xFF800000#32) = _
  rw [neg_inf]
  split <;> rfl

/-! ## The softmax -/

variable (hX : ∀ i, Real' (x0 i)) (hW : ∀ i, Real' (x1 i)) (hK : ∀ i, Real' (x2 i))
include hX hW hK

theorem real_scr (b : Fin 2) (h : Fin 8) (i : Fin 512) (j : Fin 4096) : Real' (scr (aX x0) (aW x1) (aK x2) b h i j) :=
  real_mul (real_sum _ fun k => real_mul (real_sum _ fun l => real_mul (hX _) (hW _)) (hK _)) real_scale

theorem v17 (b : Fin 2) (h : Fin 8) (i : Fin 512) : Real' (val_main_v17 (F := Ideal) x0 x1 x2 (ix3 b h i)) := by
  have hr : S2x8x512x4096.Reduces [3] S2x8x512 := by decide
  have hl (j : Fin 4096) : hr.lift (ix3 b h i) j = ix4 b h i j := by
    funext a
    match a with
    | ⟨0, _⟩ => rfl
    | ⟨1, _⟩ => rfl
    | ⟨2, _⟩ => rfl
    | ⟨3, _⟩ => rfl
  have e : val_main_v17 (F := Ideal) x0 x1 x2 (ix3 b h i)
      = Finset.univ.fold max ⊥ (fun j : Fin 4096 => val_main_v16 (F := Ideal) x0 x1 x2 (hr.lift (ix3 b h i) j)) := by
    unfold val_main_v17
    rw [Host.reduce_eq_fold_single _ _ _ _ hr, val_main_cst_1_apply]
    show Finset.univ.fold max (Ideal.ofBits .f32 0xFF800000#32) _ = _
    rw [neg_inf]
    rfl
  rw [e]
  refine real_max _ (fun j => ?_) (⟨i.val, by omega⟩ : Fin 4096) ?_
  · rw [hl, v16]
    obtain ⟨r, hr⟩ := real_scr x0 x1 x2 hX hW hK b h i j
    split
    · rw [hr]; exact EReal.coe_lt_top r
    · exact bot_lt_top
  · rw [hl, v16, if_pos (self_near i)]
    exact real_scr x0 x1 x2 hX hW hK b h i _

theorem v31 (b : Fin 2) (h : Fin 8) (d : Fin 64) (i : Fin 512) :
    val_main_v31 (F := Ideal) x0 x1 x2 x3 (ix4 b h d i) = Attn.ctx (aX x0) (aW x1) (aK x2) (aK x3) b h i d := by
  obtain ⟨M, hM⟩ := v17 x0 x1 x2 hX hW hK b h i
  choose r hr using fun j => real_scr x0 x1 x2 hX hW hK b h i j
  have h21 (j : Fin 4096) : val_main_v21 (F := Ideal) x0 x1 x2 (ix4 b h i j)
      = Ideal.exp ((if Near i j then (r j : EReal) else ⊥) - (M : EReal)) := by
    rw [val_main_v21_apply, val_main_v20_apply, v16, val_main_v19_apply, val_main_v18_apply, hr,
      show idx_main_v18 (idx_main_v19 (ix4 b h i j)) = ix3 b h i from eq_ix3 _, hM]
    rfl
  have h24 : val_main_v24 (F := Ideal) x0 x1 x2 (ix3 b h i)
      = 0 + ∑ l : Fin 4096, Ideal.exp ((if Near i l then (r l : EReal) else ⊥) - (M : EReal)) := by
    rw [val_main_v24_apply, val_main_cst_3_apply]
    refine congrArg₂ (· + ·) Ideal.ofBits_zero_f32 (Finset.sum_congr rfl fun l _ => ?_)
    exact (congrArg (val_main_v21 (F := Ideal) x0 x1 x2) (eq_ix4 _)).trans (h21 l)
  have h30 (j : Fin 4096) : val_main_v30 (F := Ideal) x0 x1 x2 (ix4 b h i j)
      = Ideal.div (Ideal.exp ((if Near i j then (r j : EReal) else ⊥) - (M : EReal)))
          (0 + ∑ l : Fin 4096, Ideal.exp ((if Near i l then (r l : EReal) else ⊥) - (M : EReal))) := by
    rw [val_main_v30_apply, val_main_call2_v1_apply, val_main_v29_apply, v22, select_one, val_main_v28_apply, h21,
      val_main_v27_apply, val_main_v26_apply, val_main_call1_v1_apply, val_main_v23_apply, v22, select_one, val_main_v25_apply,
      show idx_main_v25 (idx_main_v27 (ix4 b h i j)) = ix3 b h i from eq_ix3 _, h24]
    rfl
  refine (val_main_v31_apply x0 x1 x2 x3 _).trans (Eq.trans (Finset.sum_congr rfl fun j _ => congrArg₂ (· * ·)
    (congrArg x3 (eq_ix4 _)) ((congrArg (val_main_v30 (F := Ideal) x0 x1 x2) (eq_ix4 _)).trans (h30 j)))
    ((Attn.softmax_shift (Near i) r (fun j => x3 (ix4 b j h d)) M ⟨i.val, by omega⟩ (self_near i)).trans ?_))
  unfold Attn.ctx tot wgt
  simp only [hr]

/-- The reference's result. -/
theorem v34 (b : Fin 2) (i : Fin 512) (n : Fin 768) : val_main_v34 (F := Ideal) x0 x1 x2 x3 x4 (ix3 b i n)
    = Attn.out (aX x0) (aW x1) (aK x2) (aK x3) (aO x4) b i n := by
  refine (val_main_v34_apply x0 x1 x2 x3 x4 _).trans (Finset.sum_congr rfl fun e _ => congrArg₂ (· * ·) ?_ (congrArg x4 (eq_ix2 _)))
  rw [val_main_v33_apply, val_main_v32_apply]
  refine (congrArg (val_main_v31 (F := Ideal) x0 x1 x2 x3) (?_ : _ = ix4 b (⟨e.val / 64, by omega⟩ : Fin 8) (⟨e.val % 64, by omega⟩ : Fin 64) i)).trans
    (v31 x0 x1 x2 x3 hX hW hK b _ _ i)
  funext a
  match a with
  | ⟨0, _⟩ => refine Fin.ext ?_; show ((b.val * 512 + i.val) * 512 + e.val) / 262144 = b.val; omega
  | ⟨1, _⟩ => refine Fin.ext ?_; show ((b.val * 512 + i.val) * 512 + e.val) / 64 % 8 = e.val / 64; omega
  | ⟨2, _⟩ => refine Fin.ext ?_; show ((b.val * 512 + i.val) * 512 + e.val) % 64 = e.val % 64; omega
  | ⟨3, _⟩ => refine Fin.ext ?_; show ((b.val * 512 + i.val) * 512 + e.val) / 512 % 512 = i.val; omega

end

end Cert.ReferenceIdeal.Mine

end
-- ==== Proof.Agree.lean ====
/-
  Kernel and reference compute the same function: from parts of the same arrays, the inputs, query weights and keys
  finite, every device's result is the reference's.
-/
module

public import proofs.«01_k».proof.Defs
public import proofs.«01_k».proof.Proof.Gen.Pre_finite_KernelIdeal
public import proofs.«01_k».proof.Proof.KI.Value
public import proofs.«01_k».proof.Proof.Ref.Value
public import Idealize.ShloMosaic.Lib.Layout
public import Idealize.ShloMosaic.Lib.ReduceAll

@[expose] public section

noncomputable section

namespace Cert.Agree

open Idealize.ShloMosaic Idealize.SL.Sem Idealize.ShloMosaic.ValueIdx
open Cert.ReferenceIdeal.Mine (Real' aX aW aK aO)

/-- An element whose absolute value compares below +∞ is real. -/
theorem real_of_lt (x : EReal) (h : FloatOps.cmpf (F := Ideal) (φ := .f32) .olt (FloatOps.hostAbsf (F := Ideal) (φ := .f32) x)
    (Ideal.ofBits .f32 0x7F800000#32) = 1#1) : Real' x := by
  rw [Cert.ReferenceIdeal.Mine.pos_inf] at h
  have h' : BitVec.ofBool (decide (max x (-x) < ⊤)) = 1#1 := h
  have hlt : max x (-x) < ⊤ := by
    by_contra hn
    rw [decide_eq_false hn] at h'
    exact absurd h' (by decide)
  obtain ⟨h1, h2⟩ := max_lt_iff.1 hlt
  refine ⟨x.toReal, (EReal.coe_toReal h1.ne fun e => ?_).symm⟩
  rw [e, EReal.neg_bot] at h2
  exact lt_irrefl _ h2

/-- The precondition says the inputs, the query weights and a device's keys are real. -/
theorem real_of_fn (x : Cert.Pre_finite_KernelIdeal.S2x512x768.Idx → EReal) (w : Cert.Pre_finite_KernelIdeal.S768x512.Idx → EReal)
    (k v : Cert.Pre_finite_KernelIdeal.S2x512x8x64.Idx → EReal) (o : Cert.Pre_finite_KernelIdeal.S512x768.Idx → EReal)
    (h : @Cert.Pre_finite_KernelIdeal.fn Cert.Pre_finite_KernelIdeal.Gen.facts Ideal _ x w k v o = fun _ => 1#1) :
    (∀ i, Real' (x i)) ∧ (∀ i, Real' (w i)) ∧ ∀ i, Real' (k i) := by
  have h0 := congrFun h (fun a => a.elim0)
  obtain ⟨h1, hk⟩ := IntOp.andi_eq_one.1 h0
  obtain ⟨hx, hw⟩ := IntOp.andi_eq_one.1 h1
  have : Subsingleton Cert.Pre_finite_KernelIdeal.S_.Idx := ⟨fun i j => funext fun a => a.elim0⟩
  exact ⟨fun i => real_of_lt _ (Host.reduce_andi_all _ _ _ _ _ hx i), fun i => real_of_lt _ (Host.reduce_andi_all _ _ _ _ _ hw i),
    fun i => real_of_lt _ (Host.reduce_andi_all _ _ _ _ _ hk i)⟩

/-- Where a block's element lies in the whole array. -/
theorem block_at (y : (⟨4, ![2, 4096, 8, 64]⟩ : Shape).Idx → EReal) (h : Layout.Tiles ⟨4, ![2, 512, 8, 64]⟩ ⟨4, ![2, 4096, 8, 64]⟩ 1 8)
    (c : Fin 8) (b : Fin 2) (j : Fin 512) (e : Fin 8) (k : Fin 64) :
    Layout.block ⟨4, ![2, 512, 8, 64]⟩ ⟨4, ![2, 4096, 8, 64]⟩ 1 8 c y h (ix4 b j e k)
      = y (ix4 b (⟨512 * c.val + j.val, by omega⟩ : Fin 4096) e k) := by
  rw [Layout.block_apply]
  refine congrArg y (funext fun a => Fin.ext ?_)
  match a with
  | ⟨0, _⟩ => rfl
  | ⟨1, _⟩ => show c.val * 512 + j.val = 512 * c.val + j.val; omega
  | ⟨2, _⟩ => rfl
  | ⟨3, _⟩ => rfl

/-- The claim. -/
theorem algebraic : @Cert.algebraic_KernelIdeal_ReferenceIdeal_pre_finite_KernelIdeal Cert.KernelIdeal.Gen.facts
    Cert.ReferenceIdeal.Gen.facts Cert.Pre_finite_KernelIdeal.Gen.facts := by
  intro m g m' g' hpre hargs
  have H : Cert.KernelIdeal.Mine.Held m
      (aX (m' (((0 : Dev Cert.ReferenceIdeal.nD).tc : Thread Cert.ReferenceIdeal.nD Cert.ReferenceIdeal.τ).loc Cert.ReferenceIdeal.main_arg0)))
      (aW (m' (((0 : Dev Cert.ReferenceIdeal.nD).tc : Thread Cert.ReferenceIdeal.nD Cert.ReferenceIdeal.τ).loc Cert.ReferenceIdeal.main_arg1)))
      (aK (m' (((0 : Dev Cert.ReferenceIdeal.nD).tc : Thread Cert.ReferenceIdeal.nD Cert.ReferenceIdeal.τ).loc Cert.ReferenceIdeal.main_arg2)))
      (aK (m' (((0 : Dev Cert.ReferenceIdeal.nD).tc : Thread Cert.ReferenceIdeal.nD Cert.ReferenceIdeal.τ).loc Cert.ReferenceIdeal.main_arg3)))
      (aO (m' (((0 : Dev Cert.ReferenceIdeal.nD).tc : Thread Cert.ReferenceIdeal.nD Cert.ReferenceIdeal.τ).loc Cert.ReferenceIdeal.main_arg4))) :=
    ⟨fun c b i k => congrFun (hargs c).1 _, fun c k e => congrFun (hargs c).2.1 _,
      fun c b j h k => (congrFun (hargs c).2.2.1 _).trans (block_at _ _ c b j h k),
      fun c b j h k => (congrFun (hargs c).2.2.2.1 _).trans (block_at _ _ c b j h k),
      fun c e n => congrFun (hargs c).2.2.2.2 _⟩
  have R := fun c : Fin 8 => real_of_fn _ _ _ _ _ (hpre c)
  have hX : ∀ i, Real' ((m' (((0 : Dev Cert.ReferenceIdeal.nD).tc : Thread Cert.ReferenceIdeal.nD Cert.ReferenceIdeal.τ).loc Cert.ReferenceIdeal.main_arg0) : Cert.ReferenceIdeal.S2x512x768.Idx → EReal) i) :=
    fun i => (congrArg Real' (congrFun (hargs 0).1 i)).mp ((R 0).1 i)
  have hW : ∀ i, Real' ((m' (((0 : Dev Cert.ReferenceIdeal.nD).tc : Thread Cert.ReferenceIdeal.nD Cert.ReferenceIdeal.τ).loc Cert.ReferenceIdeal.main_arg1) : Cert.ReferenceIdeal.S768x512.Idx → EReal) i) :=
    fun i => (congrArg Real' (congrFun (hargs 0).2.1 i)).mp ((R 0).2.1 i)
  have hK : ∀ i, Real' ((m' (((0 : Dev Cert.ReferenceIdeal.nD).tc : Thread Cert.ReferenceIdeal.nD Cert.ReferenceIdeal.τ).loc Cert.ReferenceIdeal.main_arg2) : Cert.ReferenceIdeal.S2x4096x8x64.Idx → EReal) i) := by
    intro i
    obtain ⟨b, j, h, k, rfl⟩ : ∃ (b : Fin 2) (j : Fin 4096) (h : Fin 8) (k : Fin 64), i = ix4 b j h k := ⟨i 0, i 1, i 2, i 3, eq_ix4 i⟩
    have hj : j = ⟨512 * (⟨j.val / 512, by omega⟩ : Fin 8).val + (⟨j.val % 512, by omega⟩ : Fin 512).val, by
      show 512 * (j.val / 512) + j.val % 512 < 4096; omega⟩ := Fin.ext (by show j.val = 512 * (j.val / 512) + j.val % 512; omega)
    have hr := (R ⟨j.val / 512, by omega⟩).2.2 (ix4 b (⟨j.val % 512, by omega⟩ : Fin 512) h k)
    rw [congrArg (fun j => ix4 b j h k) hj]
    exact (congrArg Real' (H.k _ b _ h k)).mp hr
  refine ⟨Cert.ReferenceIdeal.Value.res_main_v34 m' 0, ?_, ?_⟩
  · refine (θ_run Cert.KernelIdeal.defs _ _).mono (fun r hr c => ⟨(hr c).1.trans ?_, (hr c).2⟩) (Cert.KernelIdeal.Mine.value_runs m g)
    rw [Cert.ReferenceIdeal.Read.val_main_v34_eq]
    funext i
    obtain ⟨b, j, n, rfl⟩ : ∃ (b : Fin 2) (j : Fin 512) (n : Fin 768), i = ix3 b j n := ⟨i 0, i 1, i 2, eq_ix3 i⟩
    exact (Cert.KernelIdeal.Mine.OUTv m g H c b j n).trans (Cert.ReferenceIdeal.Mine.v34 _ _ _ _ _ hX hW hK b j n).symm
  · exact (θ_run Cert.ReferenceIdeal.defs _ _).mono (fun r hr => hr 0) (Cert.ReferenceIdeal.Value.run m' g')

end Cert.Agree

end
-- ==== Proof.lean ====
/-
  The claims: each program runs to its end, leaves its arguments as they were and every semaphore counter at zero; the
  ideal program is the kernel with its mask constant named; kernel and reference compute the same function.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.K.Post
public import proofs.«01_k».proof.Proof.KI.Post
public import proofs.«01_k».proof.Proof.Agree
public import Idealize.ShloMosaic.PureOps.IdealRules

@[expose] public section

noncomputable section

namespace Cert.Proof

open Idealize.ShloMosaic Idealize.SL.Sem

/-- The reference runs, leaves its arguments, and has no semaphore. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts,
    fun m g _ => Cert.Kernel.Mine.frame_runs m g,
    fun m g _ => Cert.KernelIdeal.Mine.frame_runs m g,
    fun m g _ => Cert.KernelIdeal.Mine.frame_runs m g,
    fun m g _ => reference_runs m g,
    fun m g _ => reference_runs m g,
    IdealRules.named_const.statement Cert.KernelIdeal.κ "mask" .f32 0xCE6E6B28#32 ⊥ rfl,
    Cert.Agree.algebraic⟩

end Cert.Proof

end
